-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "score_scale_log2e" .f32 0x3E0293EE#32 (((11863283 / 134217728) * (Real.log 2)⁻¹ : ℝ) : EReal)

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S4x512x20x128 : Shape := ⟨4, ![4, 512, 20, 128]⟩
abbrev S4x512x20 : Shape := ⟨3, ![4, 512, 20]⟩
abbrev S20x65x128 : Shape := ⟨3, ![20, 65, 128]⟩
abbrev S20x65 : Shape := ⟨2, ![20, 65]⟩
abbrev S_ : Shape := ⟨0, ![]⟩

class Facts : Prop where
  bcast_S_S4x512x20 : S_.BroadcastsInDim S4x512x20 (![] : Fin 0 → Fin S4x512x20.rank)
  reducesTo_S4x512x20_S_d0_1_2 : S4x512x20.ReducesTo [0, 1, 2] S_
  h_S_ : 0 < S_.numel
  bcast_S_S20x65 : S_.BroadcastsInDim S20x65 (![] : Fin 0 → Fin S20x65.rank)
  reducesTo_S20x65_S_d0_1 : S20x65.ReducesTo [0, 1] S_

variable [Facts]

def fn {F : FTy → Type} [FloatOps F] (main_arg0 : FVec F S4x512x20x128 .fp8e4m3) (main_arg1 : FVec F S4x512x20 .f32) (main_arg2 : FVec F S4x512x20x128 .fp8e4m3) (main_arg3 : FVec F S4x512x20 .f32) (main_arg4 : FVec F S4x512x20x128 .fp8e4m3) (main_arg5 : FVec F S4x512x20 .f32) (main_arg6 : IVec S20x65x128 8) (main_arg7 : FVec F S20x65 .f32) (main_arg8 : IVec S20x65x128 8) (main_arg9 : FVec F S20x65 .f32) : IVec S_ 1 :=
  let main_cst : FVec F S_ .f32 := constant S_ .f32 0x00000000#32
  let main_v0 : FVec F S4x512x20 .f32 := broadcastInDim S4x512x20 ![] bcast_S_S4x512x20 main_cst
  let main_v1 : IVec S4x512x20 1 := cmpf .ogt main_arg1 main_v0
  let main_cst_0 : FVec F S_ .f32 := constant S_ .f32 0x7F800000#32
  let main_v2 : FVec F S4x512x20 .f32 := broadcastInDim S4x512x20 ![] bcast_S_S4x512x20 main_cst_0
  let main_v3 : IVec S4x512x20 1 := cmpf .olt main_arg1 main_v2
  let main_v4 : IVec S4x512x20 1 := andi main_v1 main_v3
  let main_c : IVec S_ 1 := constantI S_ 1 1#1
  let main_v5 : IVec S_ 1 := (fun x v => Host.reduce IntOp.andi x v reducesTo_S4x512x20_S_d0_1_2 h_S_) main_v4 main_c
  let main_v6 : FVec F S4x512x20 .f32 := Host.absf main_arg3
  let main_cst_1 : FVec F S_ .f32 := constant S_ .f32 0x7F800000#32
  let main_v7 : FVec F S4x512x20 .f32 := broadcastInDim S4x512x20 ![] bcast_S_S4x512x20 main_cst_1
  let main_v8 : IVec S4x512x20 1 := cmpf .olt main_v6 main_v7
  let main_c_2 : IVec S_ 1 := constantI S_ 1 1#1
  let main_v9 : IVec S_ 1 := (fun x v => Host.reduce IntOp.andi x v reducesTo_S4x512x20_S_d0_1_2 h_S_) main_v8 main_c_2
  let main_v10 : IVec S_ 1 := andi main_v5 main_v9
  let main_v11 : FVec F S20x65 .f32 := Host.absf main_arg7
  let main_cst_3 : FVec F S_ .f32 := constant S_ .f32 0x7F800000#32
  let main_v12 : FVec F S20x65 .f32 := broadcastInDim S20x65 ![] bcast_S_S20x65 main_cst_3
  let main_v13 : IVec S20x65 1 := cmpf .olt main_v11 main_v12
  let main_c_4 : IVec S_ 1 := constantI S_ 1 1#1
  let main_v14 : IVec S_ 1 := (fun x v => Host.reduce IntOp.andi x v reducesTo_S20x65_S_d0_1 h_S_) main_v13 main_c_4
  let main_v15 : IVec S_ 1 := andi main_v10 main_v14
  main_v15
-- ==== Kernel.lean ====
abbrev S4x512x20x128 : Shape := ⟨4, ![4, 512, 20, 128]⟩
abbrev S4x512x20 : Shape := ⟨3, ![4, 512, 20]⟩
abbrev S20x65x128 : Shape := ⟨3, ![20, 65, 128]⟩
abbrev S20x65 : Shape := ⟨2, ![20, 65]⟩
abbrev S4x20x512x128 : Shape := ⟨4, ![4, 20, 512, 128]⟩
abbrev S20x4x512 : Shape := ⟨3, ![20, 4, 512]⟩
abbrev S4x512x2560 : Shape := ⟨3, ![4, 512, 2560]⟩
abbrev S20x1040x128 : Shape := ⟨3, ![20, 1040, 128]⟩
abbrev S4x1x512x128 : Shape := ⟨4, ![4, 1, 512, 128]⟩
abbrev S1x4x512 : Shape := ⟨3, ![1, 4, 512]⟩
abbrev S1x65x128 : Shape := ⟨3, ![1, 65, 128]⟩
abbrev S4x512x128 : Shape := ⟨3, ![4, 512, 128]⟩
abbrev S1x1040x128 : Shape := ⟨3, ![1, 1040, 128]⟩
abbrev S512x512 : Shape := ⟨2, ![512, 512]⟩
abbrev S80x128 : Shape := ⟨2, ![80, 128]⟩
abbrev S8x128 : Shape := ⟨2, ![8, 128]⟩
abbrev S128x64 : Shape := ⟨2, ![128, 64]⟩
abbrev S65x128 : Shape := ⟨2, ![65, 128]⟩
abbrev S64x128 : Shape := ⟨2, ![64, 128]⟩
abbrev S128x128 : Shape := ⟨2, ![128, 128]⟩
abbrev S128x256 : Shape := ⟨2, ![128, 256]⟩
abbrev S1x128 : Shape := ⟨2, ![1, 128]⟩
abbrev S1x65 : Shape := ⟨2, ![1, 65]⟩
abbrev S1x64 : Shape := ⟨2, ![1, 64]⟩
abbrev S8x64 : Shape := ⟨2, ![8, 64]⟩
abbrev S128 : Shape := ⟨1, ![128]⟩
abbrev S1x1 : Shape := ⟨2, ![1, 1]⟩
abbrev S128x80 : Shape := ⟨2, ![128, 80]⟩
abbrev S1x80 : Shape := ⟨2, ![1, 80]⟩
abbrev S4x512 : Shape := ⟨2, ![4, 512]⟩
abbrev S16x512 : Shape := ⟨2, ![16, 512]⟩
abbrev S1x1x512x128 : Shape := ⟨4, ![1, 1, 512, 128]⟩
abbrev S512x128 : Shape := ⟨2, ![512, 128]⟩
abbrev S128x512 : Shape := ⟨2, ![128, 512]⟩
abbrev S1x1x512 : Shape := ⟨3, ![1, 1, 512]⟩
abbrev S1x512 : Shape := ⟨2, ![1, 512]⟩
abbrev S1x1x128x128 : Shape := ⟨4, ![1, 1, 128, 128]⟩
abbrev S1x1x64x128 : Shape := ⟨4, ![1, 1, 64, 128]⟩
abbrev S256x128 : Shape := ⟨2, ![256, 128]⟩
abbrev S1x1x256x128 : Shape := ⟨4, ![1, 1, 256, 128]⟩
abbrev S256x256 : Shape := ⟨2, ![256, 256]⟩
abbrev S1x256 : Shape := ⟨2, ![1, 256]⟩
abbrev S1x1x256 : Shape := ⟨3, ![1, 1, 256]⟩
abbrev S8x128x1 : Shape := ⟨3, ![8, 128, 1]⟩
abbrev S16x128 : Shape := ⟨2, ![16, 128]⟩
abbrev S336x128 : Shape := ⟨2, ![336, 128]⟩
abbrev S336x256 : Shape := ⟨2, ![336, 256]⟩
abbrev S80x256 : Shape := ⟨2, ![80, 256]⟩
abbrev S1x128x128 : Shape := ⟨3, ![1, 128, 128]⟩
abbrev S1x64x128 : Shape := ⟨3, ![1, 64, 128]⟩
abbrev S1x8x128 : Shape := ⟨3, ![1, 8, 128]⟩
abbrev S1x1x128 : Shape := ⟨3, ![1, 1, 128]⟩
abbrev S512x256 : Shape := ⟨2, ![512, 256]⟩
abbrev S592x128 : Shape := ⟨2, ![592, 128]⟩
abbrev S592x256 : Shape := ⟨2, ![592, 256]⟩
abbrev S20x65x4x4x128 : Shape := ⟨5, ![20, 65, 4, 4, 128]⟩
abbrev S4x4x128x20x65 : Shape := ⟨5, ![4, 4, 128, 20, 65]⟩
abbrev S4x512x20x65 : Shape := ⟨4, ![4, 512, 20, 65]⟩

abbrev nBuf : Space → Nat
  | .hbm => 21
  | .vmem => 25
  | .smem => 0
  | _ => 0

abbrev bufTy : (tb : Table) → Fin (tcTables nBuf tb) → BufTy
  | .hbm, ⟨0, _⟩ => ⟨S4x512x20x128, .fp8e4m3⟩
  | .hbm, ⟨1, _⟩ => ⟨S4x512x20, .f32⟩
  | .hbm, ⟨2, _⟩ => ⟨S4x512x20x128, .fp8e4m3⟩
  | .hbm, ⟨3, _⟩ => ⟨S4x512x20, .f32⟩
  | .hbm, ⟨4, _⟩ => ⟨S4x512x20x128, .fp8e4m3⟩
  | .hbm, ⟨5, _⟩ => ⟨S4x512x20, .f32⟩
  | .hbm, ⟨6, _⟩ => ⟨S20x65x128, .i8⟩
  | .hbm, ⟨7, _⟩ => ⟨S20x65, .f32⟩
  | .hbm, ⟨8, _⟩ => ⟨S20x65x128, .i8⟩
  | .hbm, ⟨9, _⟩ => ⟨S20x65, .f32⟩
  | .hbm, ⟨10, _⟩ => ⟨S4x20x512x128, .fp8e4m3⟩
  | .hbm, ⟨11, _⟩ => ⟨S20x4x512, .f32⟩
  | .hbm, ⟨12, _⟩ => ⟨S4x20x512x128, .fp8e4m3⟩
  | .hbm, ⟨13, _⟩ => ⟨S20x4x512, .f32⟩
  | .hbm, ⟨14, _⟩ => ⟨S4x20x512x128, .fp8e4m3⟩
  | .hbm, ⟨15, _⟩ => ⟨S20x4x512, .f32⟩
  | .hbm, ⟨16, _⟩ => ⟨S4x512x2560, .bf16⟩
  | .hbm, ⟨17, _⟩ => ⟨S20x1040x128, .f32⟩
  | .hbm, ⟨18, _⟩ => ⟨S20x65x4x4x128, .f32⟩
  | .hbm, ⟨19, _⟩ => ⟨S4x4x128x20x65, .f32⟩
  | .hbm, ⟨20, _⟩ => ⟨S4x512x20x65, .f32⟩
  | .local _ .vmem, ⟨0, _⟩ => ⟨S4x1x512x128, .fp8e4m3⟩
  | .local _ .vmem, ⟨1, _⟩ => ⟨S4x1x512x128, .fp8e4m3⟩
  | .local _ .vmem, ⟨2, _⟩ => ⟨S1x4x512, .f32⟩
  | .local _ .vmem, ⟨3, _⟩ => ⟨S1x4x512, .f32⟩
  | .local _ .vmem, ⟨4, _⟩ => ⟨S4x1x512x128, .fp8e4m3⟩
  | .local _ .vmem, ⟨5, _⟩ => ⟨S4x1x512x128, .fp8e4m3⟩
  | .local _ .vmem, ⟨6, _⟩ => ⟨S1x4x512, .f32⟩
  | .local _ .vmem, ⟨7, _⟩ => ⟨S1x4x512, .f32⟩
  | .local _ .vmem, ⟨8, _⟩ => ⟨S4x1x512x128, .fp8e4m3⟩
  | .local _ .vmem, ⟨9, _⟩ => ⟨S4x1x512x128, .fp8e4m3⟩
  | .local _ .vmem, ⟨10, _⟩ => ⟨S1x4x512, .f32⟩
  | .local _ .vmem, ⟨11, _⟩ => ⟨S1x4x512, .f32⟩
  | .local _ .vmem, ⟨12, _⟩ => ⟨S1x65x128, .i8⟩
  | .local _ .vmem, ⟨13, _⟩ => ⟨S1x65x128, .i8⟩
  | .local _ .vmem, ⟨14, _⟩ => ⟨S20x65, .f32⟩
  | .local _ .vmem, ⟨15, _⟩ => ⟨S1x65x128, .i8⟩
  | .local _ .vmem, ⟨16, _⟩ => ⟨S1x65x128, .i8⟩
  | .local _ .vmem, ⟨17, _⟩ => ⟨S20x65, .f32⟩
  | .local _ .vmem, ⟨18, _⟩ => ⟨S4x512x128, .bf16⟩
  | .local _ .vmem, ⟨19, _⟩ => ⟨S4x512x128, .bf16⟩
  | .local _ .vmem, ⟨20, _⟩ => ⟨S1x1040x128, .f32⟩
  | .local _ .vmem, ⟨21, _⟩ => ⟨S1x1040x128, .f32⟩
  | .local _ .vmem, ⟨22, _⟩ => ⟨S512x512, .f32⟩
  | .local _ .vmem, ⟨23, _⟩ => ⟨S80x128, .f32⟩
  | .local _ .vmem, ⟨24, _⟩ => ⟨S8x128, .f32⟩
  | _, _ => ⟨S4x512x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let arg0 : BitVec 32 := BitVec.ofNat 32 (i 0).val
  let v28 : Index := Scalar.indexCast arg0
  let c0_7 : Index := 0#32
  ![v28.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x512x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x65x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S20x65 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x65x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S20x65 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1040x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "score_scale_log2e" => some (((11863283 / 134217728) * (Real.log 2)⁻¹ : ℝ) : EReal)
  | _ => none
-- ==== ReferenceIdeal.lean ====
abbrev S4x512x20x128 : Shape := ⟨4, ![4, 512, 20, 128]⟩
abbrev S4x512x20 : Shape := ⟨3, ![4, 512, 20]⟩
abbrev S20x65x128 : Shape := ⟨3, ![20, 65, 128]⟩
abbrev S20x65 : Shape := ⟨2, ![20, 65]⟩
abbrev S20x65x1 : Shape := ⟨3, ![20, 65, 1]⟩
abbrev S4x20x512 : Shape := ⟨3, ![4, 20, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S65 : Shape := ⟨1, ![65]⟩
abbrev S1x1x65 : Shape := ⟨3, ![1, 1, 65]⟩
abbrev S512x512x65 : Shape := ⟨3, ![512, 512, 65]⟩
abbrev S4x20x512x512 : Shape := ⟨4, ![4, 20, 512, 512]⟩
abbrev S20x65x4x512 : Shape := ⟨4, ![20, 65, 4, 512]⟩
abbrev S4x20x512x65 : Shape := ⟨4, ![4, 20, 512, 65]⟩
abbrev S1x20x1x65 : Shape := ⟨4, ![1, 20, 1, 65]⟩
abbrev S512x512x4x20 : Shape := ⟨4, ![512, 512, 4, 20]⟩
abbrev S4x20x1x512 : Shape := ⟨4, ![4, 20, 1, 512]⟩
abbrev S4x20x512x1 : Shape := ⟨4, ![4, 20, 512, 1]⟩
abbrev S1x1x512x512 : Shape := ⟨4, ![1, 1, 512, 512]⟩
abbrev S4x20x128x512 : Shape := ⟨4, ![4, 20, 128, 512]⟩
abbrev S512x65x4x20 : Shape := ⟨4, ![512, 65, 4, 20]⟩
abbrev S4x512x20x65 : Shape := ⟨4, ![4, 512, 20, 65]⟩
abbrev S20x128x4x512 : Shape := ⟨4, ![20, 128, 4, 512]⟩
abbrev S4x512x2560 : Shape := ⟨3, ![4, 512, 2560]⟩

abbrev nBuf : Space → Nat
  | .hbm => 97
  | .vmem => 10
  | .smem => 0
  | _ => 0

abbrev bufTy : (tb : Table) → Fin (tcTables nBuf tb) → BufTy
  | .hbm, ⟨0, _⟩ => ⟨S4x512x20x128, .fp8e4m3⟩
  | .hbm, ⟨1, _⟩ => ⟨S4x512x20, .f32⟩
  | .hbm, ⟨2, _⟩ => ⟨S4x512x20x128, .fp8e4m3⟩
  | .hbm, ⟨3, _⟩ => ⟨S4x512x20, .f32⟩
  | .hbm, ⟨4, _⟩ => ⟨S4x512x20x128, .fp8e4m3⟩
  | .hbm, ⟨5, _⟩ => ⟨S4x512x20, .f32⟩
  | .hbm, ⟨6, _⟩ => ⟨S20x65x128, .i8⟩
  | .hbm, ⟨7, _⟩ => ⟨S20x65, .f32⟩
  | .hbm, ⟨8, _⟩ => ⟨S20x65x128, .i8⟩
  | .hbm, ⟨9, _⟩ => ⟨S20x65, .f32⟩
  | .hbm, ⟨10, _⟩ => ⟨S4x512x20x128, .bf16⟩
  | .hbm, ⟨11, _⟩ => ⟨S4x512x20x128, .bf16⟩
  | .hbm, ⟨12, _⟩ => ⟨S4x512x20x128, .bf16⟩
  | .hbm, ⟨13, _⟩ => ⟨S20x65x128, .bf16⟩
  | .hbm, ⟨14, _⟩ => ⟨S20x65x128, .bf16⟩
  | .hbm, ⟨15, _⟩ => ⟨S20x65, .bf16⟩
  | .hbm, ⟨16, _⟩ => ⟨S20x65x1, .bf16⟩
  | .hbm, ⟨17, _⟩ => ⟨S20x65x128, .bf16⟩
  | .hbm, ⟨18, _⟩ => ⟨S20x65x128, .bf16⟩
  | .hbm, ⟨19, _⟩ => ⟨S4x20x512, .f32⟩
  | .hbm, ⟨20, _⟩ => ⟨S4x20x512, .f32⟩
  | .hbm, ⟨21, _⟩ => ⟨S4x20x512, .f32⟩
  | .hbm, ⟨22, _⟩ => ⟨S512, .i32⟩
  | .hbm, ⟨23, _⟩ => ⟨S512x1, .i32⟩
  | .hbm, ⟨24, _⟩ => ⟨S512, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512x1, .i1⟩
  | .hbm, ⟨36, _⟩ => ⟨S512x512x1, .i32⟩
  | .hbm, ⟨37, _⟩ => ⟨S65, .i32⟩
  | .hbm, ⟨38, _⟩ => ⟨S1x1x65, .i32⟩
  | .hbm, ⟨39, _⟩ => ⟨S512x512x65, .i32⟩
  | .hbm, ⟨40, _⟩ => ⟨S512x512x65, .i32⟩
  | .hbm, ⟨41, _⟩ => ⟨S512x512x65, .i1⟩
  | .hbm, ⟨42, _⟩ => ⟨S512x512x65, .i1⟩
  | .hbm, ⟨43, _⟩ => ⟨S512x512x65, .i1⟩
  | .hbm, ⟨44, _⟩ => ⟨S512x512x65, .f32⟩
  | .hbm, ⟨45, _⟩ => ⟨S4x20x512x512, .f32⟩
  | .hbm, ⟨46, _⟩ => ⟨S20x65x4x512, .f32⟩
  | .hbm, ⟨47, _⟩ => ⟨S4x20x512x65, .f32⟩
  | .hbm, ⟨48, _⟩ => ⟨S1x20x1x65, .f32⟩
  | .hbm, ⟨49, _⟩ => ⟨S4x20x512x65, .f32⟩
  | .hbm, ⟨50, _⟩ => ⟨S4x20x512x65, .f32⟩
  | .hbm, ⟨51, _⟩ => ⟨S512x512x4x20, .f32⟩
  | .hbm, ⟨52, _⟩ => ⟨S4x20x512x512, .f32⟩
  | .hbm, ⟨53, _⟩ => ⟨S4x20x1x512, .f32⟩
  | .hbm, ⟨54, _⟩ => ⟨S4x20x512x512, .f32⟩
  | .hbm, ⟨55, _⟩ => ⟨S4x20x512x512, .f32⟩
  | .hbm, ⟨56, _⟩ => ⟨S4x20x512x512, .f32⟩
  | .hbm, ⟨57, _⟩ => ⟨S4x20x512x1, .f32⟩
  | .hbm, ⟨58, _⟩ => ⟨S_, .f32⟩
  | .hbm, ⟨59, _⟩ => ⟨S4x20x512x1, .f32⟩
  | .hbm, ⟨60, _⟩ => ⟨S4x20x512x1, .f32⟩
  | .hbm, ⟨61, _⟩ => ⟨S4x20x512x512, .f32⟩
  | .hbm, ⟨62, _⟩ => ⟨S4x20x512x512, .f32⟩
  | .hbm, ⟨63, _⟩ => ⟨S1x1x512x512, .i1⟩
  | .hbm, ⟨64, _⟩ => ⟨S_, .f32⟩
  | .hbm, ⟨65, _⟩ => ⟨S_, .f32⟩
  | .hbm, ⟨66, _⟩ => ⟨S4x20x512x512, .i1⟩
  | .hbm, ⟨67, _⟩ => ⟨S4x20x512x512, .f32⟩
  | .hbm, ⟨68, _⟩ => ⟨S4x20x512x512, .f32⟩
  | .hbm, ⟨69, _⟩ => ⟨S_, .f32⟩
  | .hbm, ⟨70, _⟩ => ⟨S4x20x512, .f32⟩
  | .hbm, ⟨71, _⟩ => ⟨S4x20x512x1, .f32⟩
  | .hbm, ⟨72, _⟩ => ⟨S4x20x512x512, .f32⟩
  | .hbm, ⟨73, _⟩ => ⟨S4x20x512x512, .f32⟩
  | .hbm, ⟨74, _⟩ => ⟨S4x20x512x512, .f32⟩
  | .hbm, ⟨75, _⟩ => ⟨S_, .f32⟩
  | .hbm, ⟨76, _⟩ => ⟨S4x20x512, .f32⟩
  | .hbm, ⟨77, _⟩ => ⟨S4x20x512x1, .f32⟩
  | .hbm, ⟨78, _⟩ => ⟨S_, .f32⟩
  | .hbm, ⟨79, _⟩ => ⟨S4x20x512x1, .f32⟩
  | .hbm, ⟨80, _⟩ => ⟨S4x20x512x1, .f32⟩
  | .hbm, ⟨81, _⟩ => ⟨S4x20x512x512, .f32⟩
  | .hbm, ⟨82, _⟩ => ⟨S4x20x512x512, .f32⟩
  | .hbm, ⟨83, _⟩ => ⟨S4x20x1x512, .f32⟩
  | .hbm, ⟨84, _⟩ => ⟨S4x20x512x512, .f32⟩
  | .hbm, ⟨85, _⟩ => ⟨S4x20x512x512, .f32⟩
  | .hbm, ⟨86, _⟩ => ⟨S4x20x512x512, .bf16⟩
  | .hbm, ⟨87, _⟩ => ⟨S4x20x128x512, .f32⟩
  | .hbm, ⟨88, _⟩ => ⟨S4x512x20x128, .f32⟩
  | .hbm, ⟨89, _⟩ => ⟨S512x65x4x20, .f32⟩
  | .hbm, ⟨90, _⟩ => ⟨S4x512x20x65, .f32⟩
  | .hbm, ⟨91, _⟩ => ⟨S4x512x20x65, .bf16⟩
  | .hbm, ⟨92, _⟩ => ⟨S20x128x4x512, .f32⟩
  | .hbm, ⟨93, _⟩ => ⟨S4x512x20x128, .f32⟩
  | .hbm, ⟨94, _⟩ => ⟨S4x512x20x128, .f32⟩
  | .hbm, ⟨95, _⟩ => ⟨S4x512x20x128, .bf16⟩
  | .hbm, ⟨96, _⟩ => ⟨S4x512x2560, .bf16⟩
  | .local _ .vmem, ⟨0, _⟩ => ⟨S4x512x20x128, .fp8e4m3⟩
  | .local _ .vmem, ⟨1, _⟩ => ⟨S4x512x20x128, .fp8e4m3⟩
  | .local _ .vmem, ⟨2, _⟩ => ⟨S4x512x20x128, .fp8e4m3⟩
  | .local _ .vmem, ⟨3, _⟩ => ⟨S20x65x128, .i8⟩
  | .local _ .vmem, ⟨4, _⟩ => ⟨S20x65x128, .i8⟩
  | .local _ .vmem, ⟨5, _⟩ => ⟨S4x512x20x128, .bf16⟩
  | .local _ .vmem, ⟨6, _⟩ => ⟨S4x512x20x128, .bf16⟩
  | .local _ .vmem, ⟨7, _⟩ => ⟨S4x512x20x128, .bf16⟩
  | .local _ .vmem, ⟨8, _⟩ => ⟨S20x65x128, .bf16⟩
  | .local _ .vmem, ⟨9, _⟩ => ⟨S20x65x128, .bf16⟩
  | _, _ => ⟨S4x512x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_0 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v48 : Ref sig .tc := ⟨.hbm, 68, rfl⟩
abbrev main_cst_1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x20x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x20x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x65x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x65x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x20x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x20x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x20x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x65x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x65x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Run.lean ====
/- The kernel body's run on any staging buffers: what its stores leave in each output and scratch buffer. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 10, through which its contents are stated (`View.read_writes_of_cover`: the
    choice does not matter). -/
abbrev VO0_10 : View sig .tc .vmem S4x512x128 .bf16 := (Memref.whole cc0_stg10_0 : Memref sig .tc .vmem S4x512x128 .bf16).view
/-- One staging buffer of output window 11, through which its contents are stated (`View.read_writes_of_cover`: the
    choice does not matter). -/
abbrev VO0_11 : View sig .tc .vmem S1x1040x128 .f32 := (Memref.whole cc0_stg11_0 : Memref sig .tc .vmem S1x1040x128 .f32).view
/-- Each window's current staging memref at point `t`, spelled as the pipeline passes it (`bodyAt0`), and its wholeness. -/
abbrev ms0_0 (t : Fin cfg0.N) : Memref sig .tc .vmem S4x1x512x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x512x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1x512x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x65x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S20x65 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x65x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S20x65 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x512x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1040x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x512 .f32 := Memref.whole cc0_scratch0
abbrev scM0_1 : Memref sig .tc .vmem S80x128 .f32 := Memref.whole cc0_scratch1
abbrev scM0_2 : Memref sig .tc .vmem S8x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

section

variable (c : Dev nD) (i : grid0.Coords)
  (arg1 : Memref sig .tc .vmem S4x1x512x128 .fp8e4m3) (harg1 : arg1.IsWhole)
  (arg2 : Memref sig .tc .vmem S1x4x512 .f32) (harg2 : arg2.IsWhole)
  (arg3 : Memref sig .tc .vmem S4x1x512x128 .fp8e4m3) (harg3 : arg3.IsWhole)
  (arg4 : Memref sig .tc .vmem S1x4x512 .f32) (harg4 : arg4.IsWhole)
  (arg5 : Memref sig .tc .vmem S4x1x512x128 .fp8e4m3) (harg5 : arg5.IsWhole)
  (arg6 : Memref sig .tc .vmem S1x4x512 .f32) (harg6 : arg6.IsWhole)
  (arg7 : Memref sig .tc .vmem S1x65x128 .i8) (harg7 : arg7.IsWhole)
  (arg8 : Memref sig .tc .vmem S20x65 .f32) (harg8 : arg8.IsWhole)
  (arg9 : Memref sig .tc .vmem S1x65x128 .i8) (harg9 : arg9.IsWhole)
  (arg10 : Memref sig .tc .vmem S20x65 .f32) (harg10 : arg10.IsWhole)
  (arg11 : Memref sig .tc .vmem S4x512x128 .bf16) (harg11 : arg11.IsWhole)
  (arg12 : Memref sig .tc .vmem S1x1040x128 .f32) (harg12 : arg12.IsWhole)
  (arg13 : Memref sig .tc .vmem S512x512 .f32) (harg13 : arg13.IsWhole)
  (arg14 : Memref sig .tc .vmem S80x128 .f32) (harg14 : arg14.IsWhole)
  (arg15 : Memref sig .tc .vmem S8x128 .f32) (harg15 : arg15.IsWhole)
  (x0 : Vec F S4x1x512x128 .fp8e4m3)
  (x1 : Vec F S1x4x512 .f32)
  (x2 : Vec F S4x1x512x128 .fp8e4m3)
  (x3 : Vec F S1x4x512 .f32)
  (x4 : Vec F S4x1x512x128 .fp8e4m3)
  (x5 : Vec F S1x4x512 .f32)
  (x6 : Vec F S1x65x128 .i8)
  (x7 : Vec F S20x65 .f32)
  (x8 : Vec F S1x65x128 .i8)
  (x9 : Vec F S20x65 .f32)

-- (the run's proof term is large: the definition's epilogue — `abstractNestedProofs` — walks it past the default budget)
set_option maxHeartbeats 15112000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A :
    Σ' (L10 : List (View.Piece (Elt F) S4x512x128 .bf16)), Σ' (L11 : List (View.Piece (Elt F) S1x1040x128 .f32)), Σ' (LT0 : List (View.Piece (Elt F) S512x512 .f32)), Σ' (LT1 : List (View.Piece (Elt F) S80x128 .f32)), { LT2 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2)) -∗ K ⟨⟩))
          ⊢ wp frame (wpE (defs₀ (F := F)) Variants.none c none) E (cc0_relattn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_relattn_eq_skeleton]; unfold cc0_relattn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]; · iexists _; iexact HS0
    isplitl [HS1]; · iexists _; iexact HS1
    iexists _; iexact HS2

end

end Cert.Kernel.Body

end
-- ==== Proof.Rows.lean ====
/- Which rows the strided stores of the relative-weight output reach. A store of 8 rows at stride 16 starting at row
   `t + 128 q` (`t < 16`, `q < 8`) names rows `t + 16 (8 q + j)`; a store of one row at `1024 + t` names that row. Together
   they are all 1040 rows. -/
module

public import Idealize.ShloMosaic.Lib.Pipeline.Value

@[expose] public section

noncomputable section

namespace Cert.Rows

open Idealize.ShloMosaic

/-- The block of one head of the relative-weight output: 65 · 16 rows of 128 lanes. -/
abbrev W : Shape := ⟨3, ![1, 1040, 128]⟩

/-- A store's offset, size and stride on the three axes. -/
def geom (r : Rect W) : List ℕ × List ℕ × List ℕ :=
  (List.ofFn r.off, List.ofFn r.size, List.ofFn r.stride)

/-- The geometry of a store of 8 rows at stride 16 from row `o`. -/
abbrev eight (o : ℕ) : List ℕ × List ℕ × List ℕ := ([0, o, 0], [1, 8, 128], [1, 16, 1])
/-- The geometry of a store of the row `o`. -/
abbrev one (o : ℕ) : List ℕ × List ℕ × List ℕ := ([0, o, 0], [1, 1, 128], [1, 1, 1])

/-- The stores of one block of 128 queries, in order: the 64 near rows eight at a time, then the far row. -/
def blockStores (base : ℕ) : List (List ℕ × List ℕ × List ℕ) :=
  (List.range 8).map (fun g => eight (base + 128 * g)) ++ [one (base + 1024)]

/-- All the stores, in the order of the body: batch by batch, two blocks of a pair after another. -/
def allStores : List (List ℕ × List ℕ × List ℕ) :=
  (List.range 4).flatMap fun b => (List.range 4).flatMap fun q => blockStores (4 * q + b)

theorem eight_mem (t : ℕ) (ht : t < 16) (q : ℕ) (hq : q < 8) : eight (t + 128 * q) ∈ allStores.reverse := by
  rw [List.mem_reverse, allStores, List.mem_flatMap]
  refine ⟨t % 4, List.mem_range.2 (by omega), List.mem_flatMap.2 ⟨t / 4, List.mem_range.2 (by omega), ?_⟩⟩
  rw [show 4 * (t / 4) + t % 4 = t by omega]
  exact List.mem_append_left _ (List.mem_map.2 ⟨q, List.mem_range.2 hq, rfl⟩)
theorem one_mem (t : ℕ) (ht : t < 16) : one (t + 1024) ∈ allStores.reverse := by
  rw [List.mem_reverse, allStores, List.mem_flatMap]
  refine ⟨t % 4, List.mem_range.2 (by omega), List.mem_flatMap.2 ⟨t / 4, List.mem_range.2 (by omega), ?_⟩⟩
  rw [show 4 * (t / 4) + t % 4 = t by omega]
  exact List.mem_append_right _ (List.mem_singleton.2 rfl)

theorem geom_eq {r : Rect W} {o n s : ℕ} (h : geom r = ([0, o, 0], [1, n, 128], [1, s, 1])) :
    (r.off 0 = 0 ∧ r.off 1 = o ∧ r.off 2 = 0) ∧ (r.size 0 = 1 ∧ r.size 1 = n ∧ r.size 2 = 128)
      ∧ (r.stride 0 = 1 ∧ r.stride 1 = s ∧ r.stride 2 = 1) := by
  unfold geom at h
  simp only [Prod.mk.injEq] at h
  have e (f : Fin 3 → ℕ) : List.ofFn f = [f 0, f 1, f 2] := rfl
  obtain ⟨h1, h2, h3⟩ := h
  have h1' := (e r.off).symm.trans h1
  have h2' := (e r.size).symm.trans h2
  have h3' := (e r.stride).symm.trans h3
  simp only [List.cons.injEq, and_true] at h1' h2' h3'
  exact ⟨h1', h2', h3'⟩

/-- A store whose rows are `o, o + s, …` reaches row `o + s j`, at every lane. -/
theorem mem_of_geom {r : Rect W} {o n s : ℕ} (h : geom r = ([0, o, 0], [1, n, 128], [1, s, 1])) (y : W.Idx) (j : ℕ)
    (hj : j < n) (hy : (y 1 : ℕ) = o + s * j) : y ∈ r.set := by
  obtain ⟨⟨a0, a1, a2⟩, ⟨b0, b1, b2⟩, ⟨c0, c1, c2⟩⟩ := geom_eq h
  rw [LoadRect.mem_set]
  have y0 : (y 0 : ℕ) < 1 := (y 0).isLt
  have y2 : (y 2 : ℕ) < 128 := (y 2).isLt
  intro a
  match a with
  | ⟨0, _⟩ => exact ⟨0, by show 0 < r.size 0; omega, by show (y 0 : ℕ) = r.off 0 + r.stride 0 * 0; omega⟩
  | ⟨1, _⟩ => exact ⟨j, by show j < r.size 1; omega, by show (y 1 : ℕ) = r.off 1 + r.stride 1 * j; rw [a1, c1]; exact hy⟩
  | ⟨2, _⟩ => exact ⟨y 2, by show (y 2 : ℕ) < r.size 2; omega, by
      show (y 2 : ℕ) = r.off 2 + r.stride 2 * (y 2 : ℕ); rw [a2, c2]; omega⟩

/-- Pieces of these geometries cover the block. -/
theorem cover {Val : EltTy → Type} {e : EltTy} (L : List (View.Piece Val W e))
    (h : L.map (fun p => geom p.1) = allStores.reverse) (y : W.Idx) : ∃ p ∈ L, y ∈ p.1.set := by
  have y1 : (y 1 : ℕ) < 1040 := (y 1).isLt
  by_cases hy : (y 1 : ℕ) < 1024
  · have := eight_mem ((y 1 : ℕ) % 16) (by omega) ((y 1 : ℕ) / 128) (by omega)
    rw [← h, List.mem_map] at this
    obtain ⟨p, hp, hg⟩ := this
    exact ⟨p, hp, mem_of_geom hg y ((y 1 : ℕ) / 16 % 8) (by omega) (by omega)⟩
  · have := one_mem ((y 1 : ℕ) - 1024) (by omega)
    rw [← h, List.mem_map] at this
    obtain ⟨p, hp, hg⟩ := this
    exact ⟨p, hp, mem_of_geom hg y 0 (by omega) (by omega)⟩

end Cert.Rows

end
-- ==== Proof.Kernel.Frame.lean ====
/- The frame of the program: the stores cover both outputs, so the pipeline's run ends with the arguments unchanged
   and every array of the pipeline at the contents `dats` names. -/
module

public import proofs.«01_k».proof.Proof.Kernel.Run
public import proofs.«01_k».proof.Proof.Rows
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords)
  (arg1 : Memref sig .tc .vmem S4x1x512x128 .fp8e4m3) (harg1 : arg1.IsWhole)
  (arg2 : Memref sig .tc .vmem S1x4x512 .f32) (harg2 : arg2.IsWhole)
  (arg3 : Memref sig .tc .vmem S4x1x512x128 .fp8e4m3) (harg3 : arg3.IsWhole)
  (arg4 : Memref sig .tc .vmem S1x4x512 .f32) (harg4 : arg4.IsWhole)
  (arg5 : Memref sig .tc .vmem S4x1x512x128 .fp8e4m3) (harg5 : arg5.IsWhole)
  (arg6 : Memref sig .tc .vmem S1x4x512 .f32) (harg6 : arg6.IsWhole)
  (arg7 : Memref sig .tc .vmem S1x65x128 .i8) (harg7 : arg7.IsWhole)
  (arg8 : Memref sig .tc .vmem S20x65 .f32) (harg8 : arg8.IsWhole)
  (arg9 : Memref sig .tc .vmem S1x65x128 .i8) (harg9 : arg9.IsWhole)
  (arg10 : Memref sig .tc .vmem S20x65 .f32) (harg10 : arg10.IsWhole)
  (arg11 : Memref sig .tc .vmem S4x512x128 .bf16) (harg11 : arg11.IsWhole)
  (arg12 : Memref sig .tc .vmem S1x1040x128 .f32) (harg12 : arg12.IsWhole)
  (arg13 : Memref sig .tc .vmem S512x512 .f32) (harg13 : arg13.IsWhole)
  (arg14 : Memref sig .tc .vmem S80x128 .f32) (harg14 : arg14.IsWhole)
  (arg15 : Memref sig .tc .vmem S8x128 .f32) (harg15 : arg15.IsWhole)
  (x0 : Vec F S4x1x512x128 .fp8e4m3)
  (x1 : Vec F S1x4x512 .f32)
  (x2 : Vec F S4x1x512x128 .fp8e4m3)
  (x3 : Vec F S1x4x512 .f32)
  (x4 : Vec F S4x1x512x128 .fp8e4m3)
  (x5 : Vec F S1x4x512 .f32)
  (x6 : Vec F S1x65x128 .i8)
  (x7 : Vec F S20x65 .f32)
  (x8 : Vec F S1x65x128 .i8)
  (x9 : Vec F S20x65 .f32)

/-- The run's pieces for output 10 are of SEVERAL sizes (24 stores of `S1x128x128`, `S1x64x128`): cut into blocks of `![1, 64, 128]` they tile its block (checked by the kernel's evaluation: Lib/Ring.lean `Piece.tiledBy`), so they cover it. -/
theorem cover0_A_10 (y : S4x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 ![1, 64, 128] (by sl_kernel_rfl) y

/-- What the run leaves in output 10's staging buffer: its pieces read back over junk. -/
def out0_A_10 : Vec F S4x512x128 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1)

/-- The run's pieces for output 11 are the stores `Rows.allStores` lists (checked by the kernel's evaluation), so they cover its block. -/
theorem cover0_A_11 (y : S1x1040x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1, y ∈ pc.1.set :=
  Rows.cover (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1 (by sl_kernel_rfl) y

/-- What the run leaves in output 11's staging buffer: its pieces read back over junk. -/
def out0_A_11 : Vec F S1x1040x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1)

end

/-! ## What the outputs hold after each point -/

/-- What the outputs' staging buffers hold after the body at point `t` (as a tuple, in window order): the run's contents at
    the point's memrefs and input blocks. -/
def outsAt0 (c : Dev nD) (t : Fin cfg0.N) : Vec F S4x512x128 .bf16 × Vec F S1x1040x128 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t).1 := by dsimp only [dats]
theorem after0_11 (c : Dev nD) (t : Fin cfg0.N) : (dats m 0 c).after 11 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_10 out0_A_11; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, ⟨%e10, H10⟩, ⟨%e11, H11⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Body.facts, fun m ρ _ => Cert.Kernel.Body.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Body

end
-- ==== Proof.KernelIdeal.Run.lean ====
/- The kernel body's run on any staging buffers: what its stores leave in each output and scratch buffer. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 10, through which its contents are stated (`View.read_writes_of_cover`: the
    choice does not matter). -/
abbrev VO0_10 : View sig .tc .vmem S4x512x128 .bf16 := (Memref.whole cc0_stg10_0 : Memref sig .tc .vmem S4x512x128 .bf16).view
/-- One staging buffer of output window 11, through which its contents are stated (`View.read_writes_of_cover`: the
    choice does not matter). -/
abbrev VO0_11 : View sig .tc .vmem S1x1040x128 .f32 := (Memref.whole cc0_stg11_0 : Memref sig .tc .vmem S1x1040x128 .f32).view
/-- Each window's current staging memref at point `t`, spelled as the pipeline passes it (`bodyAt0`), and its wholeness. -/
abbrev ms0_0 (t : Fin cfg0.N) : Memref sig .tc .vmem S4x1x512x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x512x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1x512x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x65x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S20x65 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x65x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S20x65 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x512x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1040x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x512 .f32 := Memref.whole cc0_scratch0
abbrev scM0_1 : Memref sig .tc .vmem S80x128 .f32 := Memref.whole cc0_scratch1
abbrev scM0_2 : Memref sig .tc .vmem S8x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

section

variable (c : Dev nD) (i : grid0.Coords)
  (arg1 : Memref sig .tc .vmem S4x1x512x128 .fp8e4m3) (harg1 : arg1.IsWhole)
  (arg2 : Memref sig .tc .vmem S1x4x512 .f32) (harg2 : arg2.IsWhole)
  (arg3 : Memref sig .tc .vmem S4x1x512x128 .fp8e4m3) (harg3 : arg3.IsWhole)
  (arg4 : Memref sig .tc .vmem S1x4x512 .f32) (harg4 : arg4.IsWhole)
  (arg5 : Memref sig .tc .vmem S4x1x512x128 .fp8e4m3) (harg5 : arg5.IsWhole)
  (arg6 : Memref sig .tc .vmem S1x4x512 .f32) (harg6 : arg6.IsWhole)
  (arg7 : Memref sig .tc .vmem S1x65x128 .i8) (harg7 : arg7.IsWhole)
  (arg8 : Memref sig .tc .vmem S20x65 .f32) (harg8 : arg8.IsWhole)
  (arg9 : Memref sig .tc .vmem S1x65x128 .i8) (harg9 : arg9.IsWhole)
  (arg10 : Memref sig .tc .vmem S20x65 .f32) (harg10 : arg10.IsWhole)
  (arg11 : Memref sig .tc .vmem S4x512x128 .bf16) (harg11 : arg11.IsWhole)
  (arg12 : Memref sig .tc .vmem S1x1040x128 .f32) (harg12 : arg12.IsWhole)
  (arg13 : Memref sig .tc .vmem S512x512 .f32) (harg13 : arg13.IsWhole)
  (arg14 : Memref sig .tc .vmem S80x128 .f32) (harg14 : arg14.IsWhole)
  (arg15 : Memref sig .tc .vmem S8x128 .f32) (harg15 : arg15.IsWhole)
  (x0 : Vec F S4x1x512x128 .fp8e4m3)
  (x1 : Vec F S1x4x512 .f32)
  (x2 : Vec F S4x1x512x128 .fp8e4m3)
  (x3 : Vec F S1x4x512 .f32)
  (x4 : Vec F S4x1x512x128 .fp8e4m3)
  (x5 : Vec F S1x4x512 .f32)
  (x6 : Vec F S1x65x128 .i8)
  (x7 : Vec F S20x65 .f32)
  (x8 : Vec F S1x65x128 .i8)
  (x9 : Vec F S20x65 .f32)

-- (the run's proof term is large: the definition's epilogue — `abstractNestedProofs` — walks it past the default budget)
set_option maxHeartbeats 15112000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A :
    Σ' (L10 : List (View.Piece (Elt F) S4x512x128 .bf16)), Σ' (L11 : List (View.Piece (Elt F) S1x1040x128 .f32)), Σ' (LT0 : List (View.Piece (Elt F) S512x512 .f32)), Σ' (LT1 : List (View.Piece (Elt F) S80x128 .f32)), { LT2 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2)) -∗ K ⟨⟩))
          ⊢ wp frame (wpE (defs₀ (F := F)) Variants.none c none) E (cc0_relattn i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_relattn_eq_skeleton]; unfold cc0_relattn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]; · iexists _; iexact HS0
    isplitl [HS1]; · iexists _; iexact HS1
    iexists _; iexact HS2

end

end Cert.KernelIdeal.Body

end
-- ==== Proof.KernelIdeal.Frame.lean ====
/- The frame of the program: the stores cover both outputs, so the pipeline's run ends with the arguments unchanged
   and every array of the pipeline at the contents `dats` names. -/
module

public import proofs.«01_k».proof.Proof.KernelIdeal.Run
public import proofs.«01_k».proof.Proof.Rows
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords)
  (arg1 : Memref sig .tc .vmem S4x1x512x128 .fp8e4m3) (harg1 : arg1.IsWhole)
  (arg2 : Memref sig .tc .vmem S1x4x512 .f32) (harg2 : arg2.IsWhole)
  (arg3 : Memref sig .tc .vmem S4x1x512x128 .fp8e4m3) (harg3 : arg3.IsWhole)
  (arg4 : Memref sig .tc .vmem S1x4x512 .f32) (harg4 : arg4.IsWhole)
  (arg5 : Memref sig .tc .vmem S4x1x512x128 .fp8e4m3) (harg5 : arg5.IsWhole)
  (arg6 : Memref sig .tc .vmem S1x4x512 .f32) (harg6 : arg6.IsWhole)
  (arg7 : Memref sig .tc .vmem S1x65x128 .i8) (harg7 : arg7.IsWhole)
  (arg8 : Memref sig .tc .vmem S20x65 .f32) (harg8 : arg8.IsWhole)
  (arg9 : Memref sig .tc .vmem S1x65x128 .i8) (harg9 : arg9.IsWhole)
  (arg10 : Memref sig .tc .vmem S20x65 .f32) (harg10 : arg10.IsWhole)
  (arg11 : Memref sig .tc .vmem S4x512x128 .bf16) (harg11 : arg11.IsWhole)
  (arg12 : Memref sig .tc .vmem S1x1040x128 .f32) (harg12 : arg12.IsWhole)
  (arg13 : Memref sig .tc .vmem S512x512 .f32) (harg13 : arg13.IsWhole)
  (arg14 : Memref sig .tc .vmem S80x128 .f32) (harg14 : arg14.IsWhole)
  (arg15 : Memref sig .tc .vmem S8x128 .f32) (harg15 : arg15.IsWhole)
  (x0 : Vec F S4x1x512x128 .fp8e4m3)
  (x1 : Vec F S1x4x512 .f32)
  (x2 : Vec F S4x1x512x128 .fp8e4m3)
  (x3 : Vec F S1x4x512 .f32)
  (x4 : Vec F S4x1x512x128 .fp8e4m3)
  (x5 : Vec F S1x4x512 .f32)
  (x6 : Vec F S1x65x128 .i8)
  (x7 : Vec F S20x65 .f32)
  (x8 : Vec F S1x65x128 .i8)
  (x9 : Vec F S20x65 .f32)

/-- The run's pieces for output 10 are of SEVERAL sizes (24 stores of `S1x128x128`, `S1x64x128`): cut into blocks of `![1, 64, 128]` they tile its block (checked by the kernel's evaluation: Lib/Ring.lean `Piece.tiledBy`), so they cover it. -/
theorem cover0_A_10 (y : S4x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 ![1, 64, 128] (by sl_kernel_rfl) y

/-- What the run leaves in output 10's staging buffer: its pieces read back over junk. -/
def out0_A_10 : Vec F S4x512x128 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1)

/-- The run's pieces for output 11 are the stores `Rows.allStores` lists (checked by the kernel's evaluation), so they cover its block. -/
theorem cover0_A_11 (y : S1x1040x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1, y ∈ pc.1.set :=
  Rows.cover (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1 (by sl_kernel_rfl) y

/-- What the run leaves in output 11's staging buffer: its pieces read back over junk. -/
def out0_A_11 : Vec F S1x1040x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1)

end

/-! ## What the outputs hold after each point -/

/-- What the outputs' staging buffers hold after the body at point `t` (as a tuple, in window order): the run's contents at
    the point's memrefs and input blocks. -/
def outsAt0 (c : Dev nD) (t : Fin cfg0.N) : Vec F S4x512x128 .bf16 × Vec F S1x1040x128 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t).1 := by dsimp only [dats]
theorem after0_11 (c : Dev nD) (t : Fin cfg0.N) : (dats m 0 c).after 11 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_10 out0_A_11; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, ⟨%e10, H10⟩, ⟨%e11, H11⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Body.facts, fun m ρ _ => Cert.KernelIdeal.Body.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Body

end
-- ==== Proof.KernelIdeal.Tile.lean ====
/- The kernel body by name: one definition for each group of vector operations the body repeats for every pair of query
   blocks, over the values the group reads. Nothing is proved here; `Tile/…` modules read these at an index. -/
module

public import proofs.«01_k».proof.Proof.Gen.KernelIdeal.Skeleton

@[expose] public section

noncomputable section

namespace Cert.KernelIdeal.Tile

open Cert.KernelIdeal.Gen
open Idealize.ShloMosaic Idealize.SL.Sem

variable {F : FTy → Type} [FloatOps F] [Named F]

/-! ## Lane and row masks of one score tile -/

/-- The row (key) number of a tile. -/
def kr : IVec S128x128 32 := iota .tc S128x128 32 [0] iota_S128x128_d0_w32
/-- The lane (query) number of a tile of the first block of a pair. -/
def la : IVec S128x128 32 := iota .tc S128x128 32 [1] iota_S128x128_d1_w32
/-- The query of a lane in the second block of a pair, whose two halves are exchanged. -/
def lb : IVec S128x128 32 := andi (addi la (broadcast S128x128 64#32)) (broadcast S128x128 127#32)
/-- Diagonal tile: distance from 0 to 63. -/
def nearD (l : IVec S128x128 32) : IVec S128x128 1 := andi (cmpi .sge l kr) (cmpi .slt (subi l kr) (broadcast S128x128 64#32))
/-- Diagonal tile: distance at least 64. -/
def farD (l : IVec S128x128 32) : IVec S128x128 1 := cmpi .sge (subi l kr) (broadcast S128x128 64#32)
/-- Tile one block back: distance below 64. -/
def nearP (l : IVec S128x128 32) : IVec S128x128 1 := cmpi .sgt (subi kr l) (broadcast S128x128 64#32)

/-! ## Scores -/

/-- The two query blocks of a pair, one above the other. -/
def qab (qa qb : FVec F S128x128 .fp8e4m3) : FVec F S256x128 .fp8e4m3 :=
  concatenate S256x128 0 [⟨S128x128, qa⟩, ⟨S128x128, qb⟩] concatenates_S128x128_S128x128_S256x128_d0
/-- The second query block: its halves exchanged. -/
def qbOf (q1 q0 : FVec F S64x128 .fp8e4m3) : FVec F S128x128 .fp8e4m3 :=
  concatenate S128x128 0 [⟨S64x128, q1⟩, ⟨S64x128, q0⟩] concatenates_S64x128_S64x128_S128x128_d0
/-- The bias every far key shares. -/
def far (akf : FVec F S1x128 .bf16) (sfar : FVec F S1x1 .f32) (q : FVec F S256x128 .fp8e4m3) : FVec F S1x256 .f32 :=
  mulf (matmul dot_S1x128_S256x128_S1x256_1_1_0_0_n_n none akf q (constant S1x256 .f32 0x00000000#32))
    (broadcastTo S1x256 sfar broadcasts_S1x1_S1x256)
/-- The near biases of a pair, before the skew. -/
def nearBias (tab : FVec F S128x256 .bf16) (srow : FVec F S1x128 .f32) (qa qb : FVec F S128x128 .fp8e4m3) : FVec F S128x128 .f32 :=
  mulf (matmul dot_S128x256_S128x256_S128x128_1_1_0_0_n_n none
      (extf .bf16 (concatenate S128x256 1 [⟨S128x128, qa⟩, ⟨S128x128, qb⟩] concatenates_S128x128_S128x128_S128x256_d1) bitsLt_fp8e4m3_bf16)
      tab (constant S128x128 .f32 0x00000000#32))
    (broadcastTo S128x128 srow broadcasts_S1x128_S128x128)
/-- The near biases of a pair, skewed so that row `k`, lane `l` holds the bias of that key for that query. -/
def xb (n : FVec F S128x128 .f32) : FVec F S128x128 .f32 :=
  transpose S128x128 [1, 0] (dynamicRotate 1 65#32 (some (1, 0)) n rotates_S128x128_d1s1a0) transposes_S128x128_p1_0_S128x128
/-- The factor of the exponent of the queries of a pair. -/
def cc (qs : FVec F S1x256 .f32) : FVec F S1x256 .f32 :=
  mulf qs (broadcast S1x256 (Named.named κ "score_scale_log2e" 0x3E0293EE#32))
/-- The lanes of the first block. -/
def lane0 (x : FVec F S1x256 .f32) : FVec F S1x128 .f32 := extractStridedSlice S1x128 ![0, 0] x slices_S1x256_o0_0_S1x128
/-- The lanes of the second block. -/
def lane1 (x : FVec F S1x256 .f32) : FVec F S1x128 .f32 := extractStridedSlice S1x128 ![0, 128] x slices_S1x256_o0_128_S1x128
/-- A row with its halves exchanged. -/
def rot64 (x : FVec F S1x128 .f32) : FVec F S1x128 .f32 := dynamicRotate 1 64#32 none x rotates_S1x128_d1
/-- One row on every row of a tile. -/
def rows (x : FVec F S1x128 .f32) : FVec F S128x128 .f32 := broadcastTo S128x128 x broadcasts_S1x128_S128x128
/-- One row on every row of a tile, through a cast to its own shape. -/
def rowsC (x : FVec F S1x128 .f32) : FVec F S128x128 .f32 :=
  broadcastTo S128x128 (shapeCast S1x128 x shapeCasts_S1x128_S1x128) broadcasts_S1x128_S128x128
/-- The all-zero tile. -/
def zt : FVec F S128x128 .f32 := broadcast S128x128 (Scalar.ofBits .f32 0x00000000#32)
/-- Scores of the tile on the diagonal: keys after the query are at minus infinity. -/
def diagT (l : IVec S128x128 32) (st kb b : FVec F S128x128 .f32) (fr : FVec F S1x128 .f32) : FVec F S128x128 .f32 :=
  addf (mulf st kb) (select (nearD l) b (select (farD l) (rowsC fr) (broadcast S128x128 (Scalar.ofBits .f32 0xFF800000#32))))
/-- Scores of the tile one block back. -/
def prevT (l : IVec S128x128 32) (st kb b : FVec F S128x128 .f32) (fr : FVec F S1x128 .f32) : FVec F S128x128 .f32 :=
  addf (mulf st kb) (select (nearP l) b (rowsC fr))
/-- Scores of a tile further back. -/
def farT (st kb : FVec F S128x128 .f32) (fr : FVec F S1x128 .f32) : FVec F S128x128 .f32 := addf (mulf st kb) (rows fr)
/-- The largest score of each query. -/
def colMax (x : FVec F S128x128 .f32) : FVec F S1x128 .f32 :=
  shapeCast S1x128 (multiReduction .maximumf [0] S128 x 0xFF800000#32 reduces_S128x128_S128 (.inl rfl) rfl) shapeCasts_S128_S1x128
/-- The sum down each lane. -/
def colSum (x : FVec F S128x128 .f32) : FVec F S1x128 .f32 :=
  shapeCast S1x128 (multiReduction .add [0] S128 x 0x00000000#32 reduces_S128x128_S128 (.inl rfl) rfl) shapeCasts_S128_S1x128
/-- The sum down each lane of 64 rows. -/
def colSum64 (x : FVec F S64x128 .f32) : FVec F S1x128 .f32 :=
  shapeCast S1x128 (multiReduction .add [0] S128 x 0x00000000#32 reduces_S64x128_S128 (.inl rfl) rfl) shapeCasts_S128_S1x128
/-- The exponentials of one tile. -/
def eT (t : FVec F S128x128 .f32) (mx c : FVec F S1x128 .f32) : FVec F S128x128 .f32 := exp2 (mulf (subf t (rows mx)) (rows c))
/-- Far weights of the tile on the diagonal. -/
def accD (l : IVec S128x128 32) (acc e : FVec F S128x128 .f32) : FVec F S128x128 .f32 := addf acc (select (farD l) e zt)
/-- Far weights of the tile one block back. -/
def accP (l : IVec S128x128 32) (acc e : FVec F S128x128 .f32) : FVec F S128x128 .f32 := addf acc (select (nearP l) zt e)

/-! ## Gathering the near weights by distance -/

/-- Row numbers backwards. -/
def rev8 : IVec S8x128 32 := subi (broadcast S8x128 7#32) (iota .tc S8x128 32 [0] iota_S8x128_d0_w32)
/-- Those row numbers, as the gather reads them. -/
def revIx : IVec S8x128 32 :=
  shapeCast S8x128 (shapeCast S8x128x1 (select (cmpi .slt rev8 (broadcast S8x128 0#32)) (addi rev8 (broadcast S8x128 8#32)) rev8)
    shapeCasts_S8x128_S8x128x1) shapeCasts_S8x128x1_S8x128
/-- Eight rows, backwards. -/
def flipRows (off : Fin 2 → ℕ) (h : S128x128.Slices off S8x128) (x : FVec F S128x128 .f32) : FVec F S8x128 .f32 :=
  dynamicGather 0 (extractStridedSlice S8x128 off x h) revIx
/-- A tile with its rows backwards. -/
def flip (x : FVec F S128x128 .f32) : FVec F S128x128 .f32 :=
  concatenate S128x128 0 [⟨S8x128, flipRows ![120, 0] slices_S128x128_o120_0_S8x128 x⟩,
    ⟨S8x128, flipRows ![112, 0] slices_S128x128_o112_0_S8x128 x⟩,
    ⟨S8x128, flipRows ![104, 0] slices_S128x128_o104_0_S8x128 x⟩,
    ⟨S8x128, flipRows ![96, 0] slices_S128x128_o96_0_S8x128 x⟩,
    ⟨S8x128, flipRows ![88, 0] slices_S128x128_o88_0_S8x128 x⟩,
    ⟨S8x128, flipRows ![80, 0] slices_S128x128_o80_0_S8x128 x⟩,
    ⟨S8x128, flipRows ![72, 0] slices_S128x128_o72_0_S8x128 x⟩,
    ⟨S8x128, flipRows ![64, 0] slices_S128x128_o64_0_S8x128 x⟩,
    ⟨S8x128, flipRows ![56, 0] slices_S128x128_o56_0_S8x128 x⟩,
    ⟨S8x128, flipRows ![48, 0] slices_S128x128_o48_0_S8x128 x⟩,
    ⟨S8x128, flipRows ![40, 0] slices_S128x128_o40_0_S8x128 x⟩,
    ⟨S8x128, flipRows ![32, 0] slices_S128x128_o32_0_S8x128 x⟩,
    ⟨S8x128, flipRows ![24, 0] slices_S128x128_o24_0_S8x128 x⟩,
    ⟨S8x128, flipRows ![16, 0] slices_S128x128_o16_0_S8x128 x⟩,
    ⟨S8x128, flipRows ![8, 0] slices_S128x128_o8_0_S8x128 x⟩,
    ⟨S8x128, flipRows ![0, 0] slices_S128x128_o0_0_S8x128 x⟩]
    concatenates_S8x128_S8x128_S8x128_S8x128_S8x128_S8x128_S8x128_S8x128_S8x128_S8x128_S8x128_S8x128_S8x128_S8x128_S8x128_S8x128_S128x128_d0
/-- Row `x`, lane `l`: the weight in lane `l` of the key `x` rows before it. -/
def skew (x : FVec F S128x128 .f32) : FVec F S128x128 .f32 :=
  transpose S128x128 [1, 0] (dynamicRotate 1 1#32 (some (1, 0))
    (transpose S128x128 [1, 0] (flip x) transposes_S128x128_p1_0_S128x128) rotates_S128x128_d1s1a0) transposes_S128x128_p1_0_S128x128
/-- Near weights of the first block. -/
def wn0 (y : FVec F S128x128 .f32) : FVec F S64x128 .f32 := extractStridedSlice S64x128 ![0, 0] y slices_S128x128_o0_0_S64x128
/-- Near weights of the second block. -/
def wn1 (y : FVec F S128x128 .f32) : FVec F S64x128 .f32 := extractStridedSlice S64x128 ![64, 0] y slices_S128x128_o64_0_S64x128
/-- One over the sum of all weights of a query. -/
def inv (fs : FVec F S1x128 .f32) (wn : FVec F S64x128 .f32) : FVec F S1x128 .f32 :=
  divf (broadcast S1x128 (Scalar.ofBits .f32 0x3F800000#32)) (addf fs (colSum64 wn))
/-- The far weight in the first of sixteen rows, zero in the others. -/
def tail (fs : FVec F S1x128 .f32) : FVec F S16x128 .f32 :=
  select (cmpi .eq (iota .tc S16x128 32 [0] iota_S16x128_d0_w32) (broadcast S16x128 0#32))
    (broadcastTo S16x128 (shapeCast S1x128 fs shapeCasts_S1x128_S1x128) broadcasts_S1x128_S16x128)
    (broadcast S16x128 (Scalar.ofBits .f32 0x00000000#32))
/-- The values of all keys times their scales, transposed. -/
def vtOf (v : FVec F S512x128 .fp8e4m3) (vs : FVec F S1x512 .f32) : FVec F S128x512 .bf16 :=
  truncf .bf16 (mulf (extf .f32 (transpose S128x512 [1, 0] (extf .bf16 v bitsLt_fp8e4m3_bf16) transposes_S512x128_p1_0_S128x512) bitsLt_bf16_f32)
    (broadcastTo S128x512 vs broadcasts_S1x512_S128x512)) bitsLt_bf16_f32
/-- A tile of weights, for the product with the values. -/
def bf (x : FVec F S128x128 .f32) : FVec F S128x128 .bf16 := truncf .bf16 x bitsLt_bf16_f32
/-- The tile of weights no key of which is visible. -/
def zb : FVec F S128x128 .bf16 := broadcast S128x128 (Scalar.ofBits .bf16 0x0000#16)
/-- Normalise, and put queries on rows. -/
def fin (o : FVec F S128x256 .f32) (i0 i1 : FVec F S1x128 .f32) : FVec F S256x128 .bf16 :=
  transpose S256x128 [1, 0] (truncf .bf16 (mulf o (broadcastTo S128x256
    (concatenate S1x256 1 [⟨S1x128, i0⟩, ⟨S1x128, i1⟩] concatenates_S1x128_S1x128_S1x256_d1) broadcasts_S1x256_S128x256)) bitsLt_bf16_f32)
    transposes_S128x256_p1_0_S256x128

/-! ## The first pair of query blocks: 256 keys -/

/-- Columns of the first pair: two tiles of weights, the near weights, the far weight. -/
def rhsA (p0 p1 : FVec F S128x128 .bf16) (wn : FVec F S64x128 .f32) (fs : FVec F S1x128 .f32) : FVec F S336x128 .bf16 :=
  concatenate S336x128 0 [⟨S256x128, concatenate S256x128 0 [⟨S128x128, p0⟩, ⟨S128x128, p1⟩] concatenates_S128x128_S128x128_S256x128_d0⟩,
    ⟨S64x128, truncf .bf16 wn bitsLt_bf16_f32⟩, ⟨S16x128, truncf .bf16 (tail fs) bitsLt_bf16_f32⟩] concatenates_S256x128_S64x128_S16x128_S336x128_d0
/-- The product of the first pair with the values. -/
def dotA (vt : FVec F S128x512 .bf16) (avt : FVec F S128x80 .bf16) (r0 r1 : FVec F S336x128 .bf16) : FVec F S128x256 .f32 :=
  addf (matmul dot_S128x256_S256x256_S128x256_1_0_0_1_n_n none (extractStridedSlice S128x256 ![0, 0] vt slices_S128x512_o0_0_S128x256)
      (extractStridedSlice S256x256 ![0, 0] (concatenate S336x256 1 [⟨S336x128, r0⟩, ⟨S336x128, r1⟩] concatenates_S336x128_S336x128_S336x256_d1)
        slices_S336x256_o0_0_S256x256) (constant S128x256 .f32 0x00000000#32))
    (matmul dot_S128x80_S80x256_S128x256_1_0_0_1_n_n none avt
      (extractStridedSlice S80x256 ![256, 0] (concatenate S336x256 1 [⟨S336x128, r0⟩, ⟨S336x128, r1⟩] concatenates_S336x128_S336x128_S336x256_d1)
        slices_S336x256_o256_0_S80x256) (constant S128x256 .f32 0x00000000#32))

/-- Query times key, the first pair. -/
def stA (k : FVec F S256x128 .fp8e4m3) (q : FVec F S256x128 .fp8e4m3) : FVec F S256x256 .f32 :=
  matmul dot_S256x128_S256x128_S256x256_1_1_0_0_n_n none k q (constant S256x256 .f32 0x00000000#32)

/-! ## The second pair of query blocks: 512 keys -/

/-- Columns of the second pair: four tiles of weights, the near weights, the far weight. -/
def rhsB (p0 p1 p2 p3 : FVec F S128x128 .bf16) (wn : FVec F S64x128 .f32) (fs : FVec F S1x128 .f32) : FVec F S592x128 .bf16 :=
  concatenate S592x128 0 [⟨S512x128, concatenate S512x128 0 [⟨S128x128, p0⟩, ⟨S128x128, p1⟩, ⟨S128x128, p2⟩, ⟨S128x128, p3⟩]
      concatenates_S128x128_S128x128_S128x128_S128x128_S512x128_d0⟩,
    ⟨S64x128, truncf .bf16 wn bitsLt_bf16_f32⟩, ⟨S16x128, truncf .bf16 (tail fs) bitsLt_bf16_f32⟩] concatenates_S512x128_S64x128_S16x128_S592x128_d0
/-- The product of the second pair with the values. -/
def dotB (vt : FVec F S128x512 .bf16) (avt : FVec F S128x80 .bf16) (r0 r1 : FVec F S592x128 .bf16) : FVec F S128x256 .f32 :=
  addf (matmul dot_S128x512_S512x256_S128x256_1_0_0_1_n_n none vt
      (extractStridedSlice S512x256 ![0, 0] (concatenate S592x256 1 [⟨S592x128, r0⟩, ⟨S592x128, r1⟩] concatenates_S592x128_S592x128_S592x256_d1)
        slices_S592x256_o0_0_S512x256) (constant S128x256 .f32 0x00000000#32))
    (matmul dot_S128x80_S80x256_S128x256_1_0_0_1_n_n none avt
      (extractStridedSlice S80x256 ![512, 0] (concatenate S592x256 1 [⟨S592x128, r0⟩, ⟨S592x128, r1⟩] concatenates_S592x128_S592x128_S592x256_d1)
        slices_S592x256_o512_0_S80x256) (constant S128x256 .f32 0x00000000#32))
/-- Query times key, the second pair. -/
def stB (k : FVec F S512x128 .fp8e4m3) (q : FVec F S256x128 .fp8e4m3) : FVec F S512x256 .f32 :=
  matmul dot_S512x128_S256x128_S512x256_1_1_0_0_n_n none k q (constant S512x256 .f32 0x00000000#32)

/-- What a unit of the body reads: the common tables and the blocks of one batch and one pair. -/
structure In (F : FTy → Type) where
  /-- The near bias table. -/
  tab : FVec F S128x256 .bf16
  /-- The far bias row. -/
  akf : FVec F S1x128 .bf16
  /-- The near bias scales. -/
  srow : FVec F S1x128 .f32
  /-- The far bias scale. -/
  sfar : FVec F S1x1 .f32
  /-- The first query block. -/
  qa : FVec F S128x128 .fp8e4m3
  /-- The second query block, later half. -/
  q1 : FVec F S64x128 .fp8e4m3
  /-- The second query block, earlier half. -/
  q0 : FVec F S64x128 .fp8e4m3
  /-- The query scales. -/
  qs : FVec F S1x256 .f32
  /-- The key scales, one copy per lane, by tile. -/
  kb : Fin 4 → FVec F S128x128 .f32

namespace In
variable (I : In F)
/-- The second query block. -/
def qb : FVec F S128x128 .fp8e4m3 := qbOf I.q1 I.q0
/-- Both query blocks. -/
def q : FVec F S256x128 .fp8e4m3 := qab I.qa I.qb
/-- The far bias of the first block. -/
def fr0 : FVec F S1x128 .f32 := lane0 (far I.akf I.sfar I.q)
/-- The far bias of the second block. -/
def fr1 : FVec F S1x128 .f32 := lane1 (far I.akf I.sfar I.q)
/-- The near bias. -/
def b : FVec F S128x128 .f32 := xb (nearBias I.tab I.srow I.qa I.qb)
/-- The exponent's factor in the first block. -/
def c0 : FVec F S1x128 .f32 := lane0 (cc I.qs)
/-- The exponent's factor in the second block. -/
def c1 : FVec F S1x128 .f32 := rot64 (lane1 (cc I.qs))

/-! ### The first pair -/
/-- Scores: first block, diagonal. -/
def a00 (k : FVec F S256x128 .fp8e4m3) : FVec F S128x128 .f32 :=
  diagT la (extractStridedSlice S128x128 ![0, 0] (stA k I.q) slices_S256x256_o0_0_S128x128) (I.kb 0) I.b I.fr0
/-- Scores: second block, one back. -/
def a10 (k : FVec F S256x128 .fp8e4m3) : FVec F S128x128 .f32 :=
  prevT lb (extractStridedSlice S128x128 ![0, 128] (stA k I.q) slices_S256x256_o0_128_S128x128) (I.kb 0) I.b I.fr1
/-- Scores: second block, diagonal. -/
def a11 (k : FVec F S256x128 .fp8e4m3) : FVec F S128x128 .f32 :=
  diagT lb (extractStridedSlice S128x128 ![128, 128] (stA k I.q) slices_S256x256_o128_128_S128x128) (I.kb 1) I.b I.fr1
/-- Exponentials: first block, diagonal. -/
def eA00 (k : FVec F S256x128 .fp8e4m3) : FVec F S128x128 .f32 := eT (I.a00 k) (colMax (I.a00 k)) I.c0
/-- Exponentials: second block, one back. -/
def eA10 (k : FVec F S256x128 .fp8e4m3) : FVec F S128x128 .f32 := eT (I.a10 k) (colMax (maximumf (I.a10 k) (I.a11 k))) I.c1
/-- Exponentials: second block, diagonal. -/
def eA11 (k : FVec F S256x128 .fp8e4m3) : FVec F S128x128 .f32 := eT (I.a11 k) (colMax (maximumf (I.a10 k) (I.a11 k))) I.c1
/-- Far weight, first block. -/
def fA0 (k : FVec F S256x128 .fp8e4m3) : FVec F S1x128 .f32 := colSum (accD la zt (I.eA00 k))
/-- Far weight, second block. -/
def fA1 (k : FVec F S256x128 .fp8e4m3) : FVec F S1x128 .f32 := colSum (accD lb (accP lb zt (I.eA10 k)) (I.eA11 k))
/-- All near weights, by key and lane. -/
def xwA (k : FVec F S256x128 .fp8e4m3) : FVec F S128x128 .f32 :=
  select (nearD lb) (I.eA11 k) (select (nearP lb) (I.eA10 k) (select (nearD la) (I.eA00 k) zt))
/-- Near weights by distance, first block. -/
def wA0 (k : FVec F S256x128 .fp8e4m3) : FVec F S64x128 .f32 := wn0 (skew (I.xwA k))
/-- Near weights by distance, second block. -/
def wA1 (k : FVec F S256x128 .fp8e4m3) : FVec F S64x128 .f32 := wn1 (skew (I.xwA k))
/-- The output rows of the first pair. -/
def oA (vt : FVec F S128x512 .bf16) (avt : FVec F S128x80 .bf16) (k : FVec F S256x128 .fp8e4m3) : FVec F S256x128 .bf16 :=
  fin (dotA vt avt (rhsA (bf (I.eA00 k)) zb (I.wA0 k) (I.fA0 k)) (rhsA (bf (I.eA10 k)) (bf (I.eA11 k)) (I.wA1 k) (I.fA1 k)))
    (inv (I.fA0 k) (I.wA0 k)) (inv (I.fA1 k) (I.wA1 k))

/-! ### The second pair -/
/-- Scores: first block, two back. -/
def b00 (k : FVec F S512x128 .fp8e4m3) : FVec F S128x128 .f32 :=
  farT (extractStridedSlice S128x128 ![0, 0] (stB k I.q) slices_S512x256_o0_0_S128x128) (I.kb 0) I.fr0
/-- Scores: first block, one back. -/
def b01 (k : FVec F S512x128 .fp8e4m3) : FVec F S128x128 .f32 :=
  prevT la (extractStridedSlice S128x128 ![128, 0] (stB k I.q) slices_S512x256_o128_0_S128x128) (I.kb 1) I.b I.fr0
/-- Scores: first block, diagonal. -/
def b02 (k : FVec F S512x128 .fp8e4m3) : FVec F S128x128 .f32 :=
  diagT la (extractStridedSlice S128x128 ![256, 0] (stB k I.q) slices_S512x256_o256_0_S128x128) (I.kb 2) I.b I.fr0
/-- Scores: second block, three back. -/
def b10 (k : FVec F S512x128 .fp8e4m3) : FVec F S128x128 .f32 :=
  farT (extractStridedSlice S128x128 ![0, 128] (stB k I.q) slices_S512x256_o0_128_S128x128) (I.kb 0) I.fr1
/-- Scores: second block, two back. -/
def b11 (k : FVec F S512x128 .fp8e4m3) : FVec F S128x128 .f32 :=
  farT (extractStridedSlice S128x128 ![128, 128] (stB k I.q) slices_S512x256_o128_128_S128x128) (I.kb 1) I.fr1
/-- Scores: second block, one back. -/
def b12 (k : FVec F S512x128 .fp8e4m3) : FVec F S128x128 .f32 :=
  prevT lb (extractStridedSlice S128x128 ![256, 128] (stB k I.q) slices_S512x256_o256_128_S128x128) (I.kb 2) I.b I.fr1
/-- Scores: second block, diagonal. -/
def b13 (k : FVec F S512x128 .fp8e4m3) : FVec F S128x128 .f32 :=
  diagT lb (extractStridedSlice S128x128 ![384, 128] (stB k I.q) slices_S512x256_o384_128_S128x128) (I.kb 3) I.b I.fr1
/-- Largest scores, first block. -/
def mB0 (k : FVec F S512x128 .fp8e4m3) : FVec F S1x128 .f32 := colMax (maximumf (maximumf (I.b00 k) (I.b01 k)) (I.b02 k))
/-- Largest scores, second block. -/
def mB1 (k : FVec F S512x128 .fp8e4m3) : FVec F S1x128 .f32 :=
  colMax (maximumf (maximumf (maximumf (I.b10 k) (I.b11 k)) (I.b12 k)) (I.b13 k))
/-- Exponentials of the tiles. -/
def eB00 (k : FVec F S512x128 .fp8e4m3) : FVec F S128x128 .f32 := eT (I.b00 k) (I.mB0 k) I.c0
/-- First block, one back. -/
def eB01 (k : FVec F S512x128 .fp8e4m3) : FVec F S128x128 .f32 := eT (I.b01 k) (I.mB0 k) I.c0
/-- First block, diagonal. -/
def eB02 (k : FVec F S512x128 .fp8e4m3) : FVec F S128x128 .f32 := eT (I.b02 k) (I.mB0 k) I.c0
/-- Second block, three back. -/
def eB10 (k : FVec F S512x128 .fp8e4m3) : FVec F S128x128 .f32 := eT (I.b10 k) (I.mB1 k) I.c1
/-- Second block, two back. -/
def eB11 (k : FVec F S512x128 .fp8e4m3) : FVec F S128x128 .f32 := eT (I.b11 k) (I.mB1 k) I.c1
/-- Second block, one back. -/
def eB12 (k : FVec F S512x128 .fp8e4m3) : FVec F S128x128 .f32 := eT (I.b12 k) (I.mB1 k) I.c1
/-- Second block, diagonal. -/
def eB13 (k : FVec F S512x128 .fp8e4m3) : FVec F S128x128 .f32 := eT (I.b13 k) (I.mB1 k) I.c1
/-- Far weight, first block. -/
def fB0 (k : FVec F S512x128 .fp8e4m3) : FVec F S1x128 .f32 := colSum (accD la (accP la (addf zt (I.eB00 k)) (I.eB01 k)) (I.eB02 k))
/-- Far weight, second block. -/
def fB1 (k : FVec F S512x128 .fp8e4m3) : FVec F S1x128 .f32 :=
  colSum (accD lb (accP lb (addf (addf zt (I.eB10 k)) (I.eB11 k)) (I.eB12 k)) (I.eB13 k))
/-- All near weights, by key and lane. -/
def xwB (k : FVec F S512x128 .fp8e4m3) : FVec F S128x128 .f32 :=
  select (nearD lb) (I.eB13 k) (select (nearP lb) (I.eB12 k) (select (nearD la) (I.eB02 k) (select (nearP la) (I.eB01 k) zt)))
/-- Near weights by distance, first block. -/
def wB0 (k : FVec F S512x128 .fp8e4m3) : FVec F S64x128 .f32 := wn0 (skew (I.xwB k))
/-- Near weights by distance, second block. -/
def wB1 (k : FVec F S512x128 .fp8e4m3) : FVec F S64x128 .f32 := wn1 (skew (I.xwB k))
/-- The output rows of the second pair. -/
def oB (vt : FVec F S128x512 .bf16) (avt : FVec F S128x80 .bf16) (k : FVec F S512x128 .fp8e4m3) : FVec F S256x128 .bf16 :=
  fin (dotB vt avt (rhsB (bf (I.eB00 k)) (bf (I.eB01 k)) (bf (I.eB02 k)) zb (I.wB0 k) (I.fB0 k))
      (rhsB (bf (I.eB10 k)) (bf (I.eB11 k)) (bf (I.eB12 k)) (bf (I.eB13 k)) (I.wB1 k) (I.fB1 k)))
    (inv (I.fB0 k) (I.wB0 k)) (inv (I.fB1 k) (I.wB1 k))
end In

/-- Near weights, normalised. -/
def wOut (wn : FVec F S64x128 .f32) (i : FVec F S1x128 .f32) : FVec F S64x128 .f32 :=
  mulf wn (broadcastTo S64x128 i broadcasts_S1x128_S64x128)
/-- Sixty-four rows with the halves of each exchanged. -/
def rot64W (x : FVec F S64x128 .f32) : FVec F S64x128 .f32 := dynamicRotate 1 64#32 none x rotates_S64x128_d1

end Cert.KernelIdeal.Tile
-- ==== Proof.KernelIdeal.Unit.lean ====
/- The body's stored values, unit by unit: each of the eight (batch, pair) units of the printed body is the named unit of
   `Tile`, of the blocks that unit reads. -/
module

public import proofs.«01_k».proof.Proof.KernelIdeal.Run
public import proofs.«01_k».proof.Proof.KernelIdeal.Tile
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

/-- A block of `n` rows of one batch lies in the array. -/
theorem inb4 (b r n : ℕ) (hb : b < 4) (hr : r + n ≤ 512) :
    ∀ a, (![b, 0, r, 0] : Fin 4 → ℕ) a + (⟨4, ![1, 1, n, 128]⟩ : Shape).size a ≤ S4x1x512x128.size a := by
  intro a; fin_cases a <;> simp [S4x1x512x128] <;> omega
/-- A run of `n` lanes of one batch lies in the array. -/
theorem inb3 (b r n : ℕ) (hb : b < 4) (hr : r + n ≤ 512) :
    ∀ a, (![0, b, r] : Fin 3 → ℕ) a + (⟨3, ![1, 1, n]⟩ : Shape).size a ≤ S1x4x512.size a := by
  intro a; fin_cases a <;> simp [S1x4x512] <;> omega
/-- A tile lies in the key-scale scratch. -/
theorem inb2 (b j : ℕ) (hb : b < 4) (hj : j < 4) :
    ∀ a, (![128 * j, 128 * b] : Fin 2 → ℕ) a + S128x128.size a ≤ S512x512.size a := by
  intro a; fin_cases a <;> simp [S128x128, S512x512] <;> omega

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- What unit (batch `b`, pair `p`) reads. -/
def inp (b p : ℕ) (hb : b < 4) (hp : p < 2) : Tile.In F where
  tab := kernelRun0_A.sl.v25 c arg7 harg7 x6
  akf := kernelRun0_A.sl.v27 c arg7 harg7 x6
  srow := kernelRun0_A.sl.v58 c i arg8 harg8 x7
  sfar := kernelRun0_A.sl.v59 c i arg8 harg8 x7
  qa := shapeCast S128x128 (View.readAt (Elt F) arg1.view (Rect.unit (s := S4x1x512x128) ![b, 0, 256 * p, 0] S1x1x128x128.size (inb4 b _ 128 hb (by omega))).toLoadRect (harg1.unread x0)) shapeCasts_S1x1x128x128_S128x128
  q1 := shapeCast S64x128 (View.readAt (Elt F) arg1.view (Rect.unit (s := S4x1x512x128) ![b, 0, 256 * p + 192, 0] S1x1x64x128.size (inb4 b _ 64 hb (by omega))).toLoadRect (harg1.unread x0)) shapeCasts_S1x1x64x128_S64x128
  q0 := shapeCast S64x128 (View.readAt (Elt F) arg1.view (Rect.unit (s := S4x1x512x128) ![b, 0, 256 * p + 128, 0] S1x1x64x128.size (inb4 b _ 64 hb (by omega))).toLoadRect (harg1.unread x0)) shapeCasts_S1x1x64x128_S64x128
  qs := shapeCast S1x256 (View.readAt (Elt F) arg2.view (Rect.unit (s := S1x4x512) ![0, b, 256 * p] S1x1x256.size (inb3 b _ 256 hb (by omega))).toLoadRect (harg2.unread x1)) shapeCasts_S1x1x256_S1x256
  kb := fun j => arg13.view.readCov (kernelRun0_A.sl.HS0_1 c arg4 harg4 x3) (Rect.unit (s := S512x512) ![128 * (j : ℕ), 128 * b] S128x128.size (inb2 b j hb j.2)).toLoadRect

/-- The values of batch `b`. -/
def vtB (b : ℕ) (hb : b < 4) : FVec F S128x512 .bf16 :=
  Tile.vtOf (shapeCast S512x128 (View.readAt (Elt F) arg5.view (Rect.unit (s := S4x1x512x128) ![b, 0, 0, 0] S1x1x512x128.size (inb4 b 0 512 hb le_rfl)).toLoadRect (harg5.unread x4)) shapeCasts_S1x1x512x128_S512x128)
    (shapeCast S1x512 (View.readAt (Elt F) arg6.view (Rect.unit (s := S1x4x512) ![0, b, 0] S1x1x512.size (inb3 b 0 512 hb le_rfl)).toLoadRect (harg6.unread x5)) shapeCasts_S1x1x512_S1x512)

/-- The keys of the first pair. -/
def keyA (b : ℕ) (hb : b < 4) : FVec F S256x128 .fp8e4m3 :=
  shapeCast S256x128 (View.readAt (Elt F) arg3.view (Rect.unit (s := S4x1x512x128) ![b, 0, 0, 0] S1x1x256x128.size (inb4 b 0 256 hb (by omega))).toLoadRect (harg3.unread x2)) shapeCasts_S1x1x256x128_S256x128
/-- The keys of the second pair. -/
def keyB (b : ℕ) (hb : b < 4) : FVec F S512x128 .fp8e4m3 :=
  shapeCast S512x128 (View.readAt (Elt F) arg3.view (Rect.unit (s := S4x1x512x128) ![b, 0, 0, 0] S1x1x512x128.size (inb4 b 0 512 hb le_rfl)).toLoadRect (harg3.unread x2)) shapeCasts_S1x1x512x128_S512x128

/-- `Tile.kr`. -/
theorem v17_mask : kernelRun0_A.sl.v17 = Tile.kr := rfl
/-- `Tile.la`. -/
theorem v155_mask : kernelRun0_A.sl.v155 = Tile.la := rfl
/-- `Tile.lb`. -/
theorem v159_mask : kernelRun0_A.sl.v159 = Tile.lb := rfl
/-- `Tile.nearD Tile.la`. -/
theorem v164_mask : kernelRun0_A.sl.v164 = Tile.nearD Tile.la := rfl
/-- `Tile.nearD Tile.lb`. -/
theorem v169_mask : kernelRun0_A.sl.v169 = Tile.nearD Tile.lb := rfl
/-- `Tile.farD Tile.la`. -/
theorem v172_mask : kernelRun0_A.sl.v172 = Tile.farD Tile.la := rfl
/-- `Tile.farD Tile.lb`. -/
theorem v175_mask : kernelRun0_A.sl.v175 = Tile.farD Tile.lb := rfl
/-- `Tile.nearP Tile.la`. -/
theorem v178_mask : kernelRun0_A.sl.v178 = Tile.nearP Tile.la := rfl
/-- `Tile.nearP Tile.lb`. -/
theorem v181_mask : kernelRun0_A.sl.v181 = Tile.nearP Tile.lb := rfl

end Cert.KernelIdeal.Body
-- ==== Proof.Spec.lean ====
/- One head of one batch, over the extended reals: what the kernel computes for it, as plain sums and suprema. -/
module

public import Idealize.ShloMosaic.Lib.Pointwise

@[expose] public section

noncomputable section

namespace Cert.Spec

open Idealize.ShloMosaic
open Finset

/-- The arrays of one head of one batch: queries, keys and values with their scales, the two tables of relative
    positions with theirs, and the factor of the scores' exponent. -/
structure Hd where
  /-- Queries. -/
  Q : ℕ → Fin 128 → EReal
  /-- Keys. -/
  K : ℕ → Fin 128 → EReal
  /-- Values. -/
  V : ℕ → Fin 128 → EReal
  /-- Query scales. -/
  qs : ℕ → EReal
  /-- Key scales. -/
  ks : ℕ → EReal
  /-- Value scales. -/
  vs : ℕ → EReal
  /-- Key table. -/
  AK : ℕ → Fin 128 → EReal
  /-- Value table. -/
  AV : ℕ → Fin 128 → EReal
  /-- Key table scales. -/
  aks : ℕ → EReal
  /-- Value table scales. -/
  avs : ℕ → EReal
  /-- The factor that turns a score into a power of two. -/
  kap : EReal

namespace Hd
variable (H : Hd)

/-- Query `i` times row `r` of the key table. -/
def QA (i r : ℕ) : EReal := (∑ d, H.Q i d * H.AK r d) * H.aks r
/-- The score of key `k` for query `i`, minus infinity for a key after the query. -/
def X (i k : ℕ) : EReal := (∑ d, H.K k d * H.Q i d) * H.ks k + if k ≤ i then H.QA i (min (i - k) 64) else ⊥
/-- The largest score of query `i`. -/
def M (i : ℕ) : EReal := (range 512).sup (H.X i)
/-- The exponent's factor. -/
def C (i : ℕ) : EReal := H.qs i * H.kap
/-- The weight of key `k` for query `i`, before it is normalised. -/
def E (i k : ℕ) : EReal := if k ≤ i then Ideal.exp2 ((H.X i k - H.M i) * H.C i) else 0
/-- The weight of all keys at distance 64 or more. -/
def Far (i : ℕ) : EReal := ∑ k ∈ range 512, if k + 64 ≤ i then H.E i k else 0
/-- The weight of the key at distance `r`. -/
def W (i r : ℕ) : EReal := if r ≤ i then H.E i (i - r) else 0
/-- One over the sum of all weights. -/
def I (i : ℕ) : EReal := Ideal.div 1 (H.Far i + ∑ r : Fin 64, H.W i r)
/-- The first result. -/
def OUT (i : ℕ) (d : Fin 128) : EReal :=
  ((∑ k ∈ range 512, H.V k d * H.vs k * H.E i k) +
    ((∑ r : Fin 64, H.AV r d * H.avs r * H.W i r) + H.AV 64 d * H.avs 64 * H.Far i)) * H.I i
/-- The second result. -/
def WOUT (i r : ℕ) : EReal := if r < 64 then H.W i r * H.I i else H.Far i * H.I i

theorem X_of_lt {i k : ℕ} (h : i < k) : H.X i k = ⊥ := by
  unfold X; rw [if_neg (by omega), EReal.add_bot]

theorem E_of_lt {i k : ℕ} (h : i < k) : H.E i k = 0 := by
  unfold E; rw [if_neg (by omega)]

/-- The weight as the kernel computes it, without looking whether the key is visible. -/
theorem E_eq {i k : ℕ} (hC : 0 < H.C i) : Ideal.exp2 ((H.X i k - H.M i) * H.C i) = H.E i k := by
  unfold E
  split
  · rfl
  · rename_i h
    rw [H.X_of_lt (by omega), EReal.bot_sub, EReal.bot_mul_of_pos hC]
    rfl

/-- The supremum over the visible tiles is the supremum over all keys. -/
theorem M_eq {i n : ℕ} (hn : i < 128 * n) (h4 : n ≤ 4) (f : Fin 128 → EReal)
    (hf : ∀ k, f k = (range n).sup fun j => H.X i (128 * j + k)) :
    univ.fold max ⊥ f = H.M i := by
  have h0 : univ.fold max ⊥ f = univ.sup f := rfl
  rw [h0, M]
  apply le_antisymm
  · refine Finset.sup_le fun k _ => ?_
    rw [hf]
    refine Finset.sup_le fun j hj => ?_
    exact Finset.le_sup (f := H.X i) (mem_range.2 (by have := mem_range.1 hj; omega))
  · refine Finset.sup_le fun x hx => ?_
    rcases Nat.lt_or_ge i x with h | h
    · rw [H.X_of_lt h]; exact bot_le
    · have hx2 : x = 128 * (x / 128) + x % 128 := by omega
      refine le_trans ?_ (Finset.le_sup (f := f) (mem_univ (⟨x % 128, by omega⟩ : Fin 128)))
      rw [hf]
      have := Finset.le_sup (f := fun j => H.X i (128 * j + x % 128)) (mem_range.2 (show x / 128 < n by omega))
      rwa [← hx2] at this

end Hd

/-- A sum over keys, tile by tile. -/
theorem sum_tiles (f : ℕ → EReal) (n : ℕ) :
    ∑ k : Fin 128, ∑ j ∈ range n, f (128 * j + k) = ∑ x ∈ range (128 * n), f x := by
  rw [Finset.sum_comm]
  induction n with
  | zero => simp
  | succ n ih =>
    rw [Finset.sum_range_succ, ih, show 128 * (n + 1) = 128 * n + 128 by ring, Finset.sum_range_add,
      ← Fin.sum_univ_eq_sum_range (fun x => f (128 * n + x)) 128]

/-- The same where every term past the visible tiles is zero. -/
theorem sum_visible (f : ℕ → EReal) (n : ℕ) (hn : n ≤ 4) (h0 : ∀ x, 128 * n ≤ x → f x = 0) :
    ∑ k : Fin 128, ∑ j ∈ range n, f (128 * j + k) = ∑ x ∈ range 512, f x := by
  rw [sum_tiles]
  refine Finset.sum_subset (range_mono (by omega)) fun x _ hx => h0 x ?_
  simpa using hx

end Cert.Spec
-- ==== Proof.KernelIdeal.Read.lean ====
/- The named groups of the body's vector operations, read at an index over the extended reals. -/
module

public import proofs.«01_k».proof.Proof.KernelIdeal.Tile
public import proofs.«01_k».proof.Proof.Spec
public import Idealize.ShloMosaic.Lib.Pointwise

@[expose] public section

set_option maxRecDepth 16384

noncomputable section

namespace Cert.KernelIdeal.Tile

open Cert.KernelIdeal.Gen
open Idealize.ShloMosaic Idealize.SL.Sem

local notation "ℝI" => Idealize.ShloMosaic.Ideal

/-! ## Masks -/

theorem ofNat_toInt (a : ℕ) (ha : a < 128) : (BitVec.ofNat 32 a).toInt = a := by
  rw [BitVec.toInt_ofNat', Int.bmod_def]; omega

theorem sub_toInt (a b : ℕ) (ha : a < 128) (hb : b < 128) :
    (IntOp.subi (BitVec.ofNat 32 a) (BitVec.ofNat 32 b)).toInt = (a : ℤ) - b := by
  simp only [IntOp.subi, BitVec.toInt_sub, ofNat_toInt a ha, ofNat_toInt b hb, Int.bmod_def]; omega

theorem c64_toInt : (64#32).toInt = 64 := by decide

/-- A vector of lane numbers: the query of each lane, whatever the row. -/
structure LaneOf (m : IVec S128x128 32) (L : Fin 128 → ℕ) : Prop where
  /-- The word of a lane. -/
  val : ∀ k l, m (ix2 k l) = BitVec.ofNat 32 (L l)
  /-- Lanes are below 128. -/
  lt : ∀ l, L l < 128

theorem laneOf_la : LaneOf la (fun l => l) := ⟨fun k l => by pointwise [la], fun l => l.2⟩

theorem lb_word : ∀ l : Fin 128, IntOp.andi (IntOp.addi (BitVec.ofNat 32 l) 64#32) 127#32 = BitVec.ofNat 32 ((l + 64) % 128) := by
  decide

theorem laneOf_lb : LaneOf lb (fun l => (l + 64) % 128) :=
  ⟨fun k l => by pointwise [lb, la]; exact lb_word l, fun l => Nat.mod_lt _ (by omega)⟩

theorem sel_one {α : Type} (c : BitVec 1) (P : Prop) [Decidable P] (h : c = 1 ↔ P) (a b : α) :
    Scalar.select c a b = if P then a else b := by
  unfold Scalar.select; simp only [h]

theorem and_one (a b : BitVec 1) : IntOp.andi a b = 1 ↔ a = 1 ∧ b = 1 := by
  revert a b; decide

theorem bit_one (P : Prop) [Decidable P] : BitVec.ofBool (decide P) = 1 ↔ P := by
  by_cases h : P <;> simp [h]

section
variable {m : IVec S128x128 32} {L : Fin 128 → ℕ} (h : LaneOf m L) (k l : Fin 128)
include h

theorem nearD_iff : nearD m (ix2 k l) = 1 ↔ (k : ℕ) ≤ L l ∧ L l < k + 64 := by
  have hl := h.lt l
  pointwise [nearD, kr]
  rw [h.val, and_one]
  simp only [IntOp.cmpi, BitVec.sle, BitVec.slt, ofNat_toInt _ hl, ofNat_toInt _ k.2, sub_toInt _ _ hl k.2, c64_toInt]
  rw [bit_one, bit_one]; omega

theorem farD_iff : farD m (ix2 k l) = 1 ↔ (k : ℕ) + 64 ≤ L l := by
  have hl := h.lt l
  pointwise [farD, kr]
  rw [h.val]
  simp only [IntOp.cmpi, BitVec.sle, BitVec.slt, sub_toInt _ _ hl k.2, c64_toInt]
  rw [bit_one]; omega

theorem nearP_iff : nearP m (ix2 k l) = 1 ↔ L l + 64 < (k : ℕ) := by
  have hl := h.lt l
  pointwise [nearP, kr]
  rw [h.val]
  simp only [IntOp.cmpi, BitVec.sle, BitVec.slt, sub_toInt _ _ k.2 hl, c64_toInt]
  rw [bit_one]; omega

end

/-! ## Single operations -/

variable (x y z : FVec ℝI S128x128 .f32) (r r' : FVec ℝI S1x128 .f32)

theorem lane0_apply (v : FVec ℝI S1x256 .f32) (l : Fin 128) : lane0 v (ix2 0 l) = v (ix2 0 ⟨l, by omega⟩) := by
  pointwise [lane0]
theorem lane1_apply (v : FVec ℝI S1x256 .f32) (l : Fin 128) : lane1 v (ix2 0 l) = v (ix2 0 ⟨128 + l, by omega⟩) := by
  pointwise [lane1]
theorem rot64_apply (l : Fin 128) : rot64 r (ix2 0 l) = r (ix2 0 ⟨(l + 64) % 128, Nat.mod_lt _ (by omega)⟩) := by
  pointwise [rot64]; congr 2
theorem rot64W_apply (v : FVec ℝI S64x128 .f32) (d : Fin 64) (l : Fin 128) :
    rot64W v (ix2 d l) = v (ix2 d ⟨(l + 64) % 128, Nat.mod_lt _ (by omega)⟩) := by
  pointwise [rot64W]; congr 2
theorem wOut_apply (v : FVec ℝI S64x128 .f32) (d : Fin 64) (l : Fin 128) : wOut v r (ix2 d l) = v (ix2 d l) * r (ix2 0 l) := by
  pointwise [wOut]
theorem rowsC_apply (k l : Fin 128) : rowsC r (ix2 k l) = r (ix2 0 l) := by pointwise [rowsC]
theorem rows_apply (k l : Fin 128) : rows r (ix2 k l) = r (ix2 0 l) := by pointwise [rows]
theorem cc_apply (v : FVec ℝI S1x256 .f32) (l : Fin 256) :
    cc v (ix2 0 l) = v (ix2 0 l) * Named.named (F := ℝI) κ (φ := .f32) "score_scale_log2e" 0x3E0293EE#32 := by
  pointwise [cc]
theorem far_apply (a : FVec ℝI S1x128 .bf16) (s : FVec ℝI S1x1 .f32) (q : FVec ℝI S256x128 .fp8e4m3) (l : Fin 256) :
    far a s q (ix2 0 l) = (∑ d, a (ix2 0 d) * q (ix2 l d)) * s (ix2 0 0) := by
  pointwise [far]
theorem stA_apply (k q : FVec ℝI S256x128 .fp8e4m3) (i j : Fin 256) : stA k q (ix2 i j) = ∑ d, k (ix2 i d) * q (ix2 j d) := by
  pointwise [stA]
theorem stB_apply (k : FVec ℝI S512x128 .fp8e4m3) (q : FVec ℝI S256x128 .fp8e4m3) (i : Fin 512) (j : Fin 256) :
    stB k q (ix2 i j) = ∑ d, k (ix2 i d) * q (ix2 j d) := by
  pointwise [stB]
theorem nearBias_apply (t : FVec ℝI S128x256 .bf16) (s : FVec ℝI S1x128 .f32) (a b : FVec ℝI S128x128 .fp8e4m3) (l n : Fin 128) :
    nearBias t s a b (ix2 l n) = (∑ d : Fin 128, a (ix2 l d) * t (ix2 n ⟨d, by omega⟩) +
      ∑ d : Fin 128, b (ix2 l d) * t (ix2 n ⟨128 + d, by omega⟩)) * s (ix2 0 n) := by
  pointwise [nearBias]
theorem xb_apply (k l : Fin 128) : xb x (ix2 k l) = x (ix2 l ⟨(k + 128 - (65 + l) % 128) % 128, Nat.mod_lt _ (by omega)⟩) := by
  pointwise [xb]
theorem colMax_apply (l : Fin 128) : colMax x (ix2 0 l) = Finset.univ.fold max ⊥ fun k => x (ix2 k l) := by
  pointwise [colMax]
  congr 1
theorem colSum_apply (l : Fin 128) : colSum x (ix2 0 l) = ∑ k, x (ix2 k l) := by pointwise [colSum]
theorem colSum64_apply (v : FVec ℝI S64x128 .f32) (l : Fin 128) : colSum64 v (ix2 0 l) = ∑ k, v (ix2 k l) := by pointwise [colSum64]
theorem eT_apply (k l : Fin 128) : eT x r r' (ix2 k l) = Ideal.exp2 ((x (ix2 k l) - r (ix2 0 l)) * r' (ix2 0 l)) := by
  pointwise [eT, rows]; rfl
theorem inv_apply (v : FVec ℝI S64x128 .f32) (l : Fin 128) :
    inv r v (ix2 0 l) = Ideal.div 1 (r (ix2 0 l) + ∑ k, v (ix2 k l)) := by
  pointwise [inv, colSum64]

/-- Rows 0 to 7, backwards. -/
theorem rev_word : ∀ r : Fin 8, (Scalar.select (IntOp.cmpi .slt (IntOp.subi (7#32) (BitVec.ofNat 32 r)) 0#32)
    (IntOp.addi (IntOp.subi (7#32) (BitVec.ofNat 32 r)) 8#32) (IntOp.subi (7#32) (BitVec.ofNat 32 r))).toNat % 8 = 7 - r := by
  decide

theorem revIx_apply (d : Fin 8) (l : Fin 128) : (revIx (ix2 d l)).toNat % 8 = 7 - d := by
  pointwise [revIx, rev8]
  exact rev_word d

theorem flipRows_apply (o : ℕ) (ho : o + 8 ≤ 128) (h : S128x128.Slices ![o, 0] S8x128) (d : Fin 8) (l : Fin 128) :
    flipRows ![o, 0] h x (ix2 d l) = x (ix2 ⟨o + (7 - d), by omega⟩ l) := by
  unfold flipRows dynamicGather extractStridedSlice
  refine congrArg x (funext fun a => Fin.ext ?_)
  have e := revIx_apply d l
  fin_cases a
  · exact congrArg (o + ·) e
  · exact Nat.zero_add _

theorem flip_apply (k l : Fin 128) : flip x (ix2 k l) = x (ix2 ⟨127 - k, by omega⟩ l) := by
  have hs : ∀ n : Fin 16, S128x128.Slices ![120 - 8 * n.val, 0] S8x128 := by decide
  unfold flip
  refine (concatenate_ofFn_apply (s₁ := S8x128) 0 (fun n : Fin 16 => flipRows ![120 - 8 * n.val, 0] (hs n) x)
    concatenates_S8x128_S8x128_S8x128_S8x128_S8x128_S8x128_S8x128_S8x128_S8x128_S8x128_S8x128_S8x128_S8x128_S8x128_S8x128_S8x128_S128x128_d0
    rfl 8 rfl (ix2 k l) ⟨k / 8, by omega⟩ rfl (ix2 ⟨k % 8, by omega⟩ l) rfl ?_).trans ?_
  · intro b hb; fin_cases b
    · exact absurd rfl hb
    · rfl
  · refine (flipRows_apply (x := x) (120 - 8 * (k / 8 : ℕ)) (by omega) _ ⟨k % 8, by omega⟩ l).trans ?_
    congr 2; ext; simp; omega

theorem skew_apply (k l : Fin 128) : skew x (ix2 k l) = x (ix2 ⟨(l + 128 - k) % 128, Nat.mod_lt _ (by omega)⟩ l) := by
  pointwise [skew]
  rw [flip_apply]
  congr 2; ext; simp; omega

theorem wn0_apply (k : Fin 64) (l : Fin 128) :
    wn0 (skew x) (ix2 k l) = x (ix2 ⟨(l + 128 - k) % 128, Nat.mod_lt _ (by omega)⟩ l) := by
  unfold wn0
  pointwise
  rw [skew_apply]

theorem wn1_apply (k : Fin 64) (l : Fin 128) :
    wn1 (skew x) (ix2 k l) = x (ix2 ⟨((l + 64) % 128 + 128 - k) % 128, Nat.mod_lt _ (by omega)⟩ l) := by
  unfold wn1
  pointwise
  rw [skew_apply]
  congr 2; ext; simp; omega

end Cert.KernelIdeal.Tile
-- ==== Proof.KernelIdeal.Block.lean ====
/- One block of 128 queries: what the tiles of scores, of exponentials and of near weights hold, from what the body has
   read. -/
module

public import proofs.«01_k».proof.Proof.KernelIdeal.Read

@[expose] public section

set_option maxRecDepth 16384

noncomputable section

namespace Cert.KernelIdeal.Tile

open Cert.KernelIdeal.Gen Cert.Spec
open Idealize.ShloMosaic Idealize.SL.Sem

local notation "ℝI" => Idealize.ShloMosaic.Ideal

theorem max_apply (x y : FVec ℝI S128x128 .f32) (k l : Fin 128) : maximumf x y (ix2 k l) = max (x (ix2 k l)) (y (ix2 k l)) := by
  pointwise
theorem zt_apply (k l : Fin 128) : zt (F := ℝI) (ix2 k l) = 0 := by
  pointwise [zt]
theorem zb_apply (k l : Fin 128) : zb (F := ℝI) (ix2 k l) = 0 := by
  pointwise [zb]

/-- A block of queries as the body sees it: `B` is its number, `L` the query of each lane, `m` the lane words, `b` the near
    biases, `fr` the far biases, `c` the exponent's factors. -/
structure Blk (H : Hd) (B : ℕ) (L : Fin 128 → ℕ) (m : IVec S128x128 32) (b : FVec ℝI S128x128 .f32)
    (fr c : FVec ℝI S1x128 .f32) : Prop where
  /-- The lane words are the lanes' queries. -/
  lane : LaneOf m L
  /-- A near bias within the block. -/
  near : ∀ k l : Fin 128, (k : ℕ) ≤ L l → L l < k + 64 → b (ix2 k l) = H.QA (128 * B + L l) (L l - k)
  /-- A near bias one block back. -/
  nearP : ∀ k l : Fin 128, L l + 64 < (k : ℕ) → b (ix2 k l) = H.QA (128 * B + L l) (L l + 128 - k)
  /-- The far bias. -/
  far : ∀ l, fr (ix2 0 l) = H.QA (128 * B + L l) 64
  /-- The exponent's factor. -/
  fac : ∀ l, c (ix2 0 l) = H.C (128 * B + L l)

/-- A tile holds the scores of the keys of tile `j`. -/
def IsX (H : Hd) (B : ℕ) (L : Fin 128 → ℕ) (j : ℕ) (x : FVec ℝI S128x128 .f32) : Prop :=
  ∀ k l : Fin 128, x (ix2 k l) = H.X (128 * B + L l) (128 * j + k)
/-- A tile holds the weights of the keys of tile `j`. -/
def IsE (H : Hd) (B : ℕ) (L : Fin 128 → ℕ) (j : ℕ) (x : FVec ℝI S128x128 .f32) : Prop :=
  ∀ k l : Fin 128, x (ix2 k l) = H.E (128 * B + L l) (128 * j + k)
/-- A tile holds the products of queries and the keys of tile `j`. -/
def IsS (H : Hd) (B : ℕ) (L : Fin 128 → ℕ) (j : ℕ) (x : FVec ℝI S128x128 .f32) : Prop :=
  ∀ k l : Fin 128, x (ix2 k l) = ∑ d, H.K (128 * j + k) d * H.Q (128 * B + L l) d
/-- A tile holds the scales of the keys of tile `j`. -/
def IsK (H : Hd) (j : ℕ) (x : FVec ℝI S128x128 .f32) : Prop := ∀ k l : Fin 128, x (ix2 k l) = H.ks (128 * j + k)

section
variable {H : Hd} {B : ℕ} {L : Fin 128 → ℕ} {m : IVec S128x128 32} {b : FVec ℝI S128x128 .f32}
  {fr c : FVec ℝI S1x128 .f32} (hB : Blk H B L m b fr c) {st kb x e : FVec ℝI S128x128 .f32}
include hB

theorem diagT_isX (hs : IsS H B L B st) (hk : IsK H B kb) : IsX H B L B (diagT m st kb b fr) := by
  intro k l
  have hL := hB.lane.lt l
  have e1 : diagT m st kb b fr (ix2 k l) = st (ix2 k l) * kb (ix2 k l) + Scalar.select (nearD m (ix2 k l)) (b (ix2 k l))
      (Scalar.select (farD m (ix2 k l)) (fr (ix2 0 l)) ⊥) := by
    pointwise [diagT, rowsC_apply]
    congr 1
  rw [e1, sel_one _ _ (nearD_iff hB.lane k l), sel_one _ _ (farD_iff hB.lane k l), hs, hk, Hd.X]
  congr 1
  split_ifs with h1 h2 h3 h4 h5
  · rw [hB.near k l h1.1 h1.2]; congr 1; omega
  · omega
  · rw [hB.far]; congr 1; omega
  · omega
  · omega
  · rfl

theorem prevT_isX {j : ℕ} (hj : B = j + 1) (hs : IsS H B L j st) (hk : IsK H j kb) : IsX H B L j (prevT m st kb b fr) := by
  intro k l
  have hL := hB.lane.lt l
  have e1 : prevT m st kb b fr (ix2 k l) = st (ix2 k l) * kb (ix2 k l) + Scalar.select (nearP m (ix2 k l)) (b (ix2 k l))
      (fr (ix2 0 l)) := by
    pointwise [prevT, rowsC_apply]
  rw [e1, sel_one _ _ (nearP_iff hB.lane k l), hs, hk, Hd.X, if_pos (show 128 * j + (k : ℕ) ≤ 128 * B + L l by omega)]
  congr 1
  split_ifs with h1
  · rw [hB.nearP k l h1]; congr 1; omega
  · rw [hB.far]; congr 1; omega

theorem farT_isX {j : ℕ} (hj : j + 2 ≤ B) (hs : IsS H B L j st) (hk : IsK H j kb) : IsX H B L j (farT st kb fr) := by
  intro k l
  have hL := hB.lane.lt l
  have e1 : farT st kb fr (ix2 k l) = st (ix2 k l) * kb (ix2 k l) + fr (ix2 0 l) := by
    pointwise [farT, rows_apply]
  rw [e1, hs, hk, Hd.X, if_pos (by omega), hB.far]
  congr 2; omega

/-- Exponentials of scores. -/
theorem eT_isE {j : ℕ} {mx : FVec ℝI S1x128 .f32} (hC : ∀ l, 0 < H.C (128 * B + L l)) (hx : IsX H B L j x)
    (hm : ∀ l, mx (ix2 0 l) = H.M (128 * B + L l)) : IsE H B L j (eT x mx c) := by
  intro k l
  rw [eT_apply, hx, hm, hB.fac, H.E_eq (hC l)]

/-- Largest scores, from the largest of the tiles' scores row by row. -/
theorem colMax_eq (hB3 : B ≤ 3) (hx : ∀ k l : Fin 128, x (ix2 k l) = (Finset.range (B + 1)).sup fun j => H.X (128 * B + L l) (128 * j + k))
    (l : Fin 128) : colMax x (ix2 0 l) = H.M (128 * B + L l) := by
  have hL := hB.lane.lt l
  rw [colMax_apply]
  exact H.M_eq (n := B + 1) (by omega) (by omega) _ fun k => hx k l

/-- Far weights: the tile on the diagonal. -/
theorem accD_apply (he : IsE H B L B e) (k l : Fin 128) : accD m x e (ix2 k l) = x (ix2 k l) +
    if 128 * B + (k : ℕ) + 64 ≤ 128 * B + L l then H.E (128 * B + L l) (128 * B + k) else 0 := by
  have e1 : accD m x e (ix2 k l) = x (ix2 k l) + Scalar.select (farD m (ix2 k l)) (e (ix2 k l)) (zt (F := ℝI) (ix2 k l)) := by
    pointwise [accD]
  rw [e1, sel_one _ _ (farD_iff hB.lane k l), zt_apply, he]
  congr 1
  exact if_congr (by omega) rfl rfl

/-- Far weights: the tile one block back. -/
theorem accP_apply {j : ℕ} (hj : B = j + 1) (he : IsE H B L j e) (k l : Fin 128) : accP m x e (ix2 k l) = x (ix2 k l) +
    if 128 * j + (k : ℕ) + 64 ≤ 128 * B + L l then H.E (128 * B + L l) (128 * j + k) else 0 := by
  have e1 : accP m x e (ix2 k l) = x (ix2 k l) + Scalar.select (nearP m (ix2 k l)) (zt (F := ℝI) (ix2 k l)) (e (ix2 k l)) := by
    pointwise [accP]
  rw [e1, sel_one _ _ (nearP_iff hB.lane k l), zt_apply, he]
  congr 1
  split_ifs <;> first | rfl | omega

/-- Far weights: a tile further back. -/
theorem accF_apply {j : ℕ} (hj : j + 2 ≤ B) (he : IsE H B L j e) (k l : Fin 128) : addf x e (ix2 k l) = x (ix2 k l) +
    if 128 * j + (k : ℕ) + 64 ≤ 128 * B + L l then H.E (128 * B + L l) (128 * j + k) else 0 := by
  have e1 : addf x e (ix2 k l) = x (ix2 k l) + e (ix2 k l) := by pointwise
  rw [e1, if_pos (by omega), he]

/-- The far weight of a query, from the tiles' far weights summed row by row. -/
theorem colSum_eq (hB3 : B ≤ 3) (hx : ∀ k l : Fin 128, x (ix2 k l) = ∑ j ∈ Finset.range (B + 1),
      if 128 * j + (k : ℕ) + 64 ≤ 128 * B + L l then H.E (128 * B + L l) (128 * j + k) else 0)
    (l : Fin 128) : colSum x (ix2 0 l) = H.Far (128 * B + L l) := by
  have hL := hB.lane.lt l
  rw [colSum_apply, Hd.Far, ← sum_visible _ (B + 1) (by omega) fun x hx => if_neg (by omega)]
  exact Finset.sum_congr rfl fun k _ => hx k l

/-- The weighted values of a query: the weights of the tiles, and zero tiles after the diagonal. -/
theorem vals_eq (f : ℕ → EReal) (l : Fin 128) {n : ℕ} (hn : B + 1 ≤ n) (hn4 : n ≤ 4) :
    ∑ j ∈ Finset.range n, ∑ k : Fin 128, f (128 * j + k) * H.E (128 * B + L l) (128 * j + k) =
      ∑ k ∈ Finset.range 512, f k * H.E (128 * B + L l) k := by
  have hL := hB.lane.lt l
  rw [Finset.sum_comm]
  refine sum_visible (fun k => f k * H.E (128 * B + L l) k) n hn4 fun x hx => ?_
  show _ * _ = (0 : EReal)
  rw [H.E_of_lt (by omega), mul_zero]

end

/-- The tile of no weights holds the weights of keys no query of the block sees. -/
theorem zb_isE {H : Hd} {B j : ℕ} {L : Fin 128 → ℕ} (hL : ∀ l, L l < 128) (hj : B < j) :
    ∀ k l : Fin 128, zb (F := ℝI) (ix2 k l) = H.E (128 * B + L l) (128 * j + k) := by
  intro k l
  have := hL l
  rw [zb_apply, H.E_of_lt (by omega)]

/-! ## Near weights -/

/-- The second block's lanes. -/
abbrev Lb (l : Fin 128) : ℕ := (l + 64) % 128

section
variable {H : Hd} {p : ℕ} {e0 e0p e1 e1p : FVec ℝI S128x128 .f32}

/-- Near weights of the first pair. -/
theorem xwA_apply (k l : Fin 128) : select (nearD lb) e1 (select (nearP lb) e1p (select (nearD la) e0 zt)) (ix2 k l) =
    if (k : ℕ) ≤ Lb l ∧ Lb l < k + 64 then e1 (ix2 k l) else if Lb l + 64 < (k : ℕ) then e1p (ix2 k l) else
      if (k : ℕ) ≤ l ∧ (l : ℕ) < k + 64 then e0 (ix2 k l) else 0 := by
  have e1 : select (nearD lb) e1 (select (nearP lb) e1p (select (nearD la) e0 zt)) (ix2 k l) =
    Scalar.select (nearD lb (ix2 k l)) (e1 (ix2 k l)) (Scalar.select (nearP lb (ix2 k l)) (e1p (ix2 k l))
      (Scalar.select (nearD la (ix2 k l)) (e0 (ix2 k l)) (zt (F := ℝI) (ix2 k l)))) := by
    pointwise
  rw [e1, sel_one _ _ (nearD_iff laneOf_lb k l), sel_one _ _ (nearP_iff laneOf_lb k l), sel_one _ _ (nearD_iff laneOf_la k l), zt_apply]

/-- Near weights of the second pair. -/
theorem xwB_apply (k l : Fin 128) :
    select (nearD lb) e1 (select (nearP lb) e1p (select (nearD la) e0 (select (nearP la) e0p zt))) (ix2 k l) =
    if (k : ℕ) ≤ Lb l ∧ Lb l < k + 64 then e1 (ix2 k l) else if Lb l + 64 < (k : ℕ) then e1p (ix2 k l) else
      if (k : ℕ) ≤ l ∧ (l : ℕ) < k + 64 then e0 (ix2 k l) else if (l : ℕ) + 64 < k then e0p (ix2 k l) else 0 := by
  have e1 : select (nearD lb) e1 (select (nearP lb) e1p (select (nearD la) e0 (select (nearP la) e0p zt))) (ix2 k l) =
    Scalar.select (nearD lb (ix2 k l)) (e1 (ix2 k l)) (Scalar.select (nearP lb (ix2 k l)) (e1p (ix2 k l))
      (Scalar.select (nearD la (ix2 k l)) (e0 (ix2 k l)) (Scalar.select (nearP la (ix2 k l)) (e0p (ix2 k l)) (zt (F := ℝI) (ix2 k l))))) := by
    pointwise
  rw [e1, sel_one _ _ (nearD_iff laneOf_lb k l), sel_one _ _ (nearP_iff laneOf_lb k l), sel_one _ _ (nearD_iff laneOf_la k l),
    sel_one _ _ (nearP_iff laneOf_la k l), zt_apply]

/-- A weight at distance `r`, in the tile its key is in. -/
theorem wn0_eq {B : ℕ} (r : Fin 64) (l : Fin 128) (x : EReal)
    (hd : (r : ℕ) ≤ l → x = H.E (128 * B + l) (128 * B + (l - r)))
    (hp : (l : ℕ) < r → x = if B = 0 then 0 else H.E (128 * B + l) (128 * (B - 1) + (l + 128 - r))) : x = H.W (128 * B + l) r := by
  unfold Hd.W
  rcases Nat.lt_or_ge (l : ℕ) r with h | h
  · rw [hp h]
    rcases Nat.eq_zero_or_pos B with h0 | h0
    · rw [if_pos h0, if_neg (by omega)]
    · rw [if_neg (by omega), if_pos (by omega)]; congr 1; omega
  · rw [hd h, if_pos (by omega)]; congr 1; omega

end

end Cert.KernelIdeal.Tile
-- ==== Proof.KernelIdeal.Head.lean ====
/- One pair of query blocks of one head: the body's results for it are the specification's, given what the body has read. -/
module

public import proofs.«01_k».proof.Proof.KernelIdeal.Block

@[expose] public section

set_option maxRecDepth 16384

noncomputable section

namespace Cert.KernelIdeal.Tile

open Cert.KernelIdeal.Gen Cert.Spec
open Idealize.ShloMosaic Idealize.SL.Sem

local notation "ℝI" => Idealize.ShloMosaic.Ideal

/-- What the body has read for pair `p` is head `H`. -/
structure Good (H : Hd) (p : ℕ) (I : In ℝI) : Prop where
  /-- Queries of the first block. -/
  qa : ∀ l d, I.qa (ix2 l d) = H.Q (128 * (2 * p) + l) d
  /-- Queries of the second block, first half. -/
  q0 : ∀ (l : Fin 64) d, I.q0 (ix2 l d) = H.Q (128 * (2 * p + 1) + l) d
  /-- Queries of the second block, second half. -/
  q1 : ∀ (l : Fin 64) d, I.q1 (ix2 l d) = H.Q (128 * (2 * p + 1) + (64 + l)) d
  /-- Query scales. -/
  qs : ∀ l : Fin 256, I.qs (ix2 0 l) = H.qs (128 * (2 * p) + l)
  /-- Key scales. -/
  kb : ∀ (j : Fin 4) k l, I.kb j (ix2 k l) = H.ks (128 * j + k)
  /-- The last row of the key table. -/
  akf : ∀ d, I.akf (ix2 0 d) = H.AK 64 d
  /-- Its scale. -/
  sfar : I.sfar (ix2 0 0) = H.aks 64
  /-- The near table, for the first block. -/
  tab0 : ∀ (n d : Fin 128), I.tab (ix2 n ⟨d, by omega⟩) = if (n : ℕ) < 64 then H.AK (63 - n) d else 0
  /-- The near table, for the second block. -/
  tab1 : ∀ (n d : Fin 128), I.tab (ix2 n ⟨128 + d, by omega⟩) = if (n : ℕ) < 64 then 0 else H.AK (127 - n) d
  /-- The near table's scales. -/
  srow : ∀ n : Fin 128, I.srow (ix2 0 n) = H.aks (63 - n % 64)
  /-- The exponent's factor. -/
  kap : Named.named (F := ℝI) κ (φ := .f32) "score_scale_log2e" 0x3E0293EE#32 = H.kap

section
variable {H : Hd} {p : ℕ} {I : In ℝI} (hG : Good H p I)
include hG

theorem qb_apply (l d : Fin 128) : I.qb (ix2 l d) = H.Q (128 * (2 * p + 1) + Lb l) d := by
  have e : I.qb (ix2 l d) = if h : (l : ℕ) < 64 then I.q1 (ix2 ⟨l, h⟩ d) else I.q0 (ix2 ⟨l - 64, by omega⟩ d) := by
    pointwise [In.qb, qbOf]
  rw [e]
  split_ifs with h
  · rw [hG.q1]; congr 2; simp only [Lb]; omega
  · rw [hG.q0]; congr 2; simp only [Lb]; omega

theorem q_apply0 (l d : Fin 128) : I.q (ix2 ⟨l, by omega⟩ d) = H.Q (128 * (2 * p) + l) d := by
  have e : I.q (ix2 ⟨l, by omega⟩ d) = I.qa (ix2 l d) := by
    pointwise [In.q, qab]
  rw [e, hG.qa]

theorem q_apply1 (l d : Fin 128) : I.q (ix2 ⟨128 + l, by omega⟩ d) = H.Q (128 * (2 * p + 1) + Lb l) d := by
  have e : I.q (ix2 ⟨128 + l, by omega⟩ d) = I.qb (ix2 l d) := by
    pointwise [In.q, qab]
  rw [e, qb_apply hG]

theorem b_apply (k l n : Fin 128) (hn : (n : ℕ) = (k + 128 - (65 + l) % 128) % 128) : I.b (ix2 k l) =
    if (n : ℕ) < 64 then H.QA (128 * (2 * p) + l) (63 - n) else H.QA (128 * (2 * p + 1) + Lb l) (127 - n) := by
  have en : (⟨(k + 128 - (65 + l) % 128) % 128, Nat.mod_lt _ (by omega)⟩ : Fin 128) = n := Fin.ext hn.symm
  unfold In.b
  rw [xb_apply, en, nearBias_apply, hG.srow]
  simp only [hG.tab0, hG.tab1, hG.qa, qb_apply hG]
  unfold Hd.QA
  split_ifs with h
  · simp only [mul_zero, Finset.sum_const_zero, add_zero]
    congr 2; omega
  · simp only [mul_zero, Finset.sum_const_zero, zero_add]
    congr 2; omega

theorem blk0 : Blk H (2 * p) (fun l => l) la I.b I.fr0 I.c0 where
  lane := laneOf_la
  near k l h1 h2 := by
    rw [b_apply hG k l ⟨_, Nat.mod_lt _ (by omega)⟩ rfl]
    dsimp only
    rw [if_pos (by omega)]; congr 1; omega
  nearP k l h1 := by
    rw [b_apply hG k l ⟨_, Nat.mod_lt _ (by omega)⟩ rfl]
    dsimp only
    rw [if_pos (by omega)]; congr 1; omega
  far l := by
    unfold In.fr0
    rw [lane0_apply, far_apply, hG.sfar]
    simp only [hG.akf, q_apply0 hG, Hd.QA, mul_comm (H.Q _ _)]
  fac l := by
    unfold In.c0
    rw [lane0_apply, cc_apply, hG.kap, hG.qs]; rfl

theorem blk1 : Blk H (2 * p + 1) Lb lb I.b I.fr1 I.c1 where
  lane := laneOf_lb
  near k l h1 h2 := by
    rw [b_apply hG k l ⟨_, Nat.mod_lt _ (by omega)⟩ rfl]
    dsimp only
    simp only [Lb] at *
    rw [if_neg (by omega)]; congr 1; omega
  nearP k l h1 := by
    rw [b_apply hG k l ⟨_, Nat.mod_lt _ (by omega)⟩ rfl]
    dsimp only
    simp only [Lb] at *
    rw [if_neg (by omega)]; congr 1; omega
  far l := by
    unfold In.fr1
    rw [lane1_apply, far_apply, hG.sfar]
    simp only [hG.akf, q_apply1 hG, Hd.QA, mul_comm (H.Q _ _)]
  fac l := by
    unfold In.c1
    rw [rot64_apply, lane1_apply, cc_apply, hG.kap, hG.qs]
    unfold Hd.C
    congr 2; simp only [Lb]; omega

end

theorem mul_apply (x y : FVec ℝI S1x128 .f32) (l : Fin 128) : mulf x y (ix2 0 l) = x (ix2 0 l) * y (ix2 0 l) := by
  pointwise
theorem Lb_Lb (l : Fin 128) : Lb ⟨(l + 64) % 128, Nat.mod_lt _ (by omega)⟩ = l := by
  simp only [Lb]; omega

/-! ## The first pair -/

section
variable {H : Hd} {I : In ℝI} (hG : Good H 0 I) {key : FVec ℝI S256x128 .fp8e4m3}
  (hk : ∀ (k : Fin 256) d, key (ix2 k d) = H.K k d) (hC : ∀ i < 512, 0 < H.C i)
include hG hk

theorem stA0 : IsS H 0 (fun l => l) 0 (extractStridedSlice S128x128 ![0, 0] (stA key I.q) slices_S256x256_o0_0_S128x128) := by
  intro k l
  pointwise
  rw [stA_apply]
  refine Finset.sum_congr rfl fun d _ => ?_
  rw [hk, q_apply0 hG]; congr 2; simp

theorem stA10 : IsS H 1 Lb 0 (extractStridedSlice S128x128 ![0, 128] (stA key I.q) slices_S256x256_o0_128_S128x128) := by
  intro k l
  pointwise
  rw [stA_apply]
  refine Finset.sum_congr rfl fun d _ => ?_
  rw [hk, q_apply1 hG]

theorem stA11 : IsS H 1 Lb 1 (extractStridedSlice S128x128 ![128, 128] (stA key I.q) slices_S256x256_o128_128_S128x128) := by
  intro k l
  pointwise
  rw [stA_apply]
  refine Finset.sum_congr rfl fun d _ => ?_
  rw [hk, q_apply1 hG]

theorem a00_isX : IsX H 0 (fun l => l) 0 (I.a00 key) := diagT_isX (blk0 hG) (stA0 hG hk) (hG.kb 0)
theorem a10_isX : IsX H 1 Lb 0 (I.a10 key) := prevT_isX (blk1 hG) rfl (stA10 hG hk) (hG.kb 0)
theorem a11_isX : IsX H 1 Lb 1 (I.a11 key) := diagT_isX (blk1 hG) (stA11 hG hk) (hG.kb 1)

include hC

theorem hC0 {B : ℕ} (hB : B ≤ 3) (l : Fin 128) : 0 < H.C (128 * B + (fun l : Fin 128 => (l : ℕ)) l) := hC _ (by dsimp only; omega)
theorem hC1 {B : ℕ} (hB : B ≤ 3) (l : Fin 128) : 0 < H.C (128 * B + Lb l) := hC _ (by simp only [Lb]; omega)

theorem eA00_isE : IsE H 0 (fun l => l) 0 (I.eA00 key) :=
  eT_isE (blk0 hG) (hC0 hG hk hC (by omega)) (a00_isX hG hk)
    (colMax_eq (blk0 hG) (by omega) fun k l => by rw [a00_isX hG hk]; simp [Finset.range_add_one])

theorem mA1 (l : Fin 128) : colMax (maximumf (I.a10 key) (I.a11 key)) (ix2 0 l) = H.M (128 * 1 + Lb l) :=
  colMax_eq (blk1 hG) (by omega) (fun k l => by
    rw [max_apply, a10_isX hG hk, a11_isX hG hk]; simp [Finset.range_add_one]; exact max_comm _ _) l

theorem eA10_isE : IsE H 1 Lb 0 (I.eA10 key) :=
  eT_isE (blk1 hG) (hC1 hG hk hC (by omega)) (a10_isX hG hk) (mA1 hG hk hC)
theorem eA11_isE : IsE H 1 Lb 1 (I.eA11 key) :=
  eT_isE (blk1 hG) (hC1 hG hk hC (by omega)) (a11_isX hG hk) (mA1 hG hk hC)

theorem fA0_eq (l : Fin 128) : I.fA0 key (ix2 0 l) = H.Far (128 * 0 + l) :=
  colSum_eq (blk0 hG) (by omega) (fun k l => by
    rw [accD_apply (blk0 hG) (eA00_isE hG hk hC), zt_apply]; simp [Finset.sum_range_succ]) l
theorem fA1_eq (l : Fin 128) : I.fA1 key (ix2 0 l) = H.Far (128 * 1 + Lb l) :=
  colSum_eq (blk1 hG) (by omega) (fun k l => by
    rw [accD_apply (blk1 hG) (eA11_isE hG hk hC), accP_apply (blk1 hG) rfl (eA10_isE hG hk hC), zt_apply]
    simp [Finset.sum_range_succ]) l

theorem wA0_eq (r : Fin 64) (l : Fin 128) : I.wA0 key (ix2 r l) = H.W (128 * 0 + l) r := by
  unfold In.wA0 In.xwA
  rw [wn0_apply, xwA_apply]
  simp only [Lb]
  refine wn0_eq r l _ (fun h => ?_) fun h => ?_
  · rw [if_neg (by omega), if_neg (by omega), if_pos (by omega), eA00_isE hG hk hC]
    congr 1; dsimp only; omega
  · rw [if_neg (by omega), if_neg (by omega), if_neg (by omega), if_pos rfl]

theorem wA1_eq (r : Fin 64) (l : Fin 128) : I.wA1 key (ix2 r l) = H.W (128 * 1 + Lb l) r := by
  unfold In.wA1 In.xwA
  rw [wn1_apply, xwA_apply]
  refine wn0_eq r ⟨Lb l, Nat.mod_lt _ (by omega)⟩ _ (fun h => ?_) fun h => ?_
  · simp only [Lb] at *
    rw [if_pos (by omega), eA11_isE hG hk hC]
    congr 1; dsimp only; omega
  · simp only [Lb] at *
    rw [if_neg (by omega), if_pos (by omega), eA10_isE hG hk hC, if_neg (by omega)]
    congr 1; dsimp only; omega

theorem iA0_eq (l : Fin 128) : inv (I.fA0 key) (I.wA0 key) (ix2 0 l) = H.I (128 * 0 + l) := by
  rw [inv_apply, fA0_eq hG hk hC]; simp only [wA0_eq hG hk hC]; rfl
theorem iA1_eq (l : Fin 128) : inv (I.fA1 key) (I.wA1 key) (ix2 0 l) = H.I (128 * 1 + Lb l) := by
  rw [inv_apply, fA1_eq hG hk hC]; simp only [wA1_eq hG hk hC]; rfl

/-- Second result, first block, near rows. -/
theorem wOutA0_eq (r : Fin 64) (l : Fin 128) :
    wOut (I.wA0 key) (inv (I.fA0 key) (I.wA0 key)) (ix2 r l) = H.WOUT (128 * 0 + l) r := by
  rw [wOut_apply, wA0_eq hG hk hC, iA0_eq hG hk hC, Hd.WOUT, if_pos (by omega)]
/-- Second result, first block, far row. -/
theorem fOutA0_eq (l : Fin 128) :
    mulf (I.fA0 key) (inv (I.fA0 key) (I.wA0 key)) (ix2 0 l) = H.WOUT (128 * 0 + l) 64 := by
  rw [mul_apply, fA0_eq hG hk hC, iA0_eq hG hk hC, Hd.WOUT, if_neg (by omega)]
/-- Second result, second block, near rows. -/
theorem wOutA1_eq (r : Fin 64) (l : Fin 128) :
    rot64W (wOut (I.wA1 key) (inv (I.fA1 key) (I.wA1 key))) (ix2 r l) = H.WOUT (128 * 1 + l) r := by
  rw [rot64W_apply, wOut_apply, wA1_eq hG hk hC, iA1_eq hG hk hC, Hd.WOUT, if_pos (by omega), Lb_Lb]
/-- Second result, second block, far row. -/
theorem fOutA1_eq (l : Fin 128) :
    rot64 (mulf (I.fA1 key) (inv (I.fA1 key) (I.wA1 key))) (ix2 0 l) = H.WOUT (128 * 1 + l) 64 := by
  rw [rot64_apply, mul_apply, fA1_eq hG hk hC, iA1_eq hG hk hC, Hd.WOUT, if_neg (by omega), Lb_Lb]

end

/-! ## The second pair -/

section
variable {H : Hd} {I : In ℝI} (hG : Good H 1 I) {key : FVec ℝI S512x128 .fp8e4m3}
  (hk : ∀ (k : Fin 512) d, key (ix2 k d) = H.K k d) (hC : ∀ i < 512, 0 < H.C i)
include hG hk

theorem stB00 : IsS H 2 (fun l => l) 0 (extractStridedSlice S128x128 ![0, 0] (stB key I.q) slices_S512x256_o0_0_S128x128) := by
  intro k l
  pointwise
  rw [stB_apply]
  refine Finset.sum_congr rfl fun d _ => ?_
  rw [hk, q_apply0 hG]

theorem stB01 : IsS H 2 (fun l => l) 1 (extractStridedSlice S128x128 ![128, 0] (stB key I.q) slices_S512x256_o128_0_S128x128) := by
  intro k l
  pointwise
  rw [stB_apply]
  refine Finset.sum_congr rfl fun d _ => ?_
  rw [hk, q_apply0 hG]

theorem stB02 : IsS H 2 (fun l => l) 2 (extractStridedSlice S128x128 ![256, 0] (stB key I.q) slices_S512x256_o256_0_S128x128) := by
  intro k l
  pointwise
  rw [stB_apply]
  refine Finset.sum_congr rfl fun d _ => ?_
  rw [hk, q_apply0 hG]

theorem stB10 : IsS H 3 Lb 0 (extractStridedSlice S128x128 ![0, 128] (stB key I.q) slices_S512x256_o0_128_S128x128) := by
  intro k l
  pointwise
  rw [stB_apply]
  refine Finset.sum_congr rfl fun d _ => ?_
  rw [hk, q_apply1 hG]

theorem stB11 : IsS H 3 Lb 1 (extractStridedSlice S128x128 ![128, 128] (stB key I.q) slices_S512x256_o128_128_S128x128) := by
  intro k l
  pointwise
  rw [stB_apply]
  refine Finset.sum_congr rfl fun d _ => ?_
  rw [hk, q_apply1 hG]

theorem stB12 : IsS H 3 Lb 2 (extractStridedSlice S128x128 ![256, 128] (stB key I.q) slices_S512x256_o256_128_S128x128) := by
  intro k l
  pointwise
  rw [stB_apply]
  refine Finset.sum_congr rfl fun d _ => ?_
  rw [hk, q_apply1 hG]

theorem stB13 : IsS H 3 Lb 3 (extractStridedSlice S128x128 ![384, 128] (stB key I.q) slices_S512x256_o384_128_S128x128) := by
  intro k l
  pointwise
  rw [stB_apply]
  refine Finset.sum_congr rfl fun d _ => ?_
  rw [hk, q_apply1 hG]

theorem b00_isX : IsX H 2 (fun l => l) 0 (I.b00 key) := farT_isX (blk0 hG) (by omega) (stB00 hG hk) (hG.kb 0)
theorem b01_isX : IsX H 2 (fun l => l) 1 (I.b01 key) := prevT_isX (blk0 hG) rfl (stB01 hG hk) (hG.kb 1)
theorem b02_isX : IsX H 2 (fun l => l) 2 (I.b02 key) := diagT_isX (blk0 hG) (stB02 hG hk) (hG.kb 2)
theorem b10_isX : IsX H 3 Lb 0 (I.b10 key) := farT_isX (blk1 hG) (by omega) (stB10 hG hk) (hG.kb 0)
theorem b11_isX : IsX H 3 Lb 1 (I.b11 key) := farT_isX (blk1 hG) (by omega) (stB11 hG hk) (hG.kb 1)
theorem b12_isX : IsX H 3 Lb 2 (I.b12 key) := prevT_isX (blk1 hG) rfl (stB12 hG hk) (hG.kb 2)
theorem b13_isX : IsX H 3 Lb 3 (I.b13 key) := diagT_isX (blk1 hG) (stB13 hG hk) (hG.kb 3)

theorem mB0_eq (l : Fin 128) : I.mB0 key (ix2 0 l) = H.M (128 * 2 + l) :=
  colMax_eq (blk0 hG) (by omega) (fun k l => by
    rw [max_apply, max_apply, b00_isX hG hk, b01_isX hG hk, b02_isX hG hk]; simp [Finset.range_add_one]; ac_rfl) l
theorem mB1_eq (l : Fin 128) : I.mB1 key (ix2 0 l) = H.M (128 * 3 + Lb l) :=
  colMax_eq (blk1 hG) (by omega) (fun k l => by
    rw [max_apply, max_apply, max_apply, b10_isX hG hk, b11_isX hG hk, b12_isX hG hk, b13_isX hG hk]
    simp [Finset.range_add_one]; ac_rfl) l

include hC

theorem eB00_isE : IsE H 2 (fun l => l) 0 (I.eB00 key) :=
  eT_isE (blk0 hG) (fun l => hC _ (by omega)) (b00_isX hG hk) (mB0_eq hG hk)
theorem eB01_isE : IsE H 2 (fun l => l) 1 (I.eB01 key) :=
  eT_isE (blk0 hG) (fun l => hC _ (by omega)) (b01_isX hG hk) (mB0_eq hG hk)
theorem eB02_isE : IsE H 2 (fun l => l) 2 (I.eB02 key) :=
  eT_isE (blk0 hG) (fun l => hC _ (by omega)) (b02_isX hG hk) (mB0_eq hG hk)
theorem eB10_isE : IsE H 3 Lb 0 (I.eB10 key) :=
  eT_isE (blk1 hG) (fun l => hC _ (by simp only [Lb]; omega)) (b10_isX hG hk) (mB1_eq hG hk)
theorem eB11_isE : IsE H 3 Lb 1 (I.eB11 key) :=
  eT_isE (blk1 hG) (fun l => hC _ (by simp only [Lb]; omega)) (b11_isX hG hk) (mB1_eq hG hk)
theorem eB12_isE : IsE H 3 Lb 2 (I.eB12 key) :=
  eT_isE (blk1 hG) (fun l => hC _ (by simp only [Lb]; omega)) (b12_isX hG hk) (mB1_eq hG hk)
theorem eB13_isE : IsE H 3 Lb 3 (I.eB13 key) :=
  eT_isE (blk1 hG) (fun l => hC _ (by simp only [Lb]; omega)) (b13_isX hG hk) (mB1_eq hG hk)

theorem fB0_eq (l : Fin 128) : I.fB0 key (ix2 0 l) = H.Far (128 * 2 + l) :=
  colSum_eq (blk0 hG) (by omega) (fun k l => by
    rw [accD_apply (blk0 hG) (eB02_isE hG hk hC), accP_apply (blk0 hG) rfl (eB01_isE hG hk hC),
      accF_apply (blk0 hG) (by omega) (eB00_isE hG hk hC), zt_apply]
    simp [Finset.sum_range_succ]) l
theorem fB1_eq (l : Fin 128) : I.fB1 key (ix2 0 l) = H.Far (128 * 3 + Lb l) :=
  colSum_eq (blk1 hG) (by omega) (fun k l => by
    rw [accD_apply (blk1 hG) (eB13_isE hG hk hC), accP_apply (blk1 hG) rfl (eB12_isE hG hk hC),
      accF_apply (blk1 hG) (by omega) (eB11_isE hG hk hC), accF_apply (blk1 hG) (by omega) (eB10_isE hG hk hC), zt_apply]
    simp [Finset.sum_range_succ]) l

theorem wB0_eq (r : Fin 64) (l : Fin 128) : I.wB0 key (ix2 r l) = H.W (128 * 2 + l) r := by
  unfold In.wB0 In.xwB
  rw [wn0_apply, xwB_apply]
  simp only [Lb]
  refine wn0_eq r l _ (fun h => ?_) fun h => ?_
  · rw [if_neg (by omega), if_neg (by omega), if_pos (by omega), eB02_isE hG hk hC]
    congr 1; dsimp only; omega
  · rw [if_neg (by omega), if_neg (by omega), if_neg (by omega), if_pos (by omega), if_neg (by omega), eB01_isE hG hk hC]
    congr 1; dsimp only; omega
theorem wB1_eq (r : Fin 64) (l : Fin 128) : I.wB1 key (ix2 r l) = H.W (128 * 3 + Lb l) r := by
  unfold In.wB1 In.xwB
  rw [wn1_apply, xwB_apply]
  refine wn0_eq r ⟨Lb l, Nat.mod_lt _ (by omega)⟩ _ (fun h => ?_) fun h => ?_
  · simp only [Lb] at *
    rw [if_pos (by omega), eB13_isE hG hk hC]
    congr 1; dsimp only; omega
  · simp only [Lb] at *
    rw [if_neg (by omega), if_pos (by omega), eB12_isE hG hk hC, if_neg (by omega)]
    congr 1; dsimp only; omega

theorem iB0_eq (l : Fin 128) : inv (I.fB0 key) (I.wB0 key) (ix2 0 l) = H.I (128 * 2 + l) := by
  rw [inv_apply, fB0_eq hG hk hC]; simp only [wB0_eq hG hk hC]; rfl
theorem iB1_eq (l : Fin 128) : inv (I.fB1 key) (I.wB1 key) (ix2 0 l) = H.I (128 * 3 + Lb l) := by
  rw [inv_apply, fB1_eq hG hk hC]; simp only [wB1_eq hG hk hC]; rfl

/-- Second result, third block, near rows. -/
theorem wOutB0_eq (r : Fin 64) (l : Fin 128) :
    wOut (I.wB0 key) (inv (I.fB0 key) (I.wB0 key)) (ix2 r l) = H.WOUT (128 * 2 + l) r := by
  rw [wOut_apply, wB0_eq hG hk hC, iB0_eq hG hk hC, Hd.WOUT, if_pos (by omega)]
/-- Second result, third block, far row. -/
theorem fOutB0_eq (l : Fin 128) :
    mulf (I.fB0 key) (inv (I.fB0 key) (I.wB0 key)) (ix2 0 l) = H.WOUT (128 * 2 + l) 64 := by
  rw [mul_apply, fB0_eq hG hk hC, iB0_eq hG hk hC, Hd.WOUT, if_neg (by omega)]
/-- Second result, fourth block, near rows. -/
theorem wOutB1_eq (r : Fin 64) (l : Fin 128) :
    rot64W (wOut (I.wB1 key) (inv (I.fB1 key) (I.wB1 key))) (ix2 r l) = H.WOUT (128 * 3 + l) r := by
  rw [rot64W_apply, wOut_apply, wB1_eq hG hk hC, iB1_eq hG hk hC, Hd.WOUT, if_pos (by omega), Lb_Lb]
/-- Second result, fourth block, far row. -/
theorem fOutB1_eq (l : Fin 128) :
    rot64 (mulf (I.fB1 key) (inv (I.fB1 key) (I.wB1 key))) (ix2 0 l) = H.WOUT (128 * 3 + l) 64 := by
  rw [rot64_apply, mul_apply, fB1_eq hG hk hC, iB1_eq hG hk hC, Hd.WOUT, if_neg (by omega), Lb_Lb]

end

end Cert.KernelIdeal.Tile
-- ==== Proof.KernelIdeal.Out.lean ====
/- One pair of query blocks of one head: the output rows are the specification's. -/
module

public import proofs.«01_k».proof.Proof.KernelIdeal.Head

@[expose] public section

set_option maxRecDepth 16384

noncomputable section

namespace Cert.KernelIdeal.Tile

open Cert.KernelIdeal.Gen Cert.Spec
open Idealize.ShloMosaic Idealize.SL.Sem

local notation "ℝI" => Idealize.ShloMosaic.Ideal

theorem first_row : ∀ x : Fin 16, IntOp.cmpi .eq (BitVec.ofNat 32 x) 0#32 = 1 ↔ x = 0 := by decide

/-- A sum over 512 rows, block by block. -/
theorem sum_blocks (g : Fin 512 → EReal) : ∑ x : Fin 512, g x =
    ∑ x : Fin 128, g ⟨x, by omega⟩ + ∑ x : Fin 128, g ⟨128 + x, by omega⟩ +
      ∑ x : Fin 128, g ⟨256 + x, by omega⟩ + ∑ x : Fin 128, g ⟨384 + x, by omega⟩ := by
  rw [Fin.sum_univ_add (a := 384) (b := 128), Fin.sum_univ_add (a := 256) (b := 128),
    Fin.sum_univ_add (a := 128) (b := 128)]
  rfl

/-- The far weight is the only one of its sixteen rows. -/
theorem tail_sum (a : Fin 16 → EReal) :
    ∑ x : Fin 16, Scalar.select (IntOp.cmpi .eq (BitVec.ofNat 32 x) 0#32) (a x) 0 = a 0 := by
  rw [Finset.sum_eq_single 0]
  · rw [sel_one _ _ (first_row 0), if_pos rfl]
  · intro b _ hb; rw [sel_one _ _ (first_row b), if_neg hb]
  · intro h; exact absurd (Finset.mem_univ _) h

section
variable (vt : FVec ℝI S128x512 .bf16) (avt : FVec ℝI S128x80 .bf16) (p0 p1 p2 p3 q0 q1 q2 q3 : FVec ℝI S128x128 .bf16)
  (w0 w1 : FVec ℝI S64x128 .f32) (f0 f1 i0 i1 : FVec ℝI S1x128 .f32) (l d : Fin 128)

theorem bf_apply (x : FVec ℝI S128x128 .f32) (k l : Fin 128) : bf x (ix2 k l) = x (ix2 k l) := by pointwise [bf]

theorem finA_apply0 : fin (dotA vt avt (rhsA p0 p1 w0 f0) (rhsA q0 q1 w1 f1)) i0 i1 (ix2 ⟨l, by omega⟩ d) =
    ((∑ x : Fin 128, vt (ix2 d ⟨x, by omega⟩) * p0 (ix2 x l) + ∑ x : Fin 128, vt (ix2 d ⟨128 + x, by omega⟩) * p1 (ix2 x l)) +
      (∑ x : Fin 64, avt (ix2 d ⟨x, by omega⟩) * w0 (ix2 x l) + avt (ix2 d ⟨64, by omega⟩) * f0 (ix2 0 l))) * i0 (ix2 0 l) := by
  pointwise [fin, dotA, rhsA, tail]
  rw [tail_sum fun x => avt (ix2 d ⟨64 + x, by omega⟩) * f0 (ix2 0 l)]
  rfl
theorem finA_apply1 : fin (dotA vt avt (rhsA p0 p1 w0 f0) (rhsA q0 q1 w1 f1)) i0 i1 (ix2 ⟨128 + l, by omega⟩ d) =
    ((∑ x : Fin 128, vt (ix2 d ⟨x, by omega⟩) * q0 (ix2 x l) + ∑ x : Fin 128, vt (ix2 d ⟨128 + x, by omega⟩) * q1 (ix2 x l)) +
      (∑ x : Fin 64, avt (ix2 d ⟨x, by omega⟩) * w1 (ix2 x l) + avt (ix2 d ⟨64, by omega⟩) * f1 (ix2 0 l))) * i1 (ix2 0 l) := by
  pointwise [fin, dotA, rhsA, tail]
  rw [tail_sum fun x => avt (ix2 d ⟨64 + x, by omega⟩) * f1 (ix2 0 l)]
  rfl
theorem finB_apply0 : fin (dotB vt avt (rhsB p0 p1 p2 p3 w0 f0) (rhsB q0 q1 q2 q3 w1 f1)) i0 i1 (ix2 ⟨l, by omega⟩ d) =
    ((∑ x : Fin 128, vt (ix2 d ⟨x, by omega⟩) * p0 (ix2 x l) + ∑ x : Fin 128, vt (ix2 d ⟨128 + x, by omega⟩) * p1 (ix2 x l) +
      ∑ x : Fin 128, vt (ix2 d ⟨256 + x, by omega⟩) * p2 (ix2 x l) + ∑ x : Fin 128, vt (ix2 d ⟨384 + x, by omega⟩) * p3 (ix2 x l)) +
      (∑ x : Fin 64, avt (ix2 d ⟨x, by omega⟩) * w0 (ix2 x l) + avt (ix2 d ⟨64, by omega⟩) * f0 (ix2 0 l))) * i0 (ix2 0 l) := by
  pointwise [fin, dotB, rhsB, tail]
  rw [tail_sum fun x => avt (ix2 d ⟨64 + x, by omega⟩) * f0 (ix2 0 l)]
  rw [sum_blocks]
  refine congrArg (· * _) (congrArg₂ (· + ·) (congrArg₂ (· + ·) (congrArg₂ (· + ·) (congrArg₂ (· + ·) ?_ ?_) ?_) ?_) rfl)
  all_goals (refine Finset.sum_congr rfl fun x _ => congrArg _ ?_)
  · rw [dif_pos (show (x : ℕ) < 128 by omega)]
  · rw [dif_neg (show ¬ 128 + (x : ℕ) < 128 by omega), dif_pos (show 128 + (x : ℕ) - 128 < 128 by omega)]; simp only [Nat.add_sub_cancel_left]
  · rw [dif_neg (show ¬ 256 + (x : ℕ) < 128 by omega), dif_neg (show ¬ 256 + (x : ℕ) - 128 < 128 by omega),
      dif_pos (show 256 + (x : ℕ) - 128 - 128 < 128 by omega)]
    exact congrArg p2 (congrArg (fun x => ix2 x l) (Fin.ext (show 256 + (x : ℕ) - 128 - 128 = x by omega)))
  · rw [dif_neg (show ¬ 384 + (x : ℕ) < 128 by omega), dif_neg (show ¬ 384 + (x : ℕ) - 128 < 128 by omega),
      dif_neg (show ¬ 384 + (x : ℕ) - 128 - 128 < 128 by omega)]
    exact congrArg p3 (congrArg (fun x => ix2 x l) (Fin.ext (show 384 + (x : ℕ) - 128 - 128 - 128 = x by omega)))
theorem finB_apply1 : fin (dotB vt avt (rhsB p0 p1 p2 p3 w0 f0) (rhsB q0 q1 q2 q3 w1 f1)) i0 i1 (ix2 ⟨128 + l, by omega⟩ d) =
    ((∑ x : Fin 128, vt (ix2 d ⟨x, by omega⟩) * q0 (ix2 x l) + ∑ x : Fin 128, vt (ix2 d ⟨128 + x, by omega⟩) * q1 (ix2 x l) +
      ∑ x : Fin 128, vt (ix2 d ⟨256 + x, by omega⟩) * q2 (ix2 x l) + ∑ x : Fin 128, vt (ix2 d ⟨384 + x, by omega⟩) * q3 (ix2 x l)) +
      (∑ x : Fin 64, avt (ix2 d ⟨x, by omega⟩) * w1 (ix2 x l) + avt (ix2 d ⟨64, by omega⟩) * f1 (ix2 0 l))) * i1 (ix2 0 l) := by
  pointwise [fin, dotB, rhsB, tail]
  rw [tail_sum fun x => avt (ix2 d ⟨64 + x, by omega⟩) * f1 (ix2 0 l)]
  rw [sum_blocks]
  refine congrArg (· * _) (congrArg₂ (· + ·) (congrArg₂ (· + ·) (congrArg₂ (· + ·) (congrArg₂ (· + ·) ?_ ?_) ?_) ?_) rfl)
  all_goals (refine Finset.sum_congr rfl fun x _ => congrArg _ ?_)
  · rw [dif_pos (show (x : ℕ) < 128 by omega)]
  · rw [dif_neg (show ¬ 128 + (x : ℕ) < 128 by omega), dif_pos (show 128 + (x : ℕ) - 128 < 128 by omega)]; simp only [Nat.add_sub_cancel_left]
  · rw [dif_neg (show ¬ 256 + (x : ℕ) < 128 by omega), dif_neg (show ¬ 256 + (x : ℕ) - 128 < 128 by omega),
      dif_pos (show 256 + (x : ℕ) - 128 - 128 < 128 by omega)]
    exact congrArg q2 (congrArg (fun x => ix2 x l) (Fin.ext (show 256 + (x : ℕ) - 128 - 128 = x by omega)))
  · rw [dif_neg (show ¬ 384 + (x : ℕ) < 128 by omega), dif_neg (show ¬ 384 + (x : ℕ) - 128 < 128 by omega),
      dif_neg (show ¬ 384 + (x : ℕ) - 128 - 128 < 128 by omega)]
    exact congrArg q3 (congrArg (fun x => ix2 x l) (Fin.ext (show 384 + (x : ℕ) - 128 - 128 - 128 = x by omega)))
end

/-- What the body has for the values and the value table is head `H`'s. -/
structure GoodV (H : Hd) (vt : FVec ℝI S128x512 .bf16) (avt : FVec ℝI S128x80 .bf16) : Prop where
  /-- Values. -/
  vt : ∀ d (k : Fin 512), vt (ix2 d k) = H.V k d * H.vs k
  /-- Value table. -/
  avt : ∀ d (r : ℕ) (hr : r < 65), avt (ix2 d ⟨r, by omega⟩) = H.AV r d * H.avs r

section
variable {H : Hd} {vt : FVec ℝI S128x512 .bf16} {avt : FVec ℝI S128x80 .bf16} (hV : GoodV H vt avt)

section
variable {I : In ℝI} (hG : Good H 0 I) {key : FVec ℝI S256x128 .fp8e4m3}
  (hk : ∀ (k : Fin 256) d, key (ix2 k d) = H.K k d) (hC : ∀ i < 512, 0 < H.C i)
include hV hG hk hC

theorem oA0_eq (l d : Fin 128) : I.oA vt avt key (ix2 ⟨l, by omega⟩ d) = H.OUT (128 * 0 + l) d := by
  unfold In.oA Hd.OUT
  rw [finA_apply0, iA0_eq hG hk hC, fA0_eq hG hk hC, ← vals_eq (blk0 hG) (fun k => H.V k d * H.vs k) l (n := 2) (by omega) (by omega)]
  simp only [Finset.sum_range_succ, Finset.sum_range_zero, zero_add, bf_apply, wA0_eq hG hk hC, eA00_isE hG hk hC _ _,
    zb_isE (H := H) (B := 0) (j := 1) (L := fun l => l) (fun l => l.2) (by omega) _ _, hV.vt]
  simp (disch := omega) only [hV.avt]
  rfl
theorem oA1_eq (l d : Fin 128) : I.oA vt avt key (ix2 ⟨128 + l, by omega⟩ d) = H.OUT (128 * 1 + Lb l) d := by
  unfold In.oA Hd.OUT
  rw [finA_apply1, iA1_eq hG hk hC, fA1_eq hG hk hC, ← vals_eq (blk1 hG) (fun k => H.V k d * H.vs k) l (n := 2) (by omega) (by omega)]
  simp only [Finset.sum_range_succ, Finset.sum_range_zero, zero_add, bf_apply, wA1_eq hG hk hC, eA10_isE hG hk hC _ _,
    eA11_isE hG hk hC _ _, hV.vt]
  simp (disch := omega) only [hV.avt]
  rfl
end

section
variable {I : In ℝI} (hG : Good H 1 I) {key : FVec ℝI S512x128 .fp8e4m3}
  (hk : ∀ (k : Fin 512) d, key (ix2 k d) = H.K k d) (hC : ∀ i < 512, 0 < H.C i)
include hV hG hk hC

theorem oB0_eq (l d : Fin 128) : I.oB vt avt key (ix2 ⟨l, by omega⟩ d) = H.OUT (128 * 2 + l) d := by
  unfold In.oB Hd.OUT
  rw [finB_apply0, iB0_eq hG hk hC, fB0_eq hG hk hC, ← vals_eq (blk0 hG) (fun k => H.V k d * H.vs k) l (n := 4) (by omega) (by omega)]
  simp only [Finset.sum_range_succ, Finset.sum_range_zero, zero_add, bf_apply, wB0_eq hG hk hC, eB00_isE hG hk hC _ _,
    eB01_isE hG hk hC _ _, eB02_isE hG hk hC _ _,
    zb_isE (H := H) (B := 2) (j := 3) (L := fun l => l) (fun l => l.2) (by omega) _ _, hV.vt]
  simp (disch := omega) only [hV.avt]
  rfl
theorem oB1_eq (l d : Fin 128) : I.oB vt avt key (ix2 ⟨128 + l, by omega⟩ d) = H.OUT (128 * 3 + Lb l) d := by
  unfold In.oB Hd.OUT
  rw [finB_apply1, iB1_eq hG hk hC, fB1_eq hG hk hC, ← vals_eq (blk1 hG) (fun k => H.V k d * H.vs k) l (n := 4) (by omega) (by omega)]
  simp only [Finset.sum_range_succ, Finset.sum_range_zero, zero_add, bf_apply, wB1_eq hG hk hC, eB10_isE hG hk hC _ _,
    eB11_isE hG hk hC _ _, eB12_isE hG hk hC _ _, eB13_isE hG hk hC _ _, hV.vt]
  simp (disch := omega) only [hV.avt]
  rfl
end
end

end Cert.KernelIdeal.Tile
-- ==== Proof.Equation.lean ====
/- One head of one batch: the plain formula the reference computes is what the kernel computes. -/
module

public import proofs.«01_k».proof.Proof.Spec

@[expose] public section

noncomputable section

namespace Cert.Spec

open Idealize.ShloMosaic
open Finset

/-- The product of a positive real distributes over a difference of extended reals, at the infinities too. -/
theorem sub_mul_pos (x y : EReal) {c : ℝ} (hc : 0 < c) : x * (c : EReal) - y * c = (x - y) * c := by
  induction x with
  | bot => rw [EReal.bot_sub, EReal.bot_mul_coe_of_pos hc, EReal.bot_sub]
  | top =>
    rw [EReal.top_mul_coe_of_pos hc]
    induction y with
    | bot => rw [EReal.bot_mul_coe_of_pos hc]; show (⊤ : EReal) - ⊥ = (⊤ - ⊥) * _
             rw [EReal.top_sub_bot, EReal.top_mul_coe_of_pos hc]
    | top => rw [EReal.top_mul_coe_of_pos hc, EReal.sub_top, EReal.bot_mul_coe_of_pos hc]
    | coe y => rw [← EReal.coe_mul, EReal.top_sub_coe, EReal.top_sub_coe, EReal.top_mul_coe_of_pos hc]
  | coe x =>
    induction y with
    | bot => rw [EReal.bot_mul_coe_of_pos hc, ← EReal.coe_mul, EReal.coe_sub_bot, EReal.coe_sub_bot, EReal.top_mul_coe_of_pos hc]
    | top => rw [EReal.top_mul_coe_of_pos hc, EReal.sub_top, EReal.sub_top, EReal.bot_mul_coe_of_pos hc]
    | coe y => rw [← EReal.coe_mul, ← EReal.coe_mul, ← EReal.coe_sub, ← EReal.coe_sub, ← EReal.coe_mul, sub_mul]

/-- The natural exponential as a power of two. -/
theorem exp_eq_exp2 (y : EReal) {c : ℝ} (hc : 0 < c) :
    Ideal.exp (y * (c : EReal)) = Ideal.exp2 (y * ((c * (Real.log 2)⁻¹ : ℝ) : EReal)) := by
  have hl : 0 < Real.log 2 := Real.log_pos (by norm_num)
  have hd : 0 < c * (Real.log 2)⁻¹ := mul_pos hc (inv_pos.2 hl)
  induction y with
  | bot => rw [EReal.bot_mul_coe_of_pos hc, EReal.bot_mul_coe_of_pos hd]; rfl
  | top => rw [EReal.top_mul_coe_of_pos hc, EReal.top_mul_coe_of_pos hd]; rfl
  | coe y =>
    rw [← EReal.coe_mul, ← EReal.coe_mul, Ideal.exp2_coe]
    show ((Real.exp (y * c) : ℝ) : EReal) = _
    congr 1
    show _ = (2 : ℝ) ^ (_ : ℝ)
    rw [Real.rpow_def_of_pos (by norm_num)]
    congr 1
    field_simp

theorem exp2_nonneg (y : EReal) : 0 ≤ Ideal.exp2 y := by
  induction y with
  | bot => exact le_refl _
  | top => exact le_top
  | coe y => rw [Ideal.exp2_coe]; exact_mod_cast Real.rpow_nonneg (by norm_num) _

theorem exp2_le_one {y : EReal} (h : y ≤ 0) : Ideal.exp2 y ≤ 1 := by
  induction y with
  | bot => rw [Ideal.exp2_bot]; exact zero_le_one
  | top => exact absurd h (by simp)
  | coe y =>
    rw [Ideal.exp2_coe]
    have : y ≤ 0 := by exact_mod_cast h
    exact_mod_cast Real.rpow_le_one_of_one_le_of_nonpos (by norm_num) this

theorem sum_mul_nonneg {ι : Type*} (s : Finset ι) (f : ι → EReal) (h : ∀ x, 0 ≤ f x) (c : EReal) :
    (∑ x ∈ s, f x) * c = ∑ x ∈ s, f x * c := by
  classical
  induction s using Finset.induction_on with
  | empty => simp
  | insert a s ha ih =>
    rw [Finset.sum_insert ha, Finset.sum_insert ha, EReal.right_distrib_of_nonneg (h a) (Finset.sum_nonneg fun x _ => h x), ih]

theorem sum_mul_real {ι : Type*} (s : Finset ι) (f : ι → EReal) {c : EReal} (h0 : 0 ≤ c) (h1 : c ≠ ⊤) :
    (∑ x ∈ s, f x) * c = ∑ x ∈ s, f x * c := by
  classical
  induction s using Finset.induction_on with
  | empty => simp
  | insert a s ha ih =>
    rw [Finset.sum_insert ha, Finset.sum_insert ha, EReal.right_distrib_of_nonneg_of_ne_top h0 h1, ih]

theorem sum_ne_top {ι : Type*} (s : Finset ι) (f : ι → EReal) (h : ∀ x, f x ≠ ⊤) : ∑ x ∈ s, f x ≠ ⊤ := by
  classical
  induction s using Finset.induction_on with
  | empty => simp
  | insert a s ha ih => rw [Finset.sum_insert ha]; exact EReal.add_ne_top (h a) ih

namespace Hd
variable (H : Hd)

/-- One where key `k` is at distance `r` from query `i`, the distances from 64 on counted as one. -/
def hot (i k r : ℕ) : EReal := if k ≤ i ∧ min (i - k) 64 = r then 1 else 0
/-- The reference's score. -/
def RS (sc : EReal) (i k : ℕ) : EReal :=
  if k ≤ i then ((∑ d, H.Q i d * H.K k d) * H.ks k + ∑ r : Fin 65, hot i k r * ((∑ d, H.AK r d * H.Q i d) * H.aks r)) * (H.qs i * sc)
  else ⊥
/-- The reference's weight before it is normalised. -/
def RE (sc : EReal) (i k : ℕ) : EReal := Ideal.exp (H.RS sc i k - (univ : Finset (Fin 512)).sup fun k => H.RS sc i k)
/-- The reference's weight. -/
def RP (sc : EReal) (i k : ℕ) : EReal := H.RE sc i k * Ideal.div 1 (∑ k : Fin 512, H.RE sc i k)
/-- The reference's second result. -/
def RW (sc : EReal) (i r : ℕ) : EReal := ∑ k : Fin 512, hot i k r * H.RP sc i k
/-- The reference's first result. -/
def ROUT (sc : EReal) (i : ℕ) (d : Fin 128) : EReal :=
  ∑ k : Fin 512, H.V k d * (H.RP sc i k * H.vs k) + ∑ r : Fin 65, H.AV r d * H.avs r * H.RW sc i r

variable {H} {sc : ℝ} {i : ℕ} {q : ℝ} (hq : H.qs i = q) (q0 : 0 < q) (s0 : 0 < sc)
  (hk : H.kap = ((sc * (Real.log 2)⁻¹ : ℝ) : EReal))
include hq q0 s0

theorem RS_eq (k : ℕ) : H.RS sc i k = H.X i k * ((q * sc : ℝ) : EReal) := by
  unfold RS
  split
  · rename_i h
    unfold X
    rw [if_pos h, hq, ← EReal.coe_mul]
    congr 2
    · congr 1; exact Finset.sum_congr rfl fun d _ => mul_comm _ _
    · rw [Finset.sum_eq_single (⟨min (i - k) 64, by omega⟩ : Fin 65)]
      · unfold hot QA; rw [if_pos ⟨h, rfl⟩, one_mul]
        congr 1; exact Finset.sum_congr rfl fun d _ => mul_comm _ _
      · intro b _ hb
        unfold hot; rw [if_neg, zero_mul]
        rintro ⟨_, h2⟩; exact hb (Fin.ext h2.symm)
      · intro h; exact absurd (mem_univ _) h
  · rename_i h
    rw [H.X_of_lt (by omega), EReal.bot_mul_coe_of_pos (mul_pos q0 s0)]

theorem RM_eq : ((univ : Finset (Fin 512)).sup fun k => H.RS sc i k) = H.M i * ((q * sc : ℝ) : EReal) := by
  have hc := mul_pos q0 s0
  have h1 : ((univ : Finset (Fin 512)).sup fun k => H.RS sc i k) = (range 512).sup fun k => H.X i k * ((q * sc : ℝ) : EReal) := by
    apply le_antisymm
    · refine Finset.sup_le fun k _ => ?_
      rw [RS_eq hq q0 s0]
      exact Finset.le_sup (f := fun k => H.X i k * ((q * sc : ℝ) : EReal)) (mem_range.2 k.2)
    · refine Finset.sup_le fun k hk => ?_
      rw [← RS_eq hq q0 s0]
      exact Finset.le_sup (f := fun k : Fin 512 => H.RS sc i k) (mem_univ ⟨k, mem_range.1 hk⟩)
  rw [h1]
  unfold M
  have hmono : Monotone fun x : EReal => x * ((q * sc : ℝ) : EReal) := fun a b h =>
    mul_le_mul_of_nonneg_right h (by exact_mod_cast hc.le)
  exact (Finset.comp_sup_eq_sup_comp_of_is_total (fun x : EReal => x * ((q * sc : ℝ) : EReal)) hmono (EReal.bot_mul_coe_of_pos hc)).symm

include hk
theorem C_eq : H.C i = ((q * sc * (Real.log 2)⁻¹ : ℝ) : EReal) := by
  unfold C; rw [hq, hk, ← EReal.coe_mul, mul_assoc]

theorem C_pos : 0 < H.C i := by
  rw [C_eq hq q0 s0 hk]
  exact_mod_cast mul_pos (mul_pos q0 s0) (inv_pos.2 (Real.log_pos (by norm_num)))

theorem RE_eq (k : ℕ) : H.RE sc i k = H.E i k := by
  unfold RE
  rw [RM_eq hq q0 s0, RS_eq hq q0 s0, sub_mul_pos _ _ (mul_pos q0 s0), exp_eq_exp2 _ (mul_pos q0 s0), ← C_eq hq q0 s0 hk,
    H.E_eq (C_pos hq q0 s0 hk)]
omit hq q0 s0 hk

theorem E_nonneg (k : ℕ) : 0 ≤ H.E i k := by
  unfold E; split
  · exact exp2_nonneg _
  · exact le_refl _

theorem X_le_M {k : ℕ} (hk : k < 512) : H.X i k ≤ H.M i := Finset.le_sup (f := H.X i) (mem_range.2 hk)

theorem E_le_one (hC : 0 < H.C i) {k : ℕ} (hk : k < 512) : H.E i k ≤ 1 := by
  unfold E; split
  · refine exp2_le_one ?_
    have h1 : H.X i k - H.M i ≤ 0 := by
      rw [sub_eq_add_neg]
      exact le_trans (add_le_add_left (X_le_M hk) _) (by rw [← sub_eq_add_neg]; exact EReal.sub_self_le_zero)
    exact mul_nonpos_of_nonpos_of_nonneg h1 hC.le
  · exact zero_le_one

theorem sum_hot {r : ℕ} (hr : r < 64) (f : ℕ → EReal) :
    ∑ k : Fin 512, hot i k r * f k = if r ≤ i ∧ i - r < 512 then f (i - r) else 0 := by
  unfold hot
  split
  · rename_i h
    rw [Finset.sum_eq_single (⟨i - r, h.2⟩ : Fin 512)]
    · rw [if_pos (by constructor <;> simp <;> omega), one_mul]
    · intro b _ hb
      rw [if_neg, zero_mul]
      rintro ⟨h1, h2⟩
      exact hb (Fin.ext (by show (b : ℕ) = i - r; omega))
    · intro h; exact absurd (mem_univ _) h
  · rename_i h
    refine Finset.sum_eq_zero fun b _ => ?_
    rw [if_neg, zero_mul]
    rintro ⟨h1, h2⟩
    exact h ⟨by omega, by omega⟩

theorem sum_hot64 (f : ℕ → EReal) :
    ∑ k : Fin 512, hot i k 64 * f k = ∑ k ∈ range 512, if k + 64 ≤ i then f k else 0 := by
  rw [Fin.sum_univ_eq_sum_range (fun k => hot i k 64 * f k) 512]
  refine Finset.sum_congr rfl fun k _ => ?_
  unfold hot
  by_cases h : k + 64 ≤ i
  · rw [if_pos h, if_pos (by omega), one_mul]
  · rw [if_neg h, if_neg (by omega), zero_mul]

/-- All weights of a query: those far away and those near. -/
theorem sum_E (hi : i < 512) : ∑ k : Fin 512, H.E i k = H.Far i + ∑ r : Fin 64, H.W i r := by
  have hW : ∀ r : Fin 64, H.W i r = ∑ k : Fin 512, hot i k r * H.E i k := fun r => by
    rw [sum_hot r.2]; unfold W
    by_cases h : (r : ℕ) ≤ i
    · rw [if_pos h, if_pos ⟨h, by omega⟩]
    · rw [if_neg h, if_neg (by omega)]
  simp only [hW]
  rw [Finset.sum_comm]
  unfold Far
  rw [← Fin.sum_univ_eq_sum_range (fun k => if k + 64 ≤ i then H.E i k else 0) 512, ← Finset.sum_add_distrib]
  refine Finset.sum_congr rfl fun k _ => ?_
  unfold hot
  by_cases h : (k : ℕ) + 64 ≤ i
  · rw [if_pos h, Finset.sum_eq_zero, add_zero]
    intro r _; rw [if_neg (by omega), zero_mul]
  · rw [if_neg h, zero_add]
    by_cases h1 : (k : ℕ) ≤ i
    · rw [Finset.sum_eq_single (⟨i - k, by omega⟩ : Fin 64)]
      · rw [if_pos ⟨h1, by show min (i - k) 64 = i - k; omega⟩, one_mul]
      · intro b _ hb
        rw [if_neg, zero_mul]
        rintro ⟨_, h2⟩; exact hb (Fin.ext (by show (b : ℕ) = i - k; omega))
      · intro h; exact absurd (mem_univ _) h
    · rw [H.E_of_lt (by omega), Finset.sum_eq_zero]
      intro r _; rw [mul_zero]

include hq q0 s0 hk
theorem RP_eq (hi : i < 512) (k : ℕ) : H.RP sc i k = H.E i k * H.I i := by
  unfold RP I
  rw [RE_eq hq q0 s0 hk, ← sum_E hi]
  congr 3
  exact funext fun k => RE_eq hq q0 s0 hk k

/-- The second result. -/
theorem RW_eq (hi : i < 512) {r : ℕ} (hr : r < 65) : H.RW sc i r = H.WOUT i r := by
  unfold RW WOUT
  split
  · rename_i h
    rw [sum_hot h]
    unfold W
    by_cases h1 : r ≤ i
    · rw [if_pos ⟨h1, by omega⟩, if_pos h1, RP_eq hq q0 s0 hk hi]
    · rw [if_neg (by omega), if_neg h1, zero_mul]
  · rename_i h
    obtain rfl : r = 64 := by omega
    rw [sum_hot64]
    unfold Far
    rw [sum_mul_nonneg]
    · refine Finset.sum_congr rfl fun k _ => ?_
      split
      · exact RP_eq hq q0 s0 hk hi k
      · rw [zero_mul]
    · intro k; split
      · exact E_nonneg k
      · exact le_refl _

/-- The first result. -/
theorem ROUT_eq (hi : i < 512) (d : Fin 128) : H.ROUT sc i d = H.OUT i d := by
  have hC := C_pos hq q0 s0 hk
  unfold ROUT OUT
  have hW : ∀ r : Fin 65, H.RW sc i r = H.WOUT i r := fun r => RW_eq hq q0 s0 hk hi r.2
  simp only [hW, RP_eq hq q0 s0 hk hi]
  rw [Fin.sum_univ_castSucc (n := 64), Fin.sum_univ_eq_sum_range (fun k => H.V k d * (H.E i k * H.I i * H.vs k)) 512]
  have hw : ∀ r : Fin 64, H.WOUT i r = H.W i r * H.I i := fun r => by
    unfold WOUT; rw [if_pos r.2]
  have hf : H.WOUT i 64 = H.Far i * H.I i := by
    unfold WOUT; rw [if_neg (by simp)]
  simp only [Fin.val_castSucc, Fin.val_last, hw, hf]
  have hS0 : 0 ≤ ∑ k : Fin 512, H.E i k := Finset.sum_nonneg fun k _ => E_nonneg _
  rcases hS0.eq_or_lt with h0 | h0
  · -- every weight is zero
    have hE : ∀ k < 512, H.E i k = 0 := fun k hk =>
      (Finset.sum_eq_zero_iff_of_nonneg fun k _ => E_nonneg _).1 h0.symm ⟨k, hk⟩ (mem_univ _)
    have hF : H.Far i = 0 := Finset.sum_eq_zero fun k hk => by
      rw [hE k (mem_range.1 hk)]; simp
    have hWz : ∀ r : Fin 64, H.W i r = 0 := fun r => by
      unfold W; split
      · exact hE _ (by omega)
      · rfl
    have h1 : ∀ c : ℕ → EReal, ∑ k ∈ range 512, c k * H.E i k = 0 := fun c =>
      Finset.sum_eq_zero fun k hk => by rw [hE k (mem_range.1 hk), mul_zero]
    have h2 : ∑ k ∈ range 512, H.V k d * (H.E i k * H.I i * H.vs k) = 0 :=
      Finset.sum_eq_zero fun k hk => by rw [hE k (mem_range.1 hk)]; simp
    rw [h1 (fun k => H.V k d * H.vs k), h2]
    simp [hF, hWz]
  · -- the sum of the weights is a positive real
    have hT : ∑ k : Fin 512, H.E i k ≠ ⊤ := sum_ne_top _ _ fun k => ne_of_lt (lt_of_le_of_lt (E_le_one hC k.2) (by exact_mod_cast EReal.coe_lt_top 1))
    obtain ⟨s, hs⟩ : ∃ s : ℝ, ∑ k : Fin 512, H.E i k = s :=
      ⟨_, (EReal.coe_toReal hT (ne_of_gt (lt_of_le_of_lt bot_le h0))).symm⟩
    have hs0 : 0 < s := by rw [hs] at h0; exact_mod_cast h0
    have hI : H.I i = ((1 / s : ℝ) : EReal) := by
      unfold I; rw [← sum_E hi, hs, Ideal.div_coe hs0.ne', one_mul]
    have hI0 : 0 ≤ H.I i := by rw [hI]; exact_mod_cast (one_div_pos.2 hs0).le
    have hI1 : H.I i ≠ ⊤ := by rw [hI]; exact EReal.coe_ne_top _
    rw [EReal.right_distrib_of_nonneg_of_ne_top hI0 hI1, EReal.right_distrib_of_nonneg_of_ne_top hI0 hI1,
      sum_mul_real _ _ hI0 hI1, sum_mul_real _ _ hI0 hI1]
    congr 1
    · exact Finset.sum_congr rfl fun k _ => by ac_rfl
    · congr 1
      · exact Finset.sum_congr rfl fun k _ => by ac_rfl
      · ac_rfl

end Hd
end Cert.Spec
-- ==== Proof.KernelIdeal.Prep.lean ====
/- What a unit of the body reads, as one head's data: the blocks of the arguments, the near tables and the scratch copies of
   the key scales and the value table. -/
module

public import proofs.«01_k».proof.Proof.KernelIdeal.Unit
public import proofs.«01_k».proof.Proof.KernelIdeal.Out
public import proofs.«01_k».proof.Proof.Equation
public import Idealize.ShloMosaic.Lib.Pipeline.ValueKit.Tiles
import all proofs.«01_k».proof.Proof.KernelIdeal.Run
import all proofs.«01_k».proof.Proof.KernelIdeal.Unit

@[expose] public section

set_option maxRecDepth 16384

noncomputable section

namespace Cert.KernelIdeal.Body

open Cert.KernelIdeal.Gen
open Idealize.ShloMosaic Idealize.ShloMosaic.TcCoe Idealize.ShloMosaic.Tactic Idealize.SL.Sem
open Cert.Spec Cert.KernelIdeal.Tile

local notation "ℝI" => Idealize.ShloMosaic.Ideal

/-- The blocks hold head `H`'s data in batch `b`; the scale tables' row is `h`. -/
structure Src (H : Hd) (b : Fin 4) (h : Fin 20)
    (x0 : Vec ℝI S4x1x512x128 .fp8e4m3) (x1 : Vec ℝI S1x4x512 .f32) (x2 : Vec ℝI S4x1x512x128 .fp8e4m3)
    (x3 : Vec ℝI S1x4x512 .f32) (x4 : Vec ℝI S4x1x512x128 .fp8e4m3) (x5 : Vec ℝI S1x4x512 .f32)
    (x6 : Vec ℝI S1x65x128 .i8) (x7 : Vec ℝI S20x65 .f32) (x8 : Vec ℝI S1x65x128 .i8) (x9 : Vec ℝI S20x65 .f32) : Prop where
  /-- Queries. -/
  q : ∀ (k : ℕ) (hk : k < 512) d, x0 (ix4 b 0 ⟨k, hk⟩ d) = H.Q k d
  /-- Query scales. -/
  qs : ∀ (k : ℕ) (hk : k < 512), x1 (ix3 0 b ⟨k, hk⟩) = H.qs k
  /-- Keys. -/
  k : ∀ (k : ℕ) (hk : k < 512) d, x2 (ix4 b 0 ⟨k, hk⟩ d) = H.K k d
  /-- Key scales. -/
  ks : ∀ (k : ℕ) (hk : k < 512), x3 (ix3 0 b ⟨k, hk⟩) = H.ks k
  /-- Values. -/
  v : ∀ (k : ℕ) (hk : k < 512) d, x4 (ix4 b 0 ⟨k, hk⟩ d) = H.V k d
  /-- Value scales. -/
  vs : ∀ (k : ℕ) (hk : k < 512), x5 (ix3 0 b ⟨k, hk⟩) = H.vs k
  /-- Key table. -/
  ak : ∀ (r : ℕ) (hr : r < 65) d, (((x6 (ix3 0 ⟨r, hr⟩ d) : BitVec 8).toInt : ℝ) : EReal) = H.AK r d
  /-- Its scales. -/
  aks : ∀ (r : ℕ) (hr : r < 65), x7 (ix2 h ⟨r, hr⟩) = H.aks r
  /-- Value table. -/
  av : ∀ (r : ℕ) (hr : r < 65) d, (((x8 (ix3 0 ⟨r, hr⟩ d) : BitVec 8).toInt : ℝ) : EReal) = H.AV r d
  /-- Its scales. -/
  avs : ∀ (r : ℕ) (hr : r < 65), x9 (ix2 h ⟨r, hr⟩) = H.avs r
  /-- The factor. -/
  kap : H.kap = (((11863283 / 134217728) * (Real.log 2)⁻¹ : ℝ) : EReal)
  /-- Query scales are finite and positive. -/
  qfin : ∀ k < 512, ∃ q : ℝ, H.qs k = q ∧ 0 < q
  /-- Key scales are finite. -/
  kfin : ∀ k < 512, ∃ a : ℝ, H.ks k = a
  /-- Key table scales are finite. -/
  afin : ∀ r < 65, ∃ a : ℝ, H.aks r = a

/-- A finite number less itself is nothing. -/
theorem fin_sub {x : EReal} (h : ∃ a : ℝ, x = a) : x - x = 0 := by
  obtain ⟨a, rfl⟩ := h; rw [← EReal.coe_sub, sub_self]; rfl

/-- Which row of the table a lane's near bias reads. -/
theorem sel_word : ∀ (l : Fin 128) (j : Fin 64),
    IntOp.cmpi .eq (BitVec.ofNat 32 j) (IntOp.subi 63#32 (IntOp.andi (BitVec.ofNat 32 l) 63#32)) = 1 ↔ (j : ℕ) = 63 - (l : ℕ) % 64 := by
  decide +kernel

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec ℝI S4x1x512x128 .fp8e4m3)
variable (x1 : Vec ℝI S1x4x512 .f32)
variable (x2 : Vec ℝI S4x1x512x128 .fp8e4m3)
variable (x3 : Vec ℝI S1x4x512 .f32)
variable (x4 : Vec ℝI S4x1x512x128 .fp8e4m3)
variable (x5 : Vec ℝI S1x4x512 .f32)
variable (x6 : Vec ℝI S1x65x128 .i8)
variable (x7 : Vec ℝI S20x65 .f32)
variable (x8 : Vec ℝI S1x65x128 .i8)
variable (x9 : Vec ℝI S20x65 .f32)

/-- A load at a unit-stride rectangle, at an index. -/
theorem load_apply {S : Shape} {e : EltTy} {sp : Space} (M : Memref sig .tc sp S e) (hM : M.IsWhole) (x : Vec ℝI S e)
    (off size : Fin S.rank → ℕ) (inb : ∀ a, off a + size a ≤ S.size a) (y : (Rect.unit off size inb).shape.Idx) (z : S.Idx)
    (hz : ∀ a, (z a : ℕ) = off a + y a) :
    View.readAt (Elt ℝI) M.view (Rect.unit off size inb).toLoadRect (hM.unread x) y = x z := by
  rw [View.readAt_eq_ld, hM.read_unread]
  show x _ = x z
  congr 1
  funext a
  refine Fin.ext ?_
  rw [hz]
  show off a + 1 * (y a : ℕ) = _
  omega

section
variable {H : Hd} {b : Fin 4} {h : Fin 20} (hs : Src H b h x0 x1 x2 x3 x4 x5 x6 x7 x8 x9) (hi : k0_off1 i = ![(h : ℕ), 0])

theorem sel_apply (l : Fin 128) (j : Fin 64) : kernelRun0_A.sl.v10 (F := ℝI) (ix2 l j) = if (j : ℕ) = 63 - (l : ℕ) % 64 then 1 else 0 := by
  unfold kernelRun0_A.sl.v10 kernelRun0_A.sl.v9 kernelRun0_A.sl.v8 kernelRun0_A.sl.v7 kernelRun0_A.sl.v5 kernelRun0_A.sl.v2 kernelRun0_A.sl.v1 kernelRun0_A.sl.v0 kernelRun0_A.sl.cst kernelRun0_A.sl.cst_1
  pointwise []
  rw [sel_one _ _ (sel_word l j)]

include hs in
theorem v13_apply (r : Fin 65) (d : Fin 128) : kernelRun0_A.sl.v13 (F := ℝI) c arg7 harg7 x6 (ix2 r d) = H.AK r d := by
  unfold kernelRun0_A.sl.v13 kernelRun0_A.sl.v12
  pointwise []
  rw [load_apply arg7 harg7 x6 _ _ _ _ (ix3 0 r d) (by intro a; fin_cases a <;> simp)]
  exact hs.ak r r.2 d

include hs in
theorem akf_apply (d : Fin 128) : kernelRun0_A.sl.v27 (F := ℝI) c arg7 harg7 x6 (ix2 0 d) = H.AK 64 d := by
  unfold kernelRun0_A.sl.v27 kernelRun0_A.sl.v26
  pointwise []
  exact v13_apply c arg7 harg7 x0 x1 x2 x3 x4 x5 x6 x7 x8 x9 hs 64 d

include hs in
theorem v16_apply (l d : Fin 128) : kernelRun0_A.sl.v16 (F := ℝI) c arg7 harg7 x6 (ix2 l d) = H.AK (63 - (l : ℕ) % 64) d := by
  unfold kernelRun0_A.sl.v16 kernelRun0_A.sl.v15 kernelRun0_A.sl.v14 kernelRun0_A.sl.cst_4
  pointwise []
  simp only [sel_apply, ite_mul, one_mul, zero_mul]
  rw [Finset.sum_eq_single ⟨63 - (l : ℕ) % 64, by omega⟩]
  · rw [if_pos rfl]
    exact v13_apply c arg7 harg7 x0 x1 x2 x3 x4 x5 x6 x7 x8 x9 hs ⟨63 - (l : ℕ) % 64, by omega⟩ d
  · intro j _ hj; rw [if_neg]; exact fun e => hj (Fin.ext e)
  · intro hn; exact absurd (Finset.mem_univ _) hn

theorem low_word : ∀ n : Fin 128, IntOp.cmpi .slt (BitVec.ofNat 32 n) 64#32 = 1 ↔ (n : ℕ) < 64 := by decide +kernel

include hs in
theorem tab0_apply (n d : Fin 128) : kernelRun0_A.sl.v25 (F := ℝI) c arg7 harg7 x6 (ix2 n ⟨d, by omega⟩) = if (n : ℕ) < 64 then H.AK (63 - n) d else 0 := by
  unfold kernelRun0_A.sl.v25 kernelRun0_A.sl.v24 kernelRun0_A.sl.v23 kernelRun0_A.sl.v21 kernelRun0_A.sl.v20 kernelRun0_A.sl.v18 kernelRun0_A.sl.v17 kernelRun0_A.sl.cst_1
  pointwise []
  rw [sel_one _ _ (low_word n)]
  split_ifs with hn
  · have := v16_apply c arg7 harg7 x0 x1 x2 x3 x4 x5 x6 x7 x8 x9 hs n d
    rwa [Nat.mod_eq_of_lt hn] at this
  · rfl

include hs in
theorem tab1_apply (n d : Fin 128) : kernelRun0_A.sl.v25 (F := ℝI) c arg7 harg7 x6 (ix2 n ⟨128 + d, by omega⟩) = if (n : ℕ) < 64 then 0 else H.AK (127 - n) d := by
  unfold kernelRun0_A.sl.v25 kernelRun0_A.sl.v24 kernelRun0_A.sl.v23 kernelRun0_A.sl.v21 kernelRun0_A.sl.v20 kernelRun0_A.sl.v18 kernelRun0_A.sl.v17 kernelRun0_A.sl.cst_1
  pointwise []
  rw [sel_one _ _ (low_word n)]
  split_ifs with hn
  · rfl
  · have := v16_apply c arg7 harg7 x0 x1 x2 x3 x4 x5 x6 x7 x8 x9 hs n d
    rwa [show 63 - (n : ℕ) % 64 = 127 - n by omega] at this

include hs hi in
theorem row_apply (r : Fin 65) (inb) : View.readAt (Elt ℝI) arg8.view (Rect.unit (s := S20x65) (k0_off1 i) S1x65.size inb).toLoadRect (harg8.unread x7) (ix2 0 r) = H.aks r := by
  rw [load_apply arg8 harg8 x7 _ _ _ _ (ix2 h r) (by intro a; have e := congrFun hi a; revert e; fin_cases a <;> intro e <;> simp at e ⊢ <;> omega)]
  exact hs.aks r r.2

include hs hi in
theorem sfar_apply : kernelRun0_A.sl.v59 (F := ℝI) c i arg8 harg8 x7 (ix2 0 0) = H.aks 64 := by
  unfold kernelRun0_A.sl.v59 kernelRun0_A.sl.r
  pointwise []
  exact row_apply i arg8 harg8 x0 x1 x2 x3 x4 x5 x6 x7 x8 x9 hs hi 64 _

theorem row8 : ∀ x : Fin 8, IntOp.cmpi .eq (BitVec.ofNat 32 x) 0#32 = 1 ↔ x = 0 := by decide

include hs hi in
theorem srow_apply (n : Fin 128) : kernelRun0_A.sl.v58 (F := ℝI) c i arg8 harg8 x7 (ix2 0 n) = H.aks (63 - (n : ℕ) % 64) := by
  unfold kernelRun0_A.sl.v58 kernelRun0_A.sl.v57 kernelRun0_A.sl.v56 kernelRun0_A.sl.v55 kernelRun0_A.sl.v54 kernelRun0_A.sl.v53 kernelRun0_A.sl.v52 kernelRun0_A.sl.v51 kernelRun0_A.sl.v50 kernelRun0_A.sl.v49 kernelRun0_A.sl.v48 kernelRun0_A.sl.v47 kernelRun0_A.sl.v46 kernelRun0_A.sl.v45 kernelRun0_A.sl.v43 kernelRun0_A.sl.v41 kernelRun0_A.sl.v39 kernelRun0_A.sl.v38 kernelRun0_A.sl.v37 kernelRun0_A.sl.v35 kernelRun0_A.sl.v34 kernelRun0_A.sl.v33 kernelRun0_A.sl.v32 kernelRun0_A.sl.v31 kernelRun0_A.sl.v30 kernelRun0_A.sl.cst_9 kernelRun0_A.sl.cst_1
  pointwise []
  have hx : ∀ j : Fin 64, View.readAt (Elt ℝI) arg8.view (Rect.unit (s := S20x65) (k0_off1 i) S1x65.size (k0_off1_inb i)).toLoadRect (harg8.unread x7) (ix2 0 ⟨j, by omega⟩) = H.aks j := fun j =>
    row_apply i arg8 harg8 x0 x1 x2 x3 x4 x5 x6 x7 x8 x9 hs hi ⟨j, by omega⟩ _
  have h0 : ∀ j : Fin 64, H.aks j - H.aks j = 0 := fun j => fin_sub (hs.afin j (by omega))
  have h00 : (0 : EReal) - 0 = 0 := by simp
  simp only [sel_apply, hx, h0, h00, mul_ite, mul_one, mul_zero]
  have hs0 : ∀ w : BitVec 1, Scalar.select w (0 : EReal) 0 = 0 := fun w => by unfold Scalar.select; split_ifs <;> rfl
  simp only [hs0, sel_one _ _ (row8 _)]
  rw [Finset.sum_eq_single 0]
  · rw [Finset.sum_eq_single ⟨63 - (n : ℕ) % 64, by omega⟩]
    · simp
    · intro j _ hj; rw [if_neg]; exact fun e => hj (Fin.ext e)
    · intro hn; exact absurd (Finset.mem_univ _) hn
  · intro x _ hx
    refine Finset.sum_eq_zero fun j _ => ?_
    rw [if_neg hx]; exact ite_self _
  · intro hn; exact absurd (Finset.mem_univ _) hn

theorem div_word : ∀ l : Fin 512, (Scalar.select
          (IntOp.andi
            (IntOp.cmpi CmpIPredicate.ne
              (IntOp.subi (BitVec.setWidth 32 (IntOp.cmpi CmpIPredicate.sgt (BitVec.ofNat 32 l) 0#32))
                (BitVec.setWidth 32 (IntOp.cmpi CmpIPredicate.slt (BitVec.ofNat 32 l) 0#32)))
              1#32)
            (IntOp.cmpi CmpIPredicate.ne (IntOp.remsi ArithUnit.vector (BitVec.ofNat 32 l) 128#32) 0#32))
          (IntOp.subi (IntOp.divsi ArithUnit.vector (BitVec.ofNat 32 l) 128#32) 1#32)
          (IntOp.divsi ArithUnit.vector (BitVec.ofNat 32 l) 128#32)) = BitVec.ofNat 32 (l / 128) := by decide +kernel
theorem rem_word : ∀ r : Fin 16, (Scalar.select
          (IntOp.andi
            (IntOp.xori (IntOp.cmpi CmpIPredicate.slt (IntOp.remsi ArithUnit.vector (BitVec.ofNat 32 r) 4#32) 0#32)
              0#1)
            (IntOp.cmpi CmpIPredicate.ne (IntOp.remsi ArithUnit.vector (BitVec.ofNat 32 r) 4#32) 0#32))
          (IntOp.addi (IntOp.remsi ArithUnit.vector (BitVec.ofNat 32 r) 4#32) 4#32)
          (IntOp.remsi ArithUnit.vector (BitVec.ofNat 32 r) 4#32)) = BitVec.ofNat 32 (r % 4) := by decide +kernel
theorem eq_word : ∀ (r : Fin 16) (q : Fin 4), IntOp.andi (IntOp.cmpi .eq (BitVec.ofNat 32 q) (BitVec.ofNat 32 (r % 4))) (IntOp.cmpi .slt (BitVec.ofNat 32 r) 12#32) = 1 ↔
    ((q : ℕ) = (r : ℕ) % 4 ∧ (r : ℕ) < 12) := by decide +kernel

theorem mask_apply (r : Fin 16) (l : Fin 512) : kernelRun0_A.sl.v145 (ix2 r l) = 1 ↔ ((l : ℕ) / 128 = (r : ℕ) % 4 ∧ (r : ℕ) < 12) := by
  unfold kernelRun0_A.sl.v145 kernelRun0_A.sl.v143 kernelRun0_A.sl.v140 kernelRun0_A.sl.v139 kernelRun0_A.sl.v136 kernelRun0_A.sl.v134 kernelRun0_A.sl.v132 kernelRun0_A.sl.v130 kernelRun0_A.sl.v127 kernelRun0_A.sl.v124 kernelRun0_A.sl.v123 kernelRun0_A.sl.v122 kernelRun0_A.sl.v119 kernelRun0_A.sl.v115 kernelRun0_A.sl.v114 kernelRun0_A.sl.v107 kernelRun0_A.sl.v104 kernelRun0_A.sl.v102 kernelRun0_A.sl.v100 kernelRun0_A.sl.v99
  pointwise []
  rw [div_word l, rem_word r]
  exact eq_word r ⟨l / 128, by omega⟩

include hs in
theorem ksc_apply (k : Fin 512) (l : Fin 128) : kernelRun0_A.sl.v153 (F := ℝI) c arg4 harg4 x3 (ix2 k ⟨128 * b + l, by omega⟩) = H.ks k := by
  unfold kernelRun0_A.sl.v153 kernelRun0_A.sl.v150 kernelRun0_A.sl.v149 kernelRun0_A.sl.v148 kernelRun0_A.sl.v147 kernelRun0_A.sl.v146 kernelRun0_A.sl.v98 kernelRun0_A.sl.v97 kernelRun0_A.sl.v96 kernelRun0_A.sl.v95 kernelRun0_A.sl.v93 kernelRun0_A.sl.v92 kernelRun0_A.sl.v91 kernelRun0_A.sl.v90 kernelRun0_A.sl.v89 kernelRun0_A.sl.v88 kernelRun0_A.sl.cst_46 kernelRun0_A.sl.cst kernelRun0_A.sl.cst_1
  pointwise []
  have hl : ∀ (r : ℕ) (hr : r < 4), View.readAt (Elt ℝI) arg4.view (Rect.unit (s := S1x4x512) ![0, 0, 0] S1x4x512.size inb_S1x4x512_S1x4x512_0_0_0).toLoadRect (harg4.unread x3) (ix3 0 ⟨r, hr⟩ k) = x3 (ix3 0 ⟨r, hr⟩ k) := fun r hr => by
    rw [load_apply arg4 harg4 x3 _ _ _ _ (ix3 0 ⟨r, hr⟩ k) (by intro a; fin_cases a <;> simp)]
  simp only [hl]
  have hx : ∀ (r : ℕ) (hr : r < 4), r = b → x3 (ix3 0 ⟨r, hr⟩ k) = H.ks k := by
    intro r hr e; subst e; exact hs.ks k k.2
  have h0 : H.ks k - H.ks k = 0 := fin_sub (hs.kfin k k.2)
  have h00 : (0 : EReal) - 0 = 0 := by simp
  simp only [sel_one _ _ (mask_apply _ _)]
  rw [Finset.sum_eq_single ⟨b, by omega⟩]
  · rw [if_pos ⟨by dsimp only; omega, by dsimp only; omega⟩, dif_pos b.2]
    exact hx _ _ rfl
  · intro r _ hr
    have hrb : (r : ℕ) ≠ b := fun e => hr (Fin.ext e)
    by_cases h1 : (128 * (b : ℕ) + l) / 128 = (r : ℕ) % 4 ∧ (r : ℕ) < 12
    · rw [if_pos h1, dif_neg (by omega)]
      by_cases h2 : (r : ℕ) - 4 < 4
      · rw [dif_pos h2, hx _ _ (by omega), h0]
      · rw [dif_neg h2, dif_pos (by omega), hx _ _ (by omega), h0, h00]
    · rw [if_neg h1]
  · intro hn; exact absurd (Finset.mem_univ _) hn

include hs in
theorem kb_apply (j : ℕ) (hj : j < 4) (k l : Fin 128) :
    arg13.view.readCov (Val := Elt ℝI) (kernelRun0_A.sl.HS0_1 c arg4 harg4 x3) (Rect.unit (s := S512x512) ![128 * j, 128 * (b : ℕ)] S128x128.size (inb2 b j b.2 hj)).toLoadRect (ix2 k l) = H.ks (128 * j + k) := by
  unfold kernelRun0_A.sl.HS0_1
  rw [View.readCov_eq_canon_ld _ _ _ (fun y => ⟨_, List.mem_singleton_self _, View.mem_set_unit_zero (by funext a; fin_cases a <;> rfl) (by intro a; fin_cases a <;> simp) y⟩),
    View.canon_unit_zero (by funext a; fin_cases a <;> rfl)]
  refine (View.ld_unit_apply_of _ _ _ _ _ (ix2 ⟨128 * j + k, by omega⟩ ⟨128 * b + l, by omega⟩) (by intro a; fin_cases a <;> simp)).trans ?_
  exact ksc_apply c arg4 harg4 x0 x1 x2 x3 x4 x5 x6 x7 x8 x9 hs ⟨128 * j + k, by omega⟩ l

include hs in
theorem v66_apply (r : Fin 65) (d : Fin 128) : kernelRun0_A.sl.v69 (F := ℝI) c arg9 harg9 x8 (ix2 r d) = H.AV r d := by
  unfold kernelRun0_A.sl.v69 kernelRun0_A.sl.v66 kernelRun0_A.sl.v65
  pointwise []
  rw [load_apply arg9 harg9 x8 _ _ _ _ (ix3 0 r d) (by intro a; fin_cases a <;> simp)]
  exact hs.av r r.2 d

include hs hi in
theorem v80_apply (r : Fin 65) : kernelRun0_A.sl.v80 (F := ℝI) c i arg10 harg10 x9 (ix2 0 r) = H.avs r := by
  unfold kernelRun0_A.sl.v80 kernelRun0_A.sl.v77 kernelRun0_A.sl.v76
  pointwise []
  rw [load_apply arg10 harg10 x9 _ _ _ _ (ix2 h r) (by intro a; have e := congrFun hi a; revert e; fin_cases a <;> intro e <;> simp at e ⊢ <;> omega)]
  exact hs.avs r r.2

include hs in
theorem avc_apply (r : Fin 80) (hr : (r : ℕ) < 65) (d : Fin 128) : kernelRun0_A.sl.v81 (F := ℝI) c arg9 harg9 arg14 x8 (ix2 r d) = H.AV r d := by
  unfold kernelRun0_A.sl.v81 kernelRun0_A.sl.HS1_2 kernelRun0_A.sl.HS1_1
  rw [View.readCov_eq_canon_ld _ _ _ (fun y => ⟨_, List.mem_cons_of_mem _ (List.mem_singleton_self _), View.mem_set_unit_zero (by funext a; fin_cases a <;> rfl) (by intro a; fin_cases a <;> simp) y⟩)]
  refine (View.ld_unit_apply_of _ _ _ _ _ (ix2 r d) (by intro a; fin_cases a <;> simp)).trans ?_
  rw [show (ix2 r d : S80x128.Idx) = (Rect.unit (s := S80x128) ![0, 0] S65x128.size inb_S80x128_S65x128_0_0).emb (ix2 ⟨r, hr⟩ d) from
    funext fun a => Fin.ext (by rw [Rect.emb_apply]; fin_cases a <;> simp [Rect.unit]), View.canon_cons_emb]
  exact v66_apply c arg9 harg9 x0 x1 x2 x3 x4 x5 x6 x7 x8 x9 hs ⟨r, hr⟩ d

include hs hi in
theorem avsc_apply (r : Fin 80) (hr : (r : ℕ) < 65) : kernelRun0_A.sl.v83 (F := ℝI) c i arg10 harg10 arg15 x9 (ix2 0 r) = H.avs r := by
  unfold kernelRun0_A.sl.v83 kernelRun0_A.sl.HS2_2 kernelRun0_A.sl.HS2_1
  rw [View.readCov_eq_canon_ld _ _ _ (fun y => ⟨_, List.mem_cons_of_mem _ (List.mem_singleton_self _), View.mem_set_unit_zero (by funext a; fin_cases a <;> rfl) (by intro a; fin_cases a <;> simp) y⟩)]
  refine (View.ld_unit_apply_of _ _ _ _ _ (ix2 0 ⟨r, by omega⟩) (by intro a; fin_cases a <;> simp)).trans ?_
  rw [show (ix2 0 ⟨r, by omega⟩ : S8x128.Idx) = (Rect.unit (s := S8x128) ![0, 0] S1x65.size inb_S8x128_S1x65_0_0).emb (ix2 0 ⟨r, hr⟩) from
    funext fun a => Fin.ext (by rw [Rect.emb_apply]; fin_cases a <;> simp [Rect.unit]), View.canon_cons_emb]
  exact v80_apply c i arg10 harg10 x0 x1 x2 x3 x4 x5 x6 x7 x8 x9 hs hi ⟨r, hr⟩

include hs hi in
theorem avt_apply (d : Fin 128) (r : ℕ) (hr : r < 65) : kernelRun0_A.sl.v86 (F := ℝI) c i arg9 harg9 arg10 harg10 arg14 arg15 x8 x9 (ix2 d ⟨r, by omega⟩) = H.AV r d * H.avs r := by
  unfold kernelRun0_A.sl.v86 kernelRun0_A.sl.v85 kernelRun0_A.sl.v82 kernelRun0_A.sl.v84
  pointwise []
  rw [avc_apply c arg9 harg9 arg14 x0 x1 x2 x3 x4 x5 x6 x7 x8 x9 hs ⟨r, by omega⟩ hr d,
    avsc_apply c i arg10 harg10 arg15 x0 x1 x2 x3 x4 x5 x6 x7 x8 x9 hs hi ⟨r, by omega⟩ hr]

/-! ### Dropped unit axes -/
theorem drop_a (X : Vec ℝI S1x1x128x128 .fp8e4m3) (l d : Fin 128) : shapeCast S128x128 X shapeCasts_S1x1x128x128_S128x128 (ix2 l d) = X (ix4 0 0 l d) := by
  pointwise []
theorem drop_b (X : Vec ℝI S1x1x64x128 .fp8e4m3) (l : Fin 64) (d : Fin 128) : shapeCast S64x128 X shapeCasts_S1x1x64x128_S64x128 (ix2 l d) = X (ix4 0 0 l d) := by
  pointwise []
theorem drop_c (X : Vec ℝI S1x1x256 .f32) (l : Fin 256) : shapeCast S1x256 X shapeCasts_S1x1x256_S1x256 (ix2 0 l) = X (ix3 0 0 l) := by
  pointwise []
theorem drop_d (X : Vec ℝI S1x1x256x128 .fp8e4m3) (l : Fin 256) (d : Fin 128) : shapeCast S256x128 X shapeCasts_S1x1x256x128_S256x128 (ix2 l d) = X (ix4 0 0 l d) := by
  pointwise []
theorem drop_e (X : Vec ℝI S1x1x512x128 .fp8e4m3) (l : Fin 512) (d : Fin 128) : shapeCast S512x128 X shapeCasts_S1x1x512x128_S512x128 (ix2 l d) = X (ix4 0 0 l d) := by
  pointwise []
theorem drop_f (X : Vec ℝI S1x1x512 .f32) (l : Fin 512) : shapeCast S1x512 X shapeCasts_S1x1x512_S1x512 (ix2 0 l) = X (ix3 0 0 l) := by
  pointwise []
theorem vtOf_apply (X : FVec ℝI S512x128 .fp8e4m3) (Y : FVec ℝI S1x512 .f32) (d : Fin 128) (k : Fin 512) :
    Tile.vtOf X Y (ix2 d k) = X (ix2 k d) * Y (ix2 0 k) := by
  pointwise [Tile.vtOf]

include hs in
theorem vtB_apply (d : Fin 128) (k : Fin 512) : vtB (F := ℝI) arg5 harg5 arg6 harg6 x4 x5 b b.2 (ix2 d k) = H.V k d * H.vs k := by
  unfold vtB
  rw [vtOf_apply, drop_e, drop_f,
    load_apply arg5 harg5 x4 _ _ _ _ (ix4 b 0 k d) (by intro a; fin_cases a <;> simp),
    load_apply arg6 harg6 x5 _ _ _ _ (ix3 0 b k) (by intro a; fin_cases a <;> simp), hs.v k k.2, hs.vs k k.2]

include hs in
theorem keyA_apply (k : Fin 256) (d : Fin 128) : keyA (F := ℝI) arg3 harg3 x2 b b.2 (ix2 k d) = H.K k d := by
  unfold keyA
  rw [drop_d, load_apply arg3 harg3 x2 _ _ _ _ (ix4 b 0 ⟨k, by omega⟩ d) (by intro a; fin_cases a <;> simp)]
  exact hs.k k (by omega) d

include hs in
theorem keyB_apply (k : Fin 512) (d : Fin 128) : keyB (F := ℝI) arg3 harg3 x2 b b.2 (ix2 k d) = H.K k d := by
  unfold keyB
  rw [drop_e, load_apply arg3 harg3 x2 _ _ _ _ (ix4 b 0 k d) (by intro a; fin_cases a <;> simp)]
  exact hs.k k k.2 d

include hs in
theorem C_pos' (k : ℕ) (hk : k < 512) : 0 < H.C k := by
  obtain ⟨q, hq, q0⟩ := hs.qfin k hk
  exact Hd.C_pos hq q0 (by positivity) hs.kap

include hs hi in
/-- The head's values. -/
theorem goodV : GoodV H (vtB (F := ℝI) arg5 harg5 arg6 harg6 x4 x5 b b.2) (kernelRun0_A.sl.v86 (F := ℝI) c i arg9 harg9 arg10 harg10 arg14 arg15 x8 x9) where
  vt := vtB_apply arg5 harg5 arg6 harg6 x0 x1 x2 x3 x4 x5 x6 x7 x8 x9 hs
  avt := avt_apply c i arg9 harg9 arg10 harg10 arg14 arg15 x0 x1 x2 x3 x4 x5 x6 x7 x8 x9 hs hi

include hs hi in
/-- The head's queries, scales and tables. -/
theorem good (p : ℕ) (hp : p < 2) : Good H p (inp (F := ℝI) c i arg1 harg1 arg2 harg2 arg4 harg4 arg7 harg7 arg8 harg8 arg13 x0 x1 x3 x6 x7 b p b.2 hp) where
  qa l d := by
    dsimp only [inp]
    rw [drop_a, load_apply arg1 harg1 x0 _ _ _ _ (ix4 b 0 ⟨128 * (2 * p) + l, by omega⟩ d) (by intro a; fin_cases a <;> simp <;> omega)]
    exact hs.q _ _ d
  q0 l d := by
    dsimp only [inp]
    rw [drop_b, load_apply arg1 harg1 x0 _ _ _ _ (ix4 b 0 ⟨128 * (2 * p + 1) + l, by omega⟩ d) (by intro a; fin_cases a <;> simp <;> omega)]
    exact hs.q _ _ d
  q1 l d := by
    dsimp only [inp]
    rw [drop_b, load_apply arg1 harg1 x0 _ _ _ _ (ix4 b 0 ⟨128 * (2 * p + 1) + (64 + l), by omega⟩ d) (by intro a; fin_cases a <;> simp <;> omega)]
    exact hs.q _ _ d
  qs l := by
    dsimp only [inp]
    rw [drop_c, load_apply arg2 harg2 x1 _ _ _ _ (ix3 0 b ⟨128 * (2 * p) + l, by omega⟩) (by intro a; fin_cases a <;> simp <;> omega)]
    exact hs.qs _ _
  kb j k l := kb_apply c arg4 harg4 arg13 x0 x1 x2 x3 x4 x5 x6 x7 x8 x9 hs j j.2 k l
  akf := akf_apply c arg7 harg7 x0 x1 x2 x3 x4 x5 x6 x7 x8 x9 hs
  sfar := sfar_apply c i arg8 harg8 x0 x1 x2 x3 x4 x5 x6 x7 x8 x9 hs hi
  tab0 := tab0_apply c arg7 harg7 x0 x1 x2 x3 x4 x5 x6 x7 x8 x9 hs
  tab1 := tab1_apply c arg7 harg7 x0 x1 x2 x3 x4 x5 x6 x7 x8 x9 hs
  srow := srow_apply c i arg8 harg8 x0 x1 x2 x3 x4 x5 x6 x7 x8 x9 hs hi
  kap := hs.kap.symm
end

end Cert.KernelIdeal.Body
-- ==== Proof.Data.lean ====
/- One head of one batch of the argument arrays, as the data the specification is about. -/
module

public import proofs.«01_k».proof.Proof.Spec
public import Idealize.ShloMosaic.Lib.Pipeline.Value

@[expose] public section

noncomputable section

namespace Cert.Data

open Cert.Spec
open Idealize.ShloMosaic

local notation "ℝI" => Idealize.ShloMosaic.Ideal

abbrev SC : Shape := ⟨4, ![4, 512, 20, 128]⟩
abbrev SS : Shape := ⟨3, ![4, 512, 20]⟩
abbrev ST : Shape := ⟨3, ![20, 65, 128]⟩
abbrev SU : Shape := ⟨2, ![20, 65]⟩

variable (a0 : FVec ℝI SC .fp8e4m3) (a1 : FVec ℝI SS .f32) (a2 : FVec ℝI SC .fp8e4m3) (a3 : FVec ℝI SS .f32)
  (a4 : FVec ℝI SC .fp8e4m3) (a5 : FVec ℝI SS .f32) (a6 : IVec ST 8) (a7 : FVec ℝI SU .f32) (a8 : IVec ST 8) (a9 : FVec ℝI SU .f32)

/-- Head `h` of batch `b`. -/
def hd (b : Fin 4) (h : Fin 20) : Hd where
  Q k d := if hk : k < 512 then a0 (ix4 b ⟨k, hk⟩ h d) else 0
  qs k := if hk : k < 512 then a1 (ix3 b ⟨k, hk⟩ h) else 0
  K k d := if hk : k < 512 then a2 (ix4 b ⟨k, hk⟩ h d) else 0
  ks k := if hk : k < 512 then a3 (ix3 b ⟨k, hk⟩ h) else 0
  V k d := if hk : k < 512 then a4 (ix4 b ⟨k, hk⟩ h d) else 0
  vs k := if hk : k < 512 then a5 (ix3 b ⟨k, hk⟩ h) else 0
  AK r d := if hr : r < 65 then (((a6 (ix3 h ⟨r, hr⟩ d) : BitVec 8).toInt : ℝ) : EReal) else 0
  aks r := if hr : r < 65 then a7 (ix2 h ⟨r, hr⟩) else 0
  AV r d := if hr : r < 65 then (((a8 (ix3 h ⟨r, hr⟩ d) : BitVec 8).toInt : ℝ) : EReal) else 0
  avs r := if hr : r < 65 then a9 (ix2 h ⟨r, hr⟩) else 0
  kap := (((11863283 / 134217728) * (Real.log 2)⁻¹ : ℝ) : EReal)

section
variable {a0 a1 a2 a3 a4 a5 a6 a7 a8 a9} {b : Fin 4} {h : Fin 20} {k : ℕ}

theorem hd_Q (hk : k < 512) (d : Fin 128) : (hd a0 a1 a2 a3 a4 a5 a6 a7 a8 a9 b h).Q k d = a0 (ix4 b ⟨k, hk⟩ h d) := dif_pos hk
theorem hd_qs (hk : k < 512) : (hd a0 a1 a2 a3 a4 a5 a6 a7 a8 a9 b h).qs k = a1 (ix3 b ⟨k, hk⟩ h) := dif_pos hk
theorem hd_K (hk : k < 512) (d : Fin 128) : (hd a0 a1 a2 a3 a4 a5 a6 a7 a8 a9 b h).K k d = a2 (ix4 b ⟨k, hk⟩ h d) := dif_pos hk
theorem hd_ks (hk : k < 512) : (hd a0 a1 a2 a3 a4 a5 a6 a7 a8 a9 b h).ks k = a3 (ix3 b ⟨k, hk⟩ h) := dif_pos hk
theorem hd_V (hk : k < 512) (d : Fin 128) : (hd a0 a1 a2 a3 a4 a5 a6 a7 a8 a9 b h).V k d = a4 (ix4 b ⟨k, hk⟩ h d) := dif_pos hk
theorem hd_vs (hk : k < 512) : (hd a0 a1 a2 a3 a4 a5 a6 a7 a8 a9 b h).vs k = a5 (ix3 b ⟨k, hk⟩ h) := dif_pos hk
theorem hd_AK (hk : k < 65) (d : Fin 128) : (hd a0 a1 a2 a3 a4 a5 a6 a7 a8 a9 b h).AK k d = (((a6 (ix3 h ⟨k, hk⟩ d) : BitVec 8).toInt : ℝ) : EReal) := dif_pos hk
theorem hd_aks (hk : k < 65) : (hd a0 a1 a2 a3 a4 a5 a6 a7 a8 a9 b h).aks k = a7 (ix2 h ⟨k, hk⟩) := dif_pos hk
theorem hd_AV (hk : k < 65) (d : Fin 128) : (hd a0 a1 a2 a3 a4 a5 a6 a7 a8 a9 b h).AV k d = (((a8 (ix3 h ⟨k, hk⟩ d) : BitVec 8).toInt : ℝ) : EReal) := dif_pos hk
theorem hd_avs (hk : k < 65) : (hd a0 a1 a2 a3 a4 a5 a6 a7 a8 a9 b h).avs k = a9 (ix2 h ⟨k, hk⟩) := dif_pos hk
end

end Cert.Data

end
-- ==== Proof.KernelIdeal.Arrays.lean ====
/- What the pipeline hands the body at head `t`, in terms of the argument arrays: each input block read at an index. -/
module

public import proofs.«01_k».proof.Proof.KernelIdeal.Prep
public import proofs.«01_k».proof.Proof.KernelIdeal.Frame
public import proofs.«01_k».proof.Proof.Data

@[expose] public section

noncomputable section

namespace Cert.KernelIdeal.Arrays

open Cert.KernelIdeal Cert.KernelIdeal.Gen Cert.KernelIdeal.Body
open Idealize.ShloMosaic Idealize.ShloMosaic.TcCoe Idealize.SL.Sem

local notation "ℝI" => Idealize.ShloMosaic.Ideal

variable (m : (ℓ : Loc nD τ sig) → Buf (Elt ℝI) ℓ)

theorem i0 : ∀ t : Fin cfg0.N, win0_0.index t (0 : Fin 4) = 0 ∧ win0_0.index t (1 : Fin 4) = t.val ∧ win0_0.index t (2 : Fin 4) = 0
    ∧ win0_0.index t (3 : Fin 4) = 0 := (by decide +kernel : ∀ t : Fin grid0.N, _)
theorem i2 : ∀ t : Fin cfg0.N, win0_2.index t (0 : Fin 4) = 0 ∧ win0_2.index t (1 : Fin 4) = t.val ∧ win0_2.index t (2 : Fin 4) = 0
    ∧ win0_2.index t (3 : Fin 4) = 0 := (by decide +kernel : ∀ t : Fin grid0.N, _)
theorem i4 : ∀ t : Fin cfg0.N, win0_4.index t (0 : Fin 4) = 0 ∧ win0_4.index t (1 : Fin 4) = t.val ∧ win0_4.index t (2 : Fin 4) = 0
    ∧ win0_4.index t (3 : Fin 4) = 0 := (by decide +kernel : ∀ t : Fin grid0.N, _)
theorem i1 : ∀ t : Fin cfg0.N, win0_1.index t (0 : Fin 3) = t.val ∧ win0_1.index t (1 : Fin 3) = 0 ∧ win0_1.index t (2 : Fin 3) = 0 :=
  (by decide +kernel : ∀ t : Fin grid0.N, _)
theorem i3 : ∀ t : Fin cfg0.N, win0_3.index t (0 : Fin 3) = t.val ∧ win0_3.index t (1 : Fin 3) = 0 ∧ win0_3.index t (2 : Fin 3) = 0 :=
  (by decide +kernel : ∀ t : Fin grid0.N, _)
theorem i5 : ∀ t : Fin cfg0.N, win0_5.index t (0 : Fin 3) = t.val ∧ win0_5.index t (1 : Fin 3) = 0 ∧ win0_5.index t (2 : Fin 3) = 0 :=
  (by decide +kernel : ∀ t : Fin grid0.N, _)
theorem i6 : ∀ t : Fin cfg0.N, win0_6.index t (0 : Fin 3) = t.val ∧ win0_6.index t (1 : Fin 3) = 0 ∧ win0_6.index t (2 : Fin 3) = 0 :=
  (by decide +kernel : ∀ t : Fin grid0.N, _)
theorem i8 : ∀ t : Fin cfg0.N, win0_8.index t (0 : Fin 3) = t.val ∧ win0_8.index t (1 : Fin 3) = 0 ∧ win0_8.index t (2 : Fin 3) = 0 :=
  (by decide +kernel : ∀ t : Fin grid0.N, _)
theorem i7 : ∀ t : Fin cfg0.N, win0_7.index t (0 : Fin 2) = 0 ∧ win0_7.index t (1 : Fin 2) = 0 :=
  (by decide +kernel : ∀ t : Fin grid0.N, _)
theorem i9 : ∀ t : Fin cfg0.N, win0_9.index t (0 : Fin 2) = 0 ∧ win0_9.index t (1 : Fin 2) = 0 :=
  (by decide +kernel : ∀ t : Fin grid0.N, _)
theorem i10 : ∀ t : Fin cfg0.N, win0_10.index t (0 : Fin 3) = 0 ∧ win0_10.index t (1 : Fin 3) = 0 ∧ win0_10.index t (2 : Fin 3) = t.val :=
  (by decide +kernel : ∀ t : Fin grid0.N, _)
theorem i11 : ∀ t : Fin cfg0.N, win0_11.index t (0 : Fin 3) = t.val ∧ win0_11.index t (1 : Fin 3) = 0 ∧ win0_11.index t (2 : Fin 3) = 0 :=
  (by decide +kernel : ∀ t : Fin grid0.N, _)

theorem tlt (t : Fin cfg0.N) : t.val < 20 := t.isLt

/-- The head a grid point works on. -/
abbrev hof (t : Fin cfg0.N) : Fin 20 := ⟨t.val, tlt t⟩

theorem off (t : Fin cfg0.N) : k0_off1 (grid0.coords t) = ![((hof t : Fin 20) : ℕ), 0] :=
  (by decide +kernel : ∀ t : Fin grid0.N, k0_off1 (grid0.coords t) = ![t.val, 0]) t

theorem emb0 (t : Fin cfg0.N) (b : Fin 4) (k : Fin 512) (d : Fin 128) :
    ((cfg0.win 0).blk t).view.emb (ix4 b 0 k d : S4x1x512x128.Idx) = (ix4 b (hof t) k d : S4x20x512x128.Idx) := by
  obtain ⟨e0, e1, e2, e3⟩ := i0 t
  funext a; apply Fin.ext
  match a with
  | ⟨0, _⟩ => show win0_0.index t (0 : Fin 4) * 4 + 1 * b.val = b.val; omega
  | ⟨1, _⟩ => show win0_0.index t (1 : Fin 4) * 1 + 1 * 0 = t.val; omega
  | ⟨2, _⟩ => show win0_0.index t (2 : Fin 4) * 512 + 1 * k.val = k.val; omega
  | ⟨3, _⟩ => show win0_0.index t (3 : Fin 4) * 128 + 1 * d.val = d.val; omega
theorem emb2 (t : Fin cfg0.N) (b : Fin 4) (k : Fin 512) (d : Fin 128) :
    ((cfg0.win 2).blk t).view.emb (ix4 b 0 k d : S4x1x512x128.Idx) = (ix4 b (hof t) k d : S4x20x512x128.Idx) := by
  obtain ⟨e0, e1, e2, e3⟩ := i2 t
  funext a; apply Fin.ext
  match a with
  | ⟨0, _⟩ => show win0_2.index t (0 : Fin 4) * 4 + 1 * b.val = b.val; omega
  | ⟨1, _⟩ => show win0_2.index t (1 : Fin 4) * 1 + 1 * 0 = t.val; omega
  | ⟨2, _⟩ => show win0_2.index t (2 : Fin 4) * 512 + 1 * k.val = k.val; omega
  | ⟨3, _⟩ => show win0_2.index t (3 : Fin 4) * 128 + 1 * d.val = d.val; omega
theorem emb4 (t : Fin cfg0.N) (b : Fin 4) (k : Fin 512) (d : Fin 128) :
    ((cfg0.win 4).blk t).view.emb (ix4 b 0 k d : S4x1x512x128.Idx) = (ix4 b (hof t) k d : S4x20x512x128.Idx) := by
  obtain ⟨e0, e1, e2, e3⟩ := i4 t
  funext a; apply Fin.ext
  match a with
  | ⟨0, _⟩ => show win0_4.index t (0 : Fin 4) * 4 + 1 * b.val = b.val; omega
  | ⟨1, _⟩ => show win0_4.index t (1 : Fin 4) * 1 + 1 * 0 = t.val; omega
  | ⟨2, _⟩ => show win0_4.index t (2 : Fin 4) * 512 + 1 * k.val = k.val; omega
  | ⟨3, _⟩ => show win0_4.index t (3 : Fin 4) * 128 + 1 * d.val = d.val; omega
theorem emb1 (t : Fin cfg0.N) (b : Fin 4) (k : Fin 512) :
    ((cfg0.win 1).blk t).view.emb (ix3 0 b k : S1x4x512.Idx) = (ix3 (hof t) b k : S20x4x512.Idx) := by
  obtain ⟨e0, e1, e2⟩ := i1 t
  funext a; apply Fin.ext
  match a with
  | ⟨0, _⟩ => show win0_1.index t (0 : Fin 3) * 1 + 1 * 0 = t.val; omega
  | ⟨1, _⟩ => show win0_1.index t (1 : Fin 3) * 4 + 1 * b.val = b.val; omega
  | ⟨2, _⟩ => show win0_1.index t (2 : Fin 3) * 512 + 1 * k.val = k.val; omega
theorem emb3 (t : Fin cfg0.N) (b : Fin 4) (k : Fin 512) :
    ((cfg0.win 3).blk t).view.emb (ix3 0 b k : S1x4x512.Idx) = (ix3 (hof t) b k : S20x4x512.Idx) := by
  obtain ⟨e0, e1, e2⟩ := i3 t
  funext a; apply Fin.ext
  match a with
  | ⟨0, _⟩ => show win0_3.index t (0 : Fin 3) * 1 + 1 * 0 = t.val; omega
  | ⟨1, _⟩ => show win0_3.index t (1 : Fin 3) * 4 + 1 * b.val = b.val; omega
  | ⟨2, _⟩ => show win0_3.index t (2 : Fin 3) * 512 + 1 * k.val = k.val; omega
theorem emb5 (t : Fin cfg0.N) (b : Fin 4) (k : Fin 512) :
    ((cfg0.win 5).blk t).view.emb (ix3 0 b k : S1x4x512.Idx) = (ix3 (hof t) b k : S20x4x512.Idx) := by
  obtain ⟨e0, e1, e2⟩ := i5 t
  funext a; apply Fin.ext
  match a with
  | ⟨0, _⟩ => show win0_5.index t (0 : Fin 3) * 1 + 1 * 0 = t.val; omega
  | ⟨1, _⟩ => show win0_5.index t (1 : Fin 3) * 4 + 1 * b.val = b.val; omega
  | ⟨2, _⟩ => show win0_5.index t (2 : Fin 3) * 512 + 1 * k.val = k.val; omega
theorem emb6 (t : Fin cfg0.N) (r : Fin 65) (d : Fin 128) :
    ((cfg0.win 6).blk t).view.emb (ix3 0 r d : S1x65x128.Idx) = (ix3 (hof t) r d : S20x65x128.Idx) := by
  obtain ⟨e0, e1, e2⟩ := i6 t
  funext a; apply Fin.ext
  match a with
  | ⟨0, _⟩ => show win0_6.index t (0 : Fin 3) * 1 + 1 * 0 = t.val; omega
  | ⟨1, _⟩ => show win0_6.index t (1 : Fin 3) * 65 + 1 * r.val = r.val; omega
  | ⟨2, _⟩ => show win0_6.index t (2 : Fin 3) * 128 + 1 * d.val = d.val; omega
theorem emb8 (t : Fin cfg0.N) (r : Fin 65) (d : Fin 128) :
    ((cfg0.win 8).blk t).view.emb (ix3 0 r d : S1x65x128.Idx) = (ix3 (hof t) r d : S20x65x128.Idx) := by
  obtain ⟨e0, e1, e2⟩ := i8 t
  funext a; apply Fin.ext
  match a with
  | ⟨0, _⟩ => show win0_8.index t (0 : Fin 3) * 1 + 1 * 0 = t.val; omega
  | ⟨1, _⟩ => show win0_8.index t (1 : Fin 3) * 65 + 1 * r.val = r.val; omega
  | ⟨2, _⟩ => show win0_8.index t (2 : Fin 3) * 128 + 1 * d.val = d.val; omega
theorem emb7 (t : Fin cfg0.N) (j : S20x65.Idx) : ((cfg0.win 7).blk t).view.emb j = j := by
  obtain ⟨e0, e1⟩ := i7 t
  funext a; apply Fin.ext
  match a with
  | ⟨0, _⟩ => show win0_7.index t (0 : Fin 2) * 20 + 1 * (j 0).val = (j 0).val; omega
  | ⟨1, _⟩ => show win0_7.index t (1 : Fin 2) * 65 + 1 * (j 1).val = (j 1).val; omega
theorem emb9 (t : Fin cfg0.N) (j : S20x65.Idx) : ((cfg0.win 9).blk t).view.emb j = j := by
  obtain ⟨e0, e1⟩ := i9 t
  funext a; apply Fin.ext
  match a with
  | ⟨0, _⟩ => show win0_9.index t (0 : Fin 2) * 20 + 1 * (j 0).val = (j 0).val; omega
  | ⟨1, _⟩ => show win0_9.index t (1 : Fin 2) * 65 + 1 * (j 1).val = (j 1).val; omega

/-! The arrays the host hands the region: the argument arrays with the head moved. -/

theorem V_v0 (c : Dev nD) (b : Fin 4) (h : Fin 20) (k : Fin 512) (d : Fin 128) :
    (V m c main_v0 : FVec ℝI S4x20x512x128 .fp8e4m3) (ix4 b h k d)
      = (m ((c : Thread nD τ).loc main_arg0) : FVec ℝI S4x512x20x128 .fp8e4m3) (ix4 b k h d) := by
  have e : V m c main_v0 = transpose S4x20x512x128 [0, 2, 1, 3] (m ((c : Thread nD τ).loc main_arg0)) transposes_S4x512x20x128_S4x20x512x128_0_2_1_3 := by
    rfl
  rw [e]
  pointwise []
theorem V_v1 (c : Dev nD) (b : Fin 4) (h : Fin 20) (k : Fin 512) :
    (V m c main_v1 : FVec ℝI S20x4x512 .f32) (ix3 h b k)
      = (m ((c : Thread nD τ).loc main_arg1) : FVec ℝI S4x512x20 .f32) (ix3 b k h) := by
  have e : V m c main_v1 = transpose S20x4x512 [2, 0, 1] (m ((c : Thread nD τ).loc main_arg1)) transposes_S4x512x20_S20x4x512_2_0_1 := by
    rfl
  rw [e]
  pointwise []
theorem V_v2 (c : Dev nD) (b : Fin 4) (h : Fin 20) (k : Fin 512) (d : Fin 128) :
    (V m c main_v2 : FVec ℝI S4x20x512x128 .fp8e4m3) (ix4 b h k d)
      = (m ((c : Thread nD τ).loc main_arg2) : FVec ℝI S4x512x20x128 .fp8e4m3) (ix4 b k h d) := by
  have e : V m c main_v2 = transpose S4x20x512x128 [0, 2, 1, 3] (m ((c : Thread nD τ).loc main_arg2)) transposes_S4x512x20x128_S4x20x512x128_0_2_1_3 := by
    rfl
  rw [e]
  pointwise []
theorem V_v3 (c : Dev nD) (b : Fin 4) (h : Fin 20) (k : Fin 512) :
    (V m c main_v3 : FVec ℝI S20x4x512 .f32) (ix3 h b k)
      = (m ((c : Thread nD τ).loc main_arg3) : FVec ℝI S4x512x20 .f32) (ix3 b k h) := by
  have e : V m c main_v3 = transpose S20x4x512 [2, 0, 1] (m ((c : Thread nD τ).loc main_arg3)) transposes_S4x512x20_S20x4x512_2_0_1 := by
    rfl
  rw [e]
  pointwise []
theorem V_v4 (c : Dev nD) (b : Fin 4) (h : Fin 20) (k : Fin 512) (d : Fin 128) :
    (V m c main_v4 : FVec ℝI S4x20x512x128 .fp8e4m3) (ix4 b h k d)
      = (m ((c : Thread nD τ).loc main_arg4) : FVec ℝI S4x512x20x128 .fp8e4m3) (ix4 b k h d) := by
  have e : V m c main_v4 = transpose S4x20x512x128 [0, 2, 1, 3] (m ((c : Thread nD τ).loc main_arg4)) transposes_S4x512x20x128_S4x20x512x128_0_2_1_3 := by
    rfl
  rw [e]
  pointwise []
theorem V_v5 (c : Dev nD) (b : Fin 4) (h : Fin 20) (k : Fin 512) :
    (V m c main_v5 : FVec ℝI S20x4x512 .f32) (ix3 h b k)
      = (m ((c : Thread nD τ).loc main_arg5) : FVec ℝI S4x512x20 .f32) (ix3 b k h) := by
  have e : V m c main_v5 = transpose S20x4x512 [2, 0, 1] (m ((c : Thread nD τ).loc main_arg5)) transposes_S4x512x20_S20x4x512_2_0_1 := by
    rfl
  rw [e]
  pointwise []

/-- The argument arrays of device `c` as head data. -/
def hd (c : Dev nD) : Fin 4 → Fin 20 → Cert.Spec.Hd :=
  Cert.Data.hd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The scales the claim takes to be finite, those of the queries positive too. -/
structure Fin_ (c : Dev nD) : Prop where
  q : ∀ b k h, ∃ q : ℝ, (m ((c : Thread nD τ).loc main_arg1) : FVec ℝI S4x512x20 .f32) (ix3 b k h) = (q : EReal) ∧ 0 < q
  k : ∀ b k h, ∃ q : ℝ, (m ((c : Thread nD τ).loc main_arg3) : FVec ℝI S4x512x20 .f32) (ix3 b k h) = (q : EReal)
  a : ∀ h r, ∃ q : ℝ, (m ((c : Thread nD τ).loc main_arg7) : FVec ℝI S20x65 .f32) (ix2 h r) = (q : EReal)

variable {m}

/-- The blocks at grid point `t` are head `t`, batch by batch. -/
theorem src {c : Dev nD} (hf : Fin_ m c) (t : Fin cfg0.N) (b : Fin 4) :
    Src (hd m c b (hof t)) b (hof t) (iblk m c 0 t) (iblk m c 1 t) (iblk m c 2 t) (iblk m c 3 t) (iblk m c 4 t) (iblk m c 5 t)
      (iblk m c 6 t) (iblk m c 7 t) (iblk m c 8 t) (iblk m c 9 t) where
  q k hk d := by
    show (V m c main_v0 : FVec ℝI S4x20x512x128 .fp8e4m3) (((cfg0.win 0).blk t).view.emb (ix4 b 0 ⟨k, hk⟩ d : S4x1x512x128.Idx)) = _
    rw [emb0, V_v0]; exact (Cert.Data.hd_Q hk d).symm
  qs k hk := by
    show (V m c main_v1 : FVec ℝI S20x4x512 .f32) (((cfg0.win 1).blk t).view.emb (ix3 0 b ⟨k, hk⟩ : S1x4x512.Idx)) = _
    rw [emb1, V_v1]; exact (Cert.Data.hd_qs hk).symm
  k k hk d := by
    show (V m c main_v2 : FVec ℝI S4x20x512x128 .fp8e4m3) (((cfg0.win 2).blk t).view.emb (ix4 b 0 ⟨k, hk⟩ d : S4x1x512x128.Idx)) = _
    rw [emb2, V_v2]; exact (Cert.Data.hd_K hk d).symm
  ks k hk := by
    show (V m c main_v3 : FVec ℝI S20x4x512 .f32) (((cfg0.win 3).blk t).view.emb (ix3 0 b ⟨k, hk⟩ : S1x4x512.Idx)) = _
    rw [emb3, V_v3]; exact (Cert.Data.hd_ks hk).symm
  v k hk d := by
    show (V m c main_v4 : FVec ℝI S4x20x512x128 .fp8e4m3) (((cfg0.win 4).blk t).view.emb (ix4 b 0 ⟨k, hk⟩ d : S4x1x512x128.Idx)) = _
    rw [emb4, V_v4]; exact (Cert.Data.hd_V hk d).symm
  vs k hk := by
    show (V m c main_v5 : FVec ℝI S20x4x512 .f32) (((cfg0.win 5).blk t).view.emb (ix3 0 b ⟨k, hk⟩ : S1x4x512.Idx)) = _
    rw [emb5, V_v5]; exact (Cert.Data.hd_vs hk).symm
  ak r hr d := by
    show ((((V m c main_arg6 : IVec S20x65x128 8) (((cfg0.win 6).blk t).view.emb (ix3 0 ⟨r, hr⟩ d : S1x65x128.Idx)) : BitVec 8).toInt : ℝ) : EReal) = _
    rw [emb6, V_main_arg6]; exact (Cert.Data.hd_AK hr d).symm
  aks r hr := by
    show (V m c main_arg7 : FVec ℝI S20x65 .f32) (((cfg0.win 7).blk t).view.emb (ix2 (hof t) ⟨r, hr⟩ : S20x65.Idx)) = _
    rw [emb7, V_main_arg7]; exact (Cert.Data.hd_aks hr).symm
  av r hr d := by
    show ((((V m c main_arg8 : IVec S20x65x128 8) (((cfg0.win 8).blk t).view.emb (ix3 0 ⟨r, hr⟩ d : S1x65x128.Idx)) : BitVec 8).toInt : ℝ) : EReal) = _
    rw [emb8, V_main_arg8]; exact (Cert.Data.hd_AV hr d).symm
  avs r hr := by
    show (V m c main_arg9 : FVec ℝI S20x65 .f32) (((cfg0.win 9).blk t).view.emb (ix2 (hof t) ⟨r, hr⟩ : S20x65.Idx)) = _
    rw [emb9, V_main_arg9]; exact (Cert.Data.hd_avs hr).symm
  kap := rfl
  qfin k hk := by obtain ⟨q, e, h0⟩ := hf.q b ⟨k, hk⟩ (hof t); exact ⟨q, (Cert.Data.hd_qs hk).trans e, h0⟩
  kfin k hk := by obtain ⟨q, e⟩ := hf.k b ⟨k, hk⟩ (hof t); exact ⟨q, (Cert.Data.hd_ks hk).trans e⟩
  afin r hr := by obtain ⟨q, e⟩ := hf.a (hof t) ⟨r, hr⟩; exact ⟨q, (Cert.Data.hd_aks hr).trans e⟩

end Cert.KernelIdeal.Arrays

end
-- ==== Proof.KernelIdeal.Unit00.lean ====
/- The body's values in unit (batch 0, pair 0): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 201: `I.qb`. -/
theorem u00_201 : kernelRun0_A.sl.v201 c arg1 harg1 x0 =
    (inp c i arg1 harg1 arg2 harg2 arg4 harg4 arg7 harg7 arg8 harg8 arg13 x0 x1 x3 x6 x7 0 0 (by omega) (by omega)).qb := by
  unfold kernelRun0_A.sl.v201 kernelRun0_A.sl.v200 kernelRun0_A.sl.v198
  rfl
/-- 202: `I.q`. -/
theorem u00_202 : kernelRun0_A.sl.v202 c arg1 harg1 x0 =
    (inp c i arg1 harg1 arg2 harg2 arg4 harg4 arg7 harg7 arg8 harg8 arg13 x0 x1 x3 x6 x7 0 0 (by omega) (by omega)).q := by
  unfold kernelRun0_A.sl.v202 kernelRun0_A.sl.v196
  rw [u00_201]
  rfl
/-- 215: `I.b`. -/
theorem u00_215 : kernelRun0_A.sl.r_1 c i arg1 harg1 arg7 harg7 arg8 harg8 x0 x6 x7 =
    (inp c i arg1 harg1 arg2 harg2 arg4 harg4 arg7 harg7 arg8 harg8 arg13 x0 x1 x3 x6 x7 0 0 (by omega) (by omega)).b := by
  unfold kernelRun0_A.sl.r_1 kernelRun0_A.sl.v196
  rw [u00_201]
  rfl
/-- 220: `I.c0`. -/
theorem u00_220 : kernelRun0_A.sl.r_2 c arg2 harg2 x1 =
    (inp c i arg1 harg1 arg2 harg2 arg4 harg4 arg7 harg7 arg8 harg8 arg13 x0 x1 x3 x6 x7 0 0 (by omega) (by omega)).c0 := by
  unfold kernelRun0_A.sl.r_2
  rfl
/-- 222: `I.c1`. -/
theorem u00_222 : kernelRun0_A.sl.r_3 c arg2 harg2 x1 =
    (inp c i arg1 harg1 arg2 harg2 arg4 harg4 arg7 harg7 arg8 harg8 arg13 x0 x1 x3 x6 x7 0 0 (by omega) (by omega)).c1 := by
  unfold kernelRun0_A.sl.r_3
  rfl
/-- 232: `I.a00 k`. -/
theorem u00_232 : kernelRun0_A.sl.r_4 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 0 (by omega) (by omega)).a00 (keyA arg3 harg3 x2 0 (by omega)) := by
  unfold kernelRun0_A.sl.r_4 kernelRun0_A.sl.v224 kernelRun0_A.sl.v196
  rw [u00_202, u00_201, v172_mask, v164_mask]
  rfl
/-- 234: `Tile.colMax (I.a00 k)`. -/
theorem u00_234 : kernelRun0_A.sl.r_5 c i arg1 harg1 arg3 harg3 arg4 harg4 arg7 harg7 arg8 harg8 arg13 x0 x2 x3 x6 x7 =
    Tile.colMax ((inp c i arg1 harg1 arg2 harg2 arg4 harg4 arg7 harg7 arg8 harg8 arg13 x0 x1 x3 x6 x7 0 0 (by omega) (by omega)).a00 (keyA arg3 harg3 x2 0 (by omega))) := by
  unfold kernelRun0_A.sl.r_5 kernelRun0_A.sl.v224 kernelRun0_A.sl.v196
  rw [u00_202, u00_201, v172_mask, v164_mask]
  rfl
/-- 235: `I.fr1`. -/
theorem u00_235 : kernelRun0_A.sl.r_6 c i arg1 harg1 arg7 harg7 arg8 harg8 x0 x6 x7 =
    (inp c i arg1 harg1 arg2 harg2 arg4 harg4 arg7 harg7 arg8 harg8 arg13 x0 x1 x3 x6 x7 0 0 (by omega) (by omega)).fr1 := by
  unfold kernelRun0_A.sl.r_6
  rw [u00_202]
  rfl
/-- 242: `I.a10 k`. -/
theorem u00_242 : kernelRun0_A.sl.r_7 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 0 (by omega) (by omega)).a10 (keyA arg3 harg3 x2 0 (by omega)) := by
  unfold kernelRun0_A.sl.r_7 kernelRun0_A.sl.v224 kernelRun0_A.sl.v196
  rw [u00_202, u00_201, v181_mask]
  rfl
/-- 251: `I.a11 k`. -/
theorem u00_251 : kernelRun0_A.sl.v251 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 0 (by omega) (by omega)).a11 (keyA arg3 harg3 x2 0 (by omega)) := by
  unfold kernelRun0_A.sl.v251 kernelRun0_A.sl.v250 kernelRun0_A.sl.v249 kernelRun0_A.sl.v248 kernelRun0_A.sl.v247 kernelRun0_A.sl.v246 kernelRun0_A.sl.r_8 kernelRun0_A.sl.v243
  rw [u00_235, u00_215, u00_202, v175_mask, v169_mask]
  rfl
/-- 254: `Tile.colMax (maximumf (I.a10 k) (I.a11 k))`. -/
theorem u00_254 : kernelRun0_A.sl.v254 c i arg1 harg1 arg3 harg3 arg4 harg4 arg7 harg7 arg8 harg8 arg13 x0 x2 x3 x6 x7 =
    Tile.colMax (maximumf ((inp c i arg1 harg1 arg2 harg2 arg4 harg4 arg7 harg7 arg8 harg8 arg13 x0 x1 x3 x6 x7 0 0 (by omega) (by omega)).a10 (keyA arg3 harg3 x2 0 (by omega))) ((inp c i arg1 harg1 arg2 harg2 arg4 harg4 arg7 harg7 arg8 harg8 arg13 x0 x1 x3 x6 x7 0 0 (by omega) (by omega)).a11 (keyA arg3 harg3 x2 0 (by omega)))) := by
  unfold kernelRun0_A.sl.v254 kernelRun0_A.sl.v253 kernelRun0_A.sl.v252
  rw [u00_251, u00_242]
  rfl
/-- 260: `I.eA00 k`. -/
theorem u00_260 : kernelRun0_A.sl.v260 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).eA00 (keyA arg3 harg3 x2 0 (by omega)) := by
  unfold kernelRun0_A.sl.v260 kernelRun0_A.sl.v259 kernelRun0_A.sl.v258 kernelRun0_A.sl.v257 kernelRun0_A.sl.v256
  rw [u00_234, u00_232, u00_220]
  rfl
/-- 269: `I.fA0 k`. -/
theorem u00_269 : kernelRun0_A.sl.v269 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).fA0 (keyA arg3 harg3 x2 0 (by omega)) := by
  unfold kernelRun0_A.sl.v269 kernelRun0_A.sl.v268 kernelRun0_A.sl.v264 kernelRun0_A.sl.v263 kernelRun0_A.sl.v20
  rw [u00_260, v172_mask]
  rfl
/-- 275: `I.eA10 k`. -/
theorem u00_275 : kernelRun0_A.sl.v275 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).eA10 (keyA arg3 harg3 x2 0 (by omega)) := by
  unfold kernelRun0_A.sl.v275 kernelRun0_A.sl.v274 kernelRun0_A.sl.v273 kernelRun0_A.sl.v272 kernelRun0_A.sl.v271
  rw [u00_254, u00_242, u00_222]
  rfl
/-- 285: `I.eA11 k`. -/
theorem u00_285 : kernelRun0_A.sl.v285 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).eA11 (keyA arg3 harg3 x2 0 (by omega)) := by
  unfold kernelRun0_A.sl.v285 kernelRun0_A.sl.v284 kernelRun0_A.sl.v282 kernelRun0_A.sl.v273 kernelRun0_A.sl.v271
  rw [u00_254, u00_251, u00_222]
  rfl
/-- 290: `I.xwA k`. -/
theorem u00_290 : kernelRun0_A.sl.v290 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).xwA (keyA arg3 harg3 x2 0 (by omega)) := by
  unfold kernelRun0_A.sl.v290 kernelRun0_A.sl.v280 kernelRun0_A.sl.v266 kernelRun0_A.sl.v20
  rw [u00_285, u00_275, u00_260, v181_mask, v169_mask, v164_mask]
  rfl
/-- 292: `I.fA1 k`. -/
theorem u00_292 : kernelRun0_A.sl.v292 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).fA1 (keyA arg3 harg3 x2 0 (by omega)) := by
  unfold kernelRun0_A.sl.v292 kernelRun0_A.sl.v291 kernelRun0_A.sl.v289 kernelRun0_A.sl.v288 kernelRun0_A.sl.v279 kernelRun0_A.sl.v278 kernelRun0_A.sl.v20
  rw [u00_285, u00_275, v181_mask, v175_mask]
  rfl
/-- 440: `Tile.skew (I.xwA k)`. -/
theorem u00_440 : kernelRun0_A.sl.v440 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 0 0 (by omega) (by omega)).xwA (keyA arg3 harg3 x2 0 (by omega))) := by
  unfold kernelRun0_A.sl.v440 kernelRun0_A.sl.v439 kernelRun0_A.sl.v438 kernelRun0_A.sl.v437 kernelRun0_A.sl.v436 kernelRun0_A.sl.v428 kernelRun0_A.sl.v427 kernelRun0_A.sl.v419 kernelRun0_A.sl.v418 kernelRun0_A.sl.v410 kernelRun0_A.sl.v409 kernelRun0_A.sl.v401 kernelRun0_A.sl.v400 kernelRun0_A.sl.v392 kernelRun0_A.sl.v391 kernelRun0_A.sl.v383 kernelRun0_A.sl.v382 kernelRun0_A.sl.v374 kernelRun0_A.sl.v373 kernelRun0_A.sl.v365 kernelRun0_A.sl.v364 kernelRun0_A.sl.v356 kernelRun0_A.sl.v355 kernelRun0_A.sl.v347 kernelRun0_A.sl.v346 kernelRun0_A.sl.v338 kernelRun0_A.sl.v337 kernelRun0_A.sl.v329 kernelRun0_A.sl.v328 kernelRun0_A.sl.v320 kernelRun0_A.sl.v319 kernelRun0_A.sl.v311 kernelRun0_A.sl.v310 kernelRun0_A.sl.v302 kernelRun0_A.sl.v301 kernelRun0_A.sl.v300 kernelRun0_A.sl.v298 kernelRun0_A.sl.v297 kernelRun0_A.sl.v296 kernelRun0_A.sl.v295 kernelRun0_A.sl.v294 kernelRun0_A.sl.v293 kernelRun0_A.sl.v183 kernelRun0_A.sl.v182
  rw [u00_290]
  rfl
/-- 441: `I.wA0 k`. -/
theorem u00_441 : kernelRun0_A.sl.v441 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).wA0 (keyA arg3 harg3 x2 0 (by omega)) := by
  unfold kernelRun0_A.sl.v441
  rw [u00_440]
  rfl
/-- 442: `I.wA1 k`. -/
theorem u00_442 : kernelRun0_A.sl.v442 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 0 (by omega) (by omega)).wA1 (keyA arg3 harg3 x2 0 (by omega)) := by
  unfold kernelRun0_A.sl.v442
  rw [u00_440]
  rfl
/-- 447: `Tile.inv (I.fA0 k) (I.wA0 k)`. -/
theorem u00_447 : kernelRun0_A.sl.v447 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 0 0 (by omega) (by omega)).fA0 (keyA arg3 harg3 x2 0 (by omega))) ((inp c i arg1 harg1 arg2 harg2 arg4 harg4 arg7 harg7 arg8 harg8 arg13 x0 x1 x3 x6 x7 0 0 (by omega) (by omega)).wA0 (keyA arg3 harg3 x2 0 (by omega))) := by
  unfold kernelRun0_A.sl.v447 kernelRun0_A.sl.v446 kernelRun0_A.sl.v445 kernelRun0_A.sl.v444 kernelRun0_A.sl.v443
  rw [u00_441, u00_269]
  rfl
/-- 452: `Tile.inv (I.fA1 k) (I.wA1 k)`. -/
theorem u00_452 : kernelRun0_A.sl.v452 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 0 0 (by omega) (by omega)).fA1 (keyA arg3 harg3 x2 0 (by omega))) ((inp c i arg1 harg1 arg2 harg2 arg4 harg4 arg7 harg7 arg8 harg8 arg13 x0 x1 x3 x6 x7 0 0 (by omega) (by omega)).wA1 (keyA arg3 harg3 x2 0 (by omega))) := by
  unfold kernelRun0_A.sl.v452 kernelRun0_A.sl.v450 kernelRun0_A.sl.v449 kernelRun0_A.sl.v448 kernelRun0_A.sl.v446
  rw [u00_442, u00_292]
  rfl
/-- 486: `I.oA VT AVT k`. -/
theorem u00_486 : kernelRun0_A.sl.v486 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 0 0 (by omega) (by omega)).oA (vtB arg5 harg5 arg6 harg6 x4 x5 0 (by omega)) (kernelRun0_A.sl.v86 c i arg9 harg9 arg10 harg10 arg14 arg15 x8 x9) (keyA arg3 harg3 x2 0 (by omega)) := by
  unfold kernelRun0_A.sl.v486 kernelRun0_A.sl.v485 kernelRun0_A.sl.v484 kernelRun0_A.sl.v483 kernelRun0_A.sl.v482 kernelRun0_A.sl.v481 kernelRun0_A.sl.v480 kernelRun0_A.sl.v479 kernelRun0_A.sl.v478 kernelRun0_A.sl.v477 kernelRun0_A.sl.v476 kernelRun0_A.sl.v475 kernelRun0_A.sl.v474 kernelRun0_A.sl.v473 kernelRun0_A.sl.v472 kernelRun0_A.sl.v471 kernelRun0_A.sl.v470 kernelRun0_A.sl.v469 kernelRun0_A.sl.v468 kernelRun0_A.sl.v467 kernelRun0_A.sl.v466 kernelRun0_A.sl.v464 kernelRun0_A.sl.v463 kernelRun0_A.sl.v459 kernelRun0_A.sl.v458 kernelRun0_A.sl.v457 kernelRun0_A.sl.v456 kernelRun0_A.sl.v454 kernelRun0_A.sl.v453 kernelRun0_A.sl.v286 kernelRun0_A.sl.v276 kernelRun0_A.sl.v267 kernelRun0_A.sl.v261 kernelRun0_A.sl.v194 kernelRun0_A.sl.v193 kernelRun0_A.sl.v192 kernelRun0_A.sl.v191 kernelRun0_A.sl.v189 kernelRun0_A.sl.v188 kernelRun0_A.sl.v187 kernelRun0_A.sl.v186
  rw [u00_452, u00_447, u00_442, u00_441, u00_292, u00_285, u00_275, u00_269, u00_260]
  rfl
/-- 500: `Tile.wOut (I.wA0 k) (Tile.inv (I.fA0 k) (I.wA0 k))`. -/
theorem u00_500 : kernelRun0_A.sl.v500 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 0 0 (by omega) (by omega)).wA0 (keyA arg3 harg3 x2 0 (by omega))) (Tile.inv ((inp c i arg1 harg1 arg2 harg2 arg4 harg4 arg7 harg7 arg8 harg8 arg13 x0 x1 x3 x6 x7 0 0 (by omega) (by omega)).fA0 (keyA arg3 harg3 x2 0 (by omega))) ((inp c i arg1 harg1 arg2 harg2 arg4 harg4 arg7 harg7 arg8 harg8 arg13 x0 x1 x3 x6 x7 0 0 (by omega) (by omega)).wA0 (keyA arg3 harg3 x2 0 (by omega)))) := by
  unfold kernelRun0_A.sl.v500 kernelRun0_A.sl.v499
  rw [u00_447, u00_441]
  rfl
/-- 501: `mulf (I.fA0 k) (Tile.inv (I.fA0 k) (I.wA0 k))`. -/
theorem u00_501 : kernelRun0_A.sl.v501 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 0 0 (by omega) (by omega)).fA0 (keyA arg3 harg3 x2 0 (by omega))) (Tile.inv ((inp c i arg1 harg1 arg2 harg2 arg4 harg4 arg7 harg7 arg8 harg8 arg13 x0 x1 x3 x6 x7 0 0 (by omega) (by omega)).fA0 (keyA arg3 harg3 x2 0 (by omega))) ((inp c i arg1 harg1 arg2 harg2 arg4 harg4 arg7 harg7 arg8 harg8 arg13 x0 x1 x3 x6 x7 0 0 (by omega) (by omega)).wA0 (keyA arg3 harg3 x2 0 (by omega)))) := by
  unfold kernelRun0_A.sl.v501
  rw [u00_447, u00_269]
/-- 540: `Tile.rot64W (Tile.wOut (I.wA1 k) (Tile.inv (I.fA1 k) (I.wA1 k)))`. -/
theorem u00_540 : kernelRun0_A.sl.v540 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 0 0 (by omega) (by omega)).wA1 (keyA arg3 harg3 x2 0 (by omega))) (Tile.inv ((inp c i arg1 harg1 arg2 harg2 arg4 harg4 arg7 harg7 arg8 harg8 arg13 x0 x1 x3 x6 x7 0 0 (by omega) (by omega)).fA1 (keyA arg3 harg3 x2 0 (by omega))) ((inp c i arg1 harg1 arg2 harg2 arg4 harg4 arg7 harg7 arg8 harg8 arg13 x0 x1 x3 x6 x7 0 0 (by omega) (by omega)).wA1 (keyA arg3 harg3 x2 0 (by omega))))) := by
  unfold kernelRun0_A.sl.v540 kernelRun0_A.sl.v538 kernelRun0_A.sl.v537
  rw [u00_452, u00_442]
  rfl
/-- 541: `Tile.rot64 (mulf (I.fA1 k) (Tile.inv (I.fA1 k) (I.wA1 k)))`. -/
theorem u00_541 : kernelRun0_A.sl.v541 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 0 0 (by omega) (by omega)).fA1 (keyA arg3 harg3 x2 0 (by omega))) (Tile.inv ((inp c i arg1 harg1 arg2 harg2 arg4 harg4 arg7 harg7 arg8 harg8 arg13 x0 x1 x3 x6 x7 0 0 (by omega) (by omega)).fA1 (keyA arg3 harg3 x2 0 (by omega))) ((inp c i arg1 harg1 arg2 harg2 arg4 harg4 arg7 harg7 arg8 harg8 arg13 x0 x1 x3 x6 x7 0 0 (by omega) (by omega)).wA1 (keyA arg3 harg3 x2 0 (by omega))))) := by
  unfold kernelRun0_A.sl.v541 kernelRun0_A.sl.v539
  rw [u00_452, u00_292]
  rfl

end Cert.KernelIdeal.Body
-- ==== Proof.KernelIdeal.Unit01.lean ====
/- The body's values in unit (batch 0, pair 1): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 587: `Tile.stB k I.q`. -/
theorem u01_587 : kernelRun0_A.sl.r_10 c arg1 harg1 arg3 harg3 x0 x2 =
    Tile.stB (keyB arg3 harg3 x2 0 (by omega)) (inp c i arg1 harg1 arg2 harg2 arg4 harg4 arg7 harg7 arg8 harg8 arg13 x0 x1 x3 x6 x7 0 1 (by omega) (by omega)).q := by
  unfold kernelRun0_A.sl.r_10 kernelRun0_A.sl.v578
  rfl
/-- 590: `Tile.far I.akf I.sfar I.q`. -/
theorem u01_590 : kernelRun0_A.sl.r_11 c i arg1 harg1 arg7 harg7 arg8 harg8 x0 x6 x7 =
    Tile.far (inp c i arg1 harg1 arg2 harg2 arg4 harg4 arg7 harg7 arg8 harg8 arg13 x0 x1 x3 x6 x7 0 1 (by omega) (by omega)).akf (inp c i arg1 harg1 arg2 harg2 arg4 harg4 arg7 harg7 arg8 harg8 arg13 x0 x1 x3 x6 x7 0 1 (by omega) (by omega)).sfar (inp c i arg1 harg1 arg2 harg2 arg4 harg4 arg7 harg7 arg8 harg8 arg13 x0 x1 x3 x6 x7 0 1 (by omega) (by omega)).q := by
  unfold kernelRun0_A.sl.r_11 kernelRun0_A.sl.v578
  rfl
/-- 597: `I.b`. -/
theorem u01_597 : kernelRun0_A.sl.r_12 c i arg1 harg1 arg7 harg7 arg8 harg8 x0 x6 x7 =
    (inp c i arg1 harg1 arg2 harg2 arg4 harg4 arg7 harg7 arg8 harg8 arg13 x0 x1 x3 x6 x7 0 1 (by omega) (by omega)).b := by
  unfold kernelRun0_A.sl.r_12 kernelRun0_A.sl.v578
  rfl
/-- 602: `I.c0`. -/
theorem u01_602 : kernelRun0_A.sl.r_13 c arg2 harg2 x1 =
    (inp c i arg1 harg1 arg2 harg2 arg4 harg4 arg7 harg7 arg8 harg8 arg13 x0 x1 x3 x6 x7 0 1 (by omega) (by omega)).c0 := by
  unfold kernelRun0_A.sl.r_13
  rfl
/-- 604: `I.c1`. -/
theorem u01_604 : kernelRun0_A.sl.r_14 c arg2 harg2 x1 =
    (inp c i arg1 harg1 arg2 harg2 arg4 harg4 arg7 harg7 arg8 harg8 arg13 x0 x1 x3 x6 x7 0 1 (by omega) (by omega)).c1 := by
  unfold kernelRun0_A.sl.r_14
  rfl
/-- 605: `I.fr0`. -/
theorem u01_605 : kernelRun0_A.sl.r_15 c i arg1 harg1 arg7 harg7 arg8 harg8 x0 x6 x7 =
    (inp c i arg1 harg1 arg2 harg2 arg4 harg4 arg7 harg7 arg8 harg8 arg13 x0 x1 x3 x6 x7 0 1 (by omega) (by omega)).fr0 := by
  unfold kernelRun0_A.sl.r_15 kernelRun0_A.sl.v578
  rfl
/-- 610: `I.b00 k`. -/
theorem u01_610 : kernelRun0_A.sl.r_16 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b00 (keyB arg3 harg3 x2 0 (by omega)) := by
  unfold kernelRun0_A.sl.r_16 kernelRun0_A.sl.v578 kernelRun0_A.sl.v224
  rfl
/-- 617: `I.b01 k`. -/
theorem u01_617 : kernelRun0_A.sl.v617 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b01 (keyB arg3 harg3 x2 0 (by omega)) := by
  unfold kernelRun0_A.sl.v617 kernelRun0_A.sl.r_18 kernelRun0_A.sl.r_17 kernelRun0_A.sl.v578 kernelRun0_A.sl.v243
  rw [v178_mask]
  rfl
/-- 626: `I.b02 k`. -/
theorem u01_626 : kernelRun0_A.sl.v626 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b02 (keyB arg3 harg3 x2 0 (by omega)) := by
  unfold kernelRun0_A.sl.v626 kernelRun0_A.sl.v625 kernelRun0_A.sl.v624 kernelRun0_A.sl.v622 kernelRun0_A.sl.v621 kernelRun0_A.sl.v620 kernelRun0_A.sl.v619 kernelRun0_A.sl.v618 kernelRun0_A.sl.v248
  rw [u01_605, u01_597, u01_587, v172_mask, v164_mask]
  rfl
/-- 630: `I.mB0 k`. -/
theorem u01_630 : kernelRun0_A.sl.v630 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).mB0 (keyB arg3 harg3 x2 0 (by omega)) := by
  unfold kernelRun0_A.sl.v630 kernelRun0_A.sl.v629 kernelRun0_A.sl.v628 kernelRun0_A.sl.v627
  rw [u01_626 (arg2 := arg2) (harg2 := harg2) (x1 := x1), u01_617 (arg2 := arg2) (harg2 := harg2) (x1 := x1), u01_610 (arg2 := arg2) (harg2 := harg2) (x1 := x1)]
  rfl
/-- 631: `I.fr1`. -/
theorem u01_631 : kernelRun0_A.sl.v631 c i arg1 harg1 arg7 harg7 arg8 harg8 x0 x6 x7 =
    (inp c i arg1 harg1 arg2 harg2 arg4 harg4 arg7 harg7 arg8 harg8 arg13 x0 x1 x3 x6 x7 0 1 (by omega) (by omega)).fr1 := by
  unfold kernelRun0_A.sl.v631
  rw [u01_590]
  rfl
/-- 636: `I.b10 k`. -/
theorem u01_636 : kernelRun0_A.sl.v636 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b10 (keyB arg3 harg3 x2 0 (by omega)) := by
  unfold kernelRun0_A.sl.v636 kernelRun0_A.sl.v635 kernelRun0_A.sl.v634 kernelRun0_A.sl.v633 kernelRun0_A.sl.v632
  rw [u01_631, u01_587]
  rfl
/-- 641: `I.b11 k`. -/
theorem u01_641 : kernelRun0_A.sl.v641 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b11 (keyB arg3 harg3 x2 0 (by omega)) := by
  unfold kernelRun0_A.sl.v641 kernelRun0_A.sl.v639 kernelRun0_A.sl.v638 kernelRun0_A.sl.v637 kernelRun0_A.sl.v635
  rw [u01_631, u01_587]
  rfl
/-- 648: `I.b12 k`. -/
theorem u01_648 : kernelRun0_A.sl.v648 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b12 (keyB arg3 harg3 x2 0 (by omega)) := by
  unfold kernelRun0_A.sl.v648 kernelRun0_A.sl.v647 kernelRun0_A.sl.v646 kernelRun0_A.sl.v645 kernelRun0_A.sl.v644 kernelRun0_A.sl.v643 kernelRun0_A.sl.v618
  rw [u01_631, u01_597, u01_587, v181_mask]
  rfl
/-- 657: `I.b13 k`. -/
theorem u01_657 : kernelRun0_A.sl.v657 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).b13 (keyB arg3 harg3 x2 0 (by omega)) := by
  unfold kernelRun0_A.sl.v657 kernelRun0_A.sl.v656 kernelRun0_A.sl.v655 kernelRun0_A.sl.v651 kernelRun0_A.sl.v650 kernelRun0_A.sl.v649 kernelRun0_A.sl.v646 kernelRun0_A.sl.v645 kernelRun0_A.sl.v248
  rw [u01_631, u01_597, u01_587, v175_mask, v169_mask]
  rfl
/-- 662: `I.mB1 k`. -/
theorem u01_662 : kernelRun0_A.sl.v662 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 0 1 (by omega) (by omega)).mB1 (keyB arg3 harg3 x2 0 (by omega)) := by
  unfold kernelRun0_A.sl.v662 kernelRun0_A.sl.v661 kernelRun0_A.sl.v660 kernelRun0_A.sl.v659 kernelRun0_A.sl.v658
  rw [u01_657 (arg2 := arg2) (harg2 := harg2) (x1 := x1), u01_648 (arg2 := arg2) (harg2 := harg2) (x1 := x1), u01_641 (arg2 := arg2) (harg2 := harg2) (x1 := x1), u01_636 (arg2 := arg2) (harg2 := harg2) (x1 := x1)]
  rfl
/-- 668: `I.eB00 k`. -/
theorem u01_668 : kernelRun0_A.sl.v668 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB00 (keyB arg3 harg3 x2 0 (by omega)) := by
  unfold kernelRun0_A.sl.v668 kernelRun0_A.sl.v667 kernelRun0_A.sl.v666 kernelRun0_A.sl.v665 kernelRun0_A.sl.v664
  rw [u01_630, u01_610, u01_602]
  rfl
/-- 675: `I.eB01 k`. -/
theorem u01_675 : kernelRun0_A.sl.v675 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB01 (keyB arg3 harg3 x2 0 (by omega)) := by
  unfold kernelRun0_A.sl.v675 kernelRun0_A.sl.v674 kernelRun0_A.sl.v672 kernelRun0_A.sl.v666 kernelRun0_A.sl.v664
  rw [u01_630, u01_617, u01_602]
  rfl
/-- 686: `I.eB02 k`. -/
theorem u01_686 : kernelRun0_A.sl.v686 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB02 (keyB arg3 harg3 x2 0 (by omega)) := by
  unfold kernelRun0_A.sl.v686 kernelRun0_A.sl.v685 kernelRun0_A.sl.v683 kernelRun0_A.sl.v666 kernelRun0_A.sl.v664
  rw [u01_630, u01_626, u01_602]
  rfl
/-- 694: `I.fB0 k`. -/
theorem u01_694 : kernelRun0_A.sl.v694 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).fB0 (keyB arg3 harg3 x2 0 (by omega)) := by
  unfold kernelRun0_A.sl.v694 kernelRun0_A.sl.v693 kernelRun0_A.sl.v690 kernelRun0_A.sl.v689 kernelRun0_A.sl.v679 kernelRun0_A.sl.v678 kernelRun0_A.sl.v670 kernelRun0_A.sl.v20
  rw [u01_686, u01_675, u01_668, v178_mask, v172_mask]
  rfl
/-- 700: `I.eB10 k`. -/
theorem u01_700 : kernelRun0_A.sl.v700 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB10 (keyB arg3 harg3 x2 0 (by omega)) := by
  unfold kernelRun0_A.sl.v700 kernelRun0_A.sl.v699 kernelRun0_A.sl.v698 kernelRun0_A.sl.v697 kernelRun0_A.sl.v696
  rw [u01_662, u01_636, u01_604]
  rfl
/-- 707: `I.eB11 k`. -/
theorem u01_707 : kernelRun0_A.sl.v707 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB11 (keyB arg3 harg3 x2 0 (by omega)) := by
  unfold kernelRun0_A.sl.v707 kernelRun0_A.sl.v706 kernelRun0_A.sl.v704 kernelRun0_A.sl.v698 kernelRun0_A.sl.v696
  rw [u01_662, u01_641, u01_604]
  rfl
/-- 714: `I.eB12 k`. -/
theorem u01_714 : kernelRun0_A.sl.v714 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB12 (keyB arg3 harg3 x2 0 (by omega)) := by
  unfold kernelRun0_A.sl.v714 kernelRun0_A.sl.v713 kernelRun0_A.sl.v711 kernelRun0_A.sl.v698 kernelRun0_A.sl.v696
  rw [u01_662, u01_648, u01_604]
  rfl
/-- 724: `I.eB13 k`. -/
theorem u01_724 : kernelRun0_A.sl.v724 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).eB13 (keyB arg3 harg3 x2 0 (by omega)) := by
  unfold kernelRun0_A.sl.v724 kernelRun0_A.sl.v723 kernelRun0_A.sl.v721 kernelRun0_A.sl.v698 kernelRun0_A.sl.v696
  rw [u01_662, u01_657, u01_604]
  rfl
/-- 729: `I.xwB k`. -/
theorem u01_729 : kernelRun0_A.sl.v729 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).xwB (keyB arg3 harg3 x2 0 (by omega)) := by
  unfold kernelRun0_A.sl.v729 kernelRun0_A.sl.v719 kernelRun0_A.sl.v691 kernelRun0_A.sl.v681 kernelRun0_A.sl.v20
  rw [u01_724, u01_714, u01_686, u01_675, v181_mask, v178_mask, v169_mask, v164_mask]
  rfl
/-- 731: `I.fB1 k`. -/
theorem u01_731 : kernelRun0_A.sl.v731 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).fB1 (keyB arg3 harg3 x2 0 (by omega)) := by
  unfold kernelRun0_A.sl.v731 kernelRun0_A.sl.v730 kernelRun0_A.sl.v728 kernelRun0_A.sl.v727 kernelRun0_A.sl.v718 kernelRun0_A.sl.v717 kernelRun0_A.sl.v709 kernelRun0_A.sl.v702 kernelRun0_A.sl.v20
  rw [u01_724, u01_714, u01_707, u01_700, v181_mask, v175_mask]
  rfl
/-- 879: `Tile.skew (I.xwB k)`. -/
theorem u01_879 : kernelRun0_A.sl.v879 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 0 1 (by omega) (by omega)).xwB (keyB arg3 harg3 x2 0 (by omega))) := by
  unfold kernelRun0_A.sl.v879 kernelRun0_A.sl.v878 kernelRun0_A.sl.v877 kernelRun0_A.sl.v876 kernelRun0_A.sl.v875 kernelRun0_A.sl.v867 kernelRun0_A.sl.v866 kernelRun0_A.sl.v858 kernelRun0_A.sl.v857 kernelRun0_A.sl.v849 kernelRun0_A.sl.v848 kernelRun0_A.sl.v840 kernelRun0_A.sl.v839 kernelRun0_A.sl.v831 kernelRun0_A.sl.v830 kernelRun0_A.sl.v822 kernelRun0_A.sl.v821 kernelRun0_A.sl.v813 kernelRun0_A.sl.v812 kernelRun0_A.sl.v804 kernelRun0_A.sl.v803 kernelRun0_A.sl.v795 kernelRun0_A.sl.v794 kernelRun0_A.sl.v786 kernelRun0_A.sl.v785 kernelRun0_A.sl.v777 kernelRun0_A.sl.v776 kernelRun0_A.sl.v768 kernelRun0_A.sl.v767 kernelRun0_A.sl.v759 kernelRun0_A.sl.v758 kernelRun0_A.sl.v750 kernelRun0_A.sl.v749 kernelRun0_A.sl.v741 kernelRun0_A.sl.v740 kernelRun0_A.sl.v732 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u01_729]
  rfl
/-- 880: `I.wB0 k`. -/
theorem u01_880 : kernelRun0_A.sl.v880 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).wB0 (keyB arg3 harg3 x2 0 (by omega)) := by
  unfold kernelRun0_A.sl.v880
  rw [u01_879]
  rfl
/-- 881: `I.wB1 k`. -/
theorem u01_881 : kernelRun0_A.sl.v881 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 0 1 (by omega) (by omega)).wB1 (keyB arg3 harg3 x2 0 (by omega)) := by
  unfold kernelRun0_A.sl.v881
  rw [u01_879]
  rfl
/-- 886: `Tile.inv (I.fB0 k) (I.wB0 k)`. -/
theorem u01_886 : kernelRun0_A.sl.v886 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 0 1 (by omega) (by omega)).fB0 (keyB arg3 harg3 x2 0 (by omega))) ((inp c i arg1 harg1 arg2 harg2 arg4 harg4 arg7 harg7 arg8 harg8 arg13 x0 x1 x3 x6 x7 0 1 (by omega) (by omega)).wB0 (keyB arg3 harg3 x2 0 (by omega))) := by
  unfold kernelRun0_A.sl.v886 kernelRun0_A.sl.v884 kernelRun0_A.sl.v883 kernelRun0_A.sl.v882 kernelRun0_A.sl.v446
  rw [u01_880, u01_694]
  rfl
/-- 891: `Tile.inv (I.fB1 k) (I.wB1 k)`. -/
theorem u01_891 : kernelRun0_A.sl.v891 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 0 1 (by omega) (by omega)).fB1 (keyB arg3 harg3 x2 0 (by omega))) ((inp c i arg1 harg1 arg2 harg2 arg4 harg4 arg7 harg7 arg8 harg8 arg13 x0 x1 x3 x6 x7 0 1 (by omega) (by omega)).wB1 (keyB arg3 harg3 x2 0 (by omega))) := by
  unfold kernelRun0_A.sl.v891 kernelRun0_A.sl.v889 kernelRun0_A.sl.v888 kernelRun0_A.sl.v887 kernelRun0_A.sl.v446
  rw [u01_881, u01_731]
  rfl
/-- 924: `I.oB VT AVT k`. -/
theorem u01_924 : kernelRun0_A.sl.v924 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 0 1 (by omega) (by omega)).oB (vtB arg5 harg5 arg6 harg6 x4 x5 0 (by omega)) (kernelRun0_A.sl.v86 c i arg9 harg9 arg10 harg10 arg14 arg15 x8 x9) (keyB arg3 harg3 x2 0 (by omega)) := by
  unfold kernelRun0_A.sl.v924 kernelRun0_A.sl.v923 kernelRun0_A.sl.v922 kernelRun0_A.sl.v921 kernelRun0_A.sl.v920 kernelRun0_A.sl.v919 kernelRun0_A.sl.v918 kernelRun0_A.sl.v917 kernelRun0_A.sl.v916 kernelRun0_A.sl.v915 kernelRun0_A.sl.v914 kernelRun0_A.sl.v913 kernelRun0_A.sl.v912 kernelRun0_A.sl.v911 kernelRun0_A.sl.v910 kernelRun0_A.sl.v909 kernelRun0_A.sl.v908 kernelRun0_A.sl.v907 kernelRun0_A.sl.v906 kernelRun0_A.sl.v905 kernelRun0_A.sl.v903 kernelRun0_A.sl.v902 kernelRun0_A.sl.v898 kernelRun0_A.sl.v896 kernelRun0_A.sl.v895 kernelRun0_A.sl.v725 kernelRun0_A.sl.v715 kernelRun0_A.sl.v708 kernelRun0_A.sl.v701 kernelRun0_A.sl.v687 kernelRun0_A.sl.v676 kernelRun0_A.sl.v669 kernelRun0_A.sl.v458 kernelRun0_A.sl.v454 kernelRun0_A.sl.v453 kernelRun0_A.sl.v267 kernelRun0_A.sl.v194 kernelRun0_A.sl.v193 kernelRun0_A.sl.v192 kernelRun0_A.sl.v191 kernelRun0_A.sl.v189 kernelRun0_A.sl.v188 kernelRun0_A.sl.v187 kernelRun0_A.sl.v186
  rw [u01_891, u01_886, u01_881, u01_880, u01_731, u01_724, u01_714, u01_707, u01_700, u01_694, u01_686, u01_675, u01_668]
  rfl
/-- 938: `Tile.wOut (I.wB0 k) (Tile.inv (I.fB0 k) (I.wB0 k))`. -/
theorem u01_938 : kernelRun0_A.sl.v938 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 0 1 (by omega) (by omega)).wB0 (keyB arg3 harg3 x2 0 (by omega))) (Tile.inv ((inp c i arg1 harg1 arg2 harg2 arg4 harg4 arg7 harg7 arg8 harg8 arg13 x0 x1 x3 x6 x7 0 1 (by omega) (by omega)).fB0 (keyB arg3 harg3 x2 0 (by omega))) ((inp c i arg1 harg1 arg2 harg2 arg4 harg4 arg7 harg7 arg8 harg8 arg13 x0 x1 x3 x6 x7 0 1 (by omega) (by omega)).wB0 (keyB arg3 harg3 x2 0 (by omega)))) := by
  unfold kernelRun0_A.sl.v938 kernelRun0_A.sl.v937
  rw [u01_886, u01_880]
  rfl
/-- 939: `mulf (I.fB0 k) (Tile.inv (I.fB0 k) (I.wB0 k))`. -/
theorem u01_939 : kernelRun0_A.sl.v939 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 0 1 (by omega) (by omega)).fB0 (keyB arg3 harg3 x2 0 (by omega))) (Tile.inv ((inp c i arg1 harg1 arg2 harg2 arg4 harg4 arg7 harg7 arg8 harg8 arg13 x0 x1 x3 x6 x7 0 1 (by omega) (by omega)).fB0 (keyB arg3 harg3 x2 0 (by omega))) ((inp c i arg1 harg1 arg2 harg2 arg4 harg4 arg7 harg7 arg8 harg8 arg13 x0 x1 x3 x6 x7 0 1 (by omega) (by omega)).wB0 (keyB arg3 harg3 x2 0 (by omega)))) := by
  unfold kernelRun0_A.sl.v939
  rw [u01_886, u01_694]
/-- 978: `Tile.rot64W (Tile.wOut (I.wB1 k) (Tile.inv (I.fB1 k) (I.wB1 k)))`. -/
theorem u01_978 : kernelRun0_A.sl.v978 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 0 1 (by omega) (by omega)).wB1 (keyB arg3 harg3 x2 0 (by omega))) (Tile.inv ((inp c i arg1 harg1 arg2 harg2 arg4 harg4 arg7 harg7 arg8 harg8 arg13 x0 x1 x3 x6 x7 0 1 (by omega) (by omega)).fB1 (keyB arg3 harg3 x2 0 (by omega))) ((inp c i arg1 harg1 arg2 harg2 arg4 harg4 arg7 harg7 arg8 harg8 arg13 x0 x1 x3 x6 x7 0 1 (by omega) (by omega)).wB1 (keyB arg3 harg3 x2 0 (by omega))))) := by
  unfold kernelRun0_A.sl.v978 kernelRun0_A.sl.v976 kernelRun0_A.sl.v975
  rw [u01_891, u01_881]
  rfl
/-- 979: `Tile.rot64 (mulf (I.fB1 k) (Tile.inv (I.fB1 k) (I.wB1 k)))`. -/
theorem u01_979 : kernelRun0_A.sl.v979 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 0 1 (by omega) (by omega)).fB1 (keyB arg3 harg3 x2 0 (by omega))) (Tile.inv ((inp c i arg1 harg1 arg2 harg2 arg4 harg4 arg7 harg7 arg8 harg8 arg13 x0 x1 x3 x6 x7 0 1 (by omega) (by omega)).fB1 (keyB arg3 harg3 x2 0 (by omega))) ((inp c i arg1 harg1 arg2 harg2 arg4 harg4 arg7 harg7 arg8 harg8 arg13 x0 x1 x3 x6 x7 0 1 (by omega) (by omega)).wB1 (keyB arg3 harg3 x2 0 (by omega))))) := by
  unfold kernelRun0_A.sl.v979 kernelRun0_A.sl.v977
  rw [u01_891, u01_731]
  rfl

end Cert.KernelIdeal.Body
-- ==== Proof.KernelIdeal.Store.lean ====
/- The stores of the body: each writes the specification's values of its rows. -/
module

public import proofs.«01_k».proof.Proof.KernelIdeal.Out

@[expose] public section

noncomputable section

namespace Cert.KernelIdeal.Store

open Cert.KernelIdeal.Gen Cert.KernelIdeal.Tile Cert.Spec
open Idealize.ShloMosaic Idealize.ShloMosaic.TcCoe Idealize.ShloMosaic.Tactic Idealize.SL.Sem

local notation "ℝI" => Idealize.ShloMosaic.Ideal

variable (hd : Fin 4 → Hd)

/-- The first result's block of a head. -/
def G10 (y : S4x512x128.Idx) : EReal := (hd (y 0)).OUT (y 1 : ℕ) (y 2)
/-- The second result's block of a head: row `16 r + 4 q + b` holds weight `r` of block `q` of batch `b`. -/
def G11 (y : S1x1040x128.Idx) : EReal :=
  (hd ⟨(y 1 : ℕ) % 4, Nat.mod_lt _ (by omega)⟩).WOUT (128 * ((y 1 : ℕ) % 16 / 4) + (y 2 : ℕ)) ((y 1 : ℕ) / 16)

theorem G10_eq {y : S4x512x128.Idx} {b : Fin 4} {n : ℕ} {d : Fin 128} (h0 : (y 0 : ℕ) = b) (h1 : (y 1 : ℕ) = n) (h2 : (y 2 : ℕ) = d) :
    G10 hd y = (hd b).OUT n d := by
  have e0 : y 0 = b := Fin.ext h0
  have e2 : y 2 = d := Fin.ext h2
  unfold G10; rw [e0, h1, e2]
theorem G11_eq {y : S1x1040x128.Idx} {b : Fin 4} {q r : ℕ} {l : Fin 128} (hq : q < 4) (h1 : (y 1 : ℕ) = 16 * r + 4 * q + b) (h2 : (y 2 : ℕ) = l) :
    G11 hd y = (hd b).WOUT (128 * q + l) r := by
  unfold G11
  have e : (⟨(y 1 : ℕ) % 4, Nat.mod_lt _ (by omega)⟩ : Fin 4) = b := Fin.ext (by dsimp only; omega)
  rw [e, h2, show (y 1 : ℕ) % 16 / 4 = q by omega, show (y 1 : ℕ) / 16 = r by omega]

theorem eta3 {a b c : ℕ} (x : (⟨3, ![a, b, c]⟩ : Shape).Idx) : x = ix3 (x 0) (x 1) (x 2) := by funext a; fin_cases a <;> rfl

section
variable {b : Fin 4}

theorem cast_lo (OT : FVec ℝI S256x128 .bf16) (a : Fin 1) (l d : Fin 128) :
    shapeCast S1x128x128 (extractStridedSlice S128x128 ![0, 0] OT slices_S256x128_o0_0_S128x128) shapeCasts_S128x128_S1x128x128 (ix3 a l d)
      = OT (ix2 ⟨l, by omega⟩ d) := by
  pointwise []
theorem cast_mid (OT : FVec ℝI S256x128 .bf16) (a : Fin 1) (l : Fin 64) (d : Fin 128) :
    shapeCast S1x64x128 (extractStridedSlice S64x128 ![192, 0] OT slices_S256x128_o192_0_S64x128) shapeCasts_S64x128_S1x64x128 (ix3 a l d)
      = OT (ix2 ⟨128 + (64 + l), by omega⟩ d) := by
  pointwise []
  exact congrArg OT (funext fun a => by fin_cases a <;> [exact Fin.ext (by show 192 + (l : ℕ) = 128 + (64 + l); omega); rfl])
theorem cast_hi (OT : FVec ℝI S256x128 .bf16) (a : Fin 1) (l : Fin 64) (d : Fin 128) :
    shapeCast S1x64x128 (extractStridedSlice S64x128 ![128, 0] OT slices_S256x128_o128_0_S64x128) shapeCasts_S64x128_S1x64x128 (ix3 a l d)
      = OT (ix2 ⟨128 + l, by omega⟩ d) := by
  pointwise []
theorem cast_near {n : ℕ} (W : FVec ℝI S64x128 .f32) (hs) (hn : n + 8 ≤ 64) (a : Fin 1) (l : Fin 8) (d : Fin 128) :
    shapeCast S1x8x128 (extractStridedSlice S8x128 ![n, 0] W hs) shapeCasts_S8x128_S1x8x128 (ix3 a l d)
      = W (ix2 ⟨n + l, by omega⟩ d) := by
  pointwise []
theorem cast_far (f : FVec ℝI S1x128 .f32) (a : Fin 1) (l : Fin 1) (d : Fin 128) :
    shapeCast S1x1x128 f shapeCasts_S1x128_S1x1x128 (ix3 a l d) = f (ix2 0 d) := by
  pointwise []

theorem out_lo {o : ℕ} {OT : FVec ℝI S256x128 .bf16} (h : ∀ l d : Fin 128, OT (ix2 ⟨l, by omega⟩ d) = (hd b).OUT (o + l) d) (inb) (x : S1x128x128.Idx) :
    shapeCast S1x128x128 (extractStridedSlice S128x128 ![0, 0] OT slices_S256x128_o0_0_S128x128) shapeCasts_S128x128_S1x128x128 x
      = G10 hd ((Rect.unit (s := S4x512x128) ![(b : ℕ), o, 0] S1x128x128.size inb).emb x) := by
  obtain ⟨a, l, d, rfl⟩ : ∃ (a : Fin 1) (l d : Fin 128), x = ix3 a l d := ⟨_, _, _, eta3 x⟩
  rw [cast_lo, h, G10_eq hd (b := b) (n := o + l) (d := d)] <;> (rw [Rect.emb_apply]; simp [Rect.unit])
theorem out_mid {o : ℕ} {OT : FVec ℝI S256x128 .bf16} (h : ∀ l d : Fin 128, OT (ix2 ⟨128 + l, by omega⟩ d) = (hd b).OUT (o + (l + 64) % 128) d) (inb) (x : S1x64x128.Idx) :
    shapeCast S1x64x128 (extractStridedSlice S64x128 ![192, 0] OT slices_S256x128_o192_0_S64x128) shapeCasts_S64x128_S1x64x128 x
      = G10 hd ((Rect.unit (s := S4x512x128) ![(b : ℕ), o, 0] S1x64x128.size inb).emb x) := by
  obtain ⟨a, l, d, rfl⟩ : ∃ (a : Fin 1) (l : Fin 64) (d : Fin 128), x = ix3 a l d := ⟨_, _, _, eta3 x⟩
  have e := h ⟨64 + l, by omega⟩ d
  rw [cast_mid, e, G10_eq hd (b := b) (n := o + (64 + l + 64) % 128) (d := d)] <;> (rw [Rect.emb_apply]; simp [Rect.unit])
  omega
theorem out_hi {o m : ℕ} {OT : FVec ℝI S256x128 .bf16} (h : ∀ l d : Fin 128, OT (ix2 ⟨128 + l, by omega⟩ d) = (hd b).OUT (o + (l + 64) % 128) d) (hm : m = o + 64) (inb) (x : S1x64x128.Idx) :
    shapeCast S1x64x128 (extractStridedSlice S64x128 ![128, 0] OT slices_S256x128_o128_0_S64x128) shapeCasts_S64x128_S1x64x128 x
      = G10 hd ((Rect.unit (s := S4x512x128) ![(b : ℕ), m, 0] S1x64x128.size inb).emb x) := by
  obtain ⟨a, l, d, rfl⟩ : ∃ (a : Fin 1) (l : Fin 64) (d : Fin 128), x = ix3 a l d := ⟨_, _, _, eta3 x⟩
  have e := h ⟨l, by omega⟩ d
  rw [cast_hi, e, G10_eq hd (b := b) (n := o + (l + 64) % 128) (d := d)] <;> (rw [Rect.emb_apply]; simp [Rect.unit])
  omega

theorem near {n q t : ℕ} {W : FVec ℝI S64x128 .f32} (h : ∀ (r : Fin 64) (l : Fin 128), W (ix2 r l) = (hd b).WOUT (128 * q + l) r)
    (hn : n + 8 ≤ 64) (hq : q < 4) (ht : t = 16 * n + 4 * q + b) (hs inb hp) (x : S1x8x128.Idx) :
    shapeCast S1x8x128 (extractStridedSlice S8x128 ![n, 0] W hs) shapeCasts_S8x128_S1x8x128 x
      = G11 hd ((⟨⟨![0, t, 0], S1x8x128.size, ![1, 16, 1], inb⟩, hp⟩ : Rect S1x1040x128).emb x) := by
  obtain ⟨a, l, d, rfl⟩ : ∃ (a : Fin 1) (l : Fin 8) (d : Fin 128), x = ix3 a l d := ⟨_, _, _, eta3 x⟩
  rw [cast_near _ _ hn, h, G11_eq hd (b := b) (q := q) (r := n + l) (l := d) hq] <;> (rw [Rect.emb_apply]; simp)
  omega
theorem far {q t : ℕ} {f : FVec ℝI S1x128 .f32} (h : ∀ (l : Fin 128), f (ix2 0 l) = (hd b).WOUT (128 * q + l) 64)
    (hq : q < 4) (ht : t = 1024 + 4 * q + b) (inb) (x : S1x1x128.Idx) :
    shapeCast S1x1x128 f shapeCasts_S1x128_S1x1x128 x = G11 hd ((Rect.unit (s := S1x1040x128) ![0, t, 0] S1x1x128.size inb).emb x) := by
  obtain ⟨a, l, d, rfl⟩ : ∃ (a : Fin 1) (l : Fin 1) (d : Fin 128), x = ix3 a l d := ⟨_, _, _, eta3 x⟩
  rw [cast_far, h, G11_eq hd (b := b) (q := q) (r := 64) (l := d) hq] <;> (rw [Rect.emb_apply]; simp [Rect.unit])
  omega

end

end Cert.KernelIdeal.Store
-- ==== Proof.KernelIdeal.Facts0.lean ====
/- What the units of batch 0 hold: the specification's values of their rows. -/
module

public import proofs.«01_k».proof.Proof.KernelIdeal.Unit00
public import proofs.«01_k».proof.Proof.KernelIdeal.Unit01
public import proofs.«01_k».proof.Proof.KernelIdeal.Prep
public import proofs.«01_k».proof.Proof.KernelIdeal.Store
import all proofs.«01_k».proof.Proof.KernelIdeal.Run

@[expose] public section

set_option maxRecDepth 16384

noncomputable section

namespace Cert.KernelIdeal.Body

open Cert.KernelIdeal.Gen Cert.Spec Cert.KernelIdeal.Tile Cert.KernelIdeal.Store
open Idealize.ShloMosaic Idealize.ShloMosaic.TcCoe Idealize.ShloMosaic.Tactic Idealize.SL.Sem

local notation "ℝI" => Idealize.ShloMosaic.Ideal

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg11 : Memref sig .tc .vmem S4x512x128 .bf16) (harg11 : arg11.IsWhole)
variable (arg12 : Memref sig .tc .vmem S1x1040x128 .f32) (harg12 : arg12.IsWhole)
variable (arg13 : Memref sig .tc .vmem S512x512 .f32)
variable (arg14 : Memref sig .tc .vmem S80x128 .f32)
variable (arg15 : Memref sig .tc .vmem S8x128 .f32)
variable (x0 : Vec ℝI S4x1x512x128 .fp8e4m3)
variable (x1 : Vec ℝI S1x4x512 .f32)
variable (x2 : Vec ℝI S4x1x512x128 .fp8e4m3)
variable (x3 : Vec ℝI S1x4x512 .f32)
variable (x4 : Vec ℝI S4x1x512x128 .fp8e4m3)
variable (x5 : Vec ℝI S1x4x512 .f32)
variable (x6 : Vec ℝI S1x65x128 .i8)
variable (x7 : Vec ℝI S20x65 .f32)
variable (x8 : Vec ℝI S1x65x128 .i8)
variable (x9 : Vec ℝI S20x65 .f32)

variable {H : Hd} {h : Fin 20} (hs : Src H 0 h x0 x1 x2 x3 x4 x5 x6 x7 x8 x9) (hi : k0_off1 i = ![(h : ℕ), 0])

include hs hi in
/-- Block 0: the first result. -/
theorem o00 (l d : Fin 128) : kernelRun0_A.sl.v486 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 0 + l) d := by
  rw [u00_486]
  exact oA0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 0: the near weights. -/
theorem w00 (r : Fin 64) (l : Fin 128) : kernelRun0_A.sl.v500 (F := ℝI) c i arg1 harg1 arg2 harg2 arg3 harg3 arg4 harg4 arg7 harg7 arg8 harg8 arg13 x0 x1 x2 x3 x6 x7 (ix2 r l) = H.WOUT (128 * 0 + l) r := by
  rw [u00_500]
  exact wOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 0: the far weight. -/
theorem f00 (l : Fin 128) : kernelRun0_A.sl.v501 (F := ℝI) c i arg1 harg1 arg2 harg2 arg3 harg3 arg4 harg4 arg7 harg7 arg8 harg8 arg13 x0 x1 x2 x3 x6 x7 (ix2 0 l) = H.WOUT (128 * 0 + l) 64 := by
  rw [u00_501]
  exact fOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 1: the first result. -/
theorem o01 (l d : Fin 128) : kernelRun0_A.sl.v486 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 1 + Lb l) d := by
  rw [u00_486]
  exact oA1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 1: the near weights. -/
theorem w01 (r : Fin 64) (l : Fin 128) : kernelRun0_A.sl.v540 (F := ℝI) c i arg1 harg1 arg2 harg2 arg3 harg3 arg4 harg4 arg7 harg7 arg8 harg8 arg13 x0 x1 x2 x3 x6 x7 (ix2 r l) = H.WOUT (128 * 1 + l) r := by
  rw [u00_540]
  exact wOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 1: the far weight. -/
theorem f01 (l : Fin 128) : kernelRun0_A.sl.v541 (F := ℝI) c i arg1 harg1 arg2 harg2 arg3 harg3 arg4 harg4 arg7 harg7 arg8 harg8 arg13 x0 x1 x2 x3 x6 x7 (ix2 0 l) = H.WOUT (128 * 1 + l) 64 := by
  rw [u00_541]
  exact fOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 2: the first result. -/
theorem o02 (l d : Fin 128) : kernelRun0_A.sl.v924 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 2 + l) d := by
  rw [u01_924]
  exact oB0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 2: the near weights. -/
theorem w02 (r : Fin 64) (l : Fin 128) : kernelRun0_A.sl.v938 (F := ℝI) c i arg1 harg1 arg2 harg2 arg3 harg3 arg4 harg4 arg7 harg7 arg8 harg8 arg13 x0 x1 x2 x3 x6 x7 (ix2 r l) = H.WOUT (128 * 2 + l) r := by
  rw [u01_938]
  exact wOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 2: the far weight. -/
theorem f02 (l : Fin 128) : kernelRun0_A.sl.v939 (F := ℝI) c i arg1 harg1 arg2 harg2 arg3 harg3 arg4 harg4 arg7 harg7 arg8 harg8 arg13 x0 x1 x2 x3 x6 x7 (ix2 0 l) = H.WOUT (128 * 2 + l) 64 := by
  rw [u01_939]
  exact fOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

include hs hi in
/-- Block 3: the first result. -/
theorem o03 (l d : Fin 128) : kernelRun0_A.sl.v924 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 3 + Lb l) d := by
  rw [u01_924]
  exact oB1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 3: the near weights. -/
theorem w03 (r : Fin 64) (l : Fin 128) : kernelRun0_A.sl.v978 (F := ℝI) c i arg1 harg1 arg2 harg2 arg3 harg3 arg4 harg4 arg7 harg7 arg8 harg8 arg13 x0 x1 x2 x3 x6 x7 (ix2 r l) = H.WOUT (128 * 3 + l) r := by
  rw [u01_978]
  exact wOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 3: the far weight. -/
theorem f03 (l : Fin 128) : kernelRun0_A.sl.v979 (F := ℝI) c i arg1 harg1 arg2 harg2 arg3 harg3 arg4 harg4 arg7 harg7 arg8 harg8 arg13 x0 x1 x2 x3 x6 x7 (ix2 0 l) = H.WOUT (128 * 3 + l) 64 := by
  rw [u01_979]
  exact fOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

end Cert.KernelIdeal.Body
-- ==== Proof.KernelIdeal.Unit10.lean ====
/- The body's values in unit (batch 1, pair 0): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 201: `I.qb`. -/
theorem u10_201 : kernelRun0_A.sl.v1031 c arg1 harg1 x0 =
    (inp c i arg1 harg1 arg2 harg2 arg4 harg4 arg7 harg7 arg8 harg8 arg13 x0 x1 x3 x6 x7 1 0 (by omega) (by omega)).qb := by
  unfold kernelRun0_A.sl.v1031 kernelRun0_A.sl.v1030 kernelRun0_A.sl.v1028
  rfl
/-- 202: `I.q`. -/
theorem u10_202 : kernelRun0_A.sl.v1032 c arg1 harg1 x0 =
    (inp c i arg1 harg1 arg2 harg2 arg4 harg4 arg7 harg7 arg8 harg8 arg13 x0 x1 x3 x6 x7 1 0 (by omega) (by omega)).q := by
  unfold kernelRun0_A.sl.v1032 kernelRun0_A.sl.v1026
  rw [u10_201]
  rfl
/-- 205: `Tile.stA k I.q`. -/
theorem u10_205 : kernelRun0_A.sl.v1035 c arg1 harg1 arg3 harg3 x0 x2 =
    Tile.stA (keyA arg3 harg3 x2 1 (by omega)) (inp c i arg1 harg1 arg2 harg2 arg4 harg4 arg7 harg7 arg8 harg8 arg13 x0 x1 x3 x6 x7 1 0 (by omega) (by omega)).q := by
  unfold kernelRun0_A.sl.v1035 kernelRun0_A.sl.v1034
  rw [u10_202]
  rfl
/-- 208: `Tile.far I.akf I.sfar I.q`. -/
theorem u10_208 : kernelRun0_A.sl.v1038 c i arg1 harg1 arg7 harg7 arg8 harg8 x0 x6 x7 =
    Tile.far (inp c i arg1 harg1 arg2 harg2 arg4 harg4 arg7 harg7 arg8 harg8 arg13 x0 x1 x3 x6 x7 1 0 (by omega) (by omega)).akf (inp c i arg1 harg1 arg2 harg2 arg4 harg4 arg7 harg7 arg8 harg8 arg13 x0 x1 x3 x6 x7 1 0 (by omega) (by omega)).sfar (inp c i arg1 harg1 arg2 harg2 arg4 harg4 arg7 harg7 arg8 harg8 arg13 x0 x1 x3 x6 x7 1 0 (by omega) (by omega)).q := by
  unfold kernelRun0_A.sl.v1038 kernelRun0_A.sl.v1037 kernelRun0_A.sl.v1036
  rw [u10_202]
  rfl
/-- 220: `I.c0`. -/
theorem u10_220 : kernelRun0_A.sl.r_19 c arg2 harg2 x1 =
    (inp c i arg1 harg1 arg2 harg2 arg4 harg4 arg7 harg7 arg8 harg8 arg13 x0 x1 x3 x6 x7 1 0 (by omega) (by omega)).c0 := by
  unfold kernelRun0_A.sl.r_19
  rfl
/-- 222: `I.c1`. -/
theorem u10_222 : kernelRun0_A.sl.r_20 c arg2 harg2 x1 =
    (inp c i arg1 harg1 arg2 harg2 arg4 harg4 arg7 harg7 arg8 harg8 arg13 x0 x1 x3 x6 x7 1 0 (by omega) (by omega)).c1 := by
  unfold kernelRun0_A.sl.r_20
  rfl
/-- 232: `I.a00 k`. -/
theorem u10_232 : kernelRun0_A.sl.r_21 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 0 (by omega) (by omega)).a00 (keyA arg3 harg3 x2 1 (by omega)) := by
  unfold kernelRun0_A.sl.r_21 kernelRun0_A.sl.v1054 kernelRun0_A.sl.v1026
  rw [u10_208, u10_205, u10_201, v172_mask, v164_mask]
  rfl
/-- 234: `Tile.colMax (I.a00 k)`. -/
theorem u10_234 : kernelRun0_A.sl.r_22 c i arg1 harg1 arg3 harg3 arg4 harg4 arg7 harg7 arg8 harg8 arg13 x0 x2 x3 x6 x7 =
    Tile.colMax ((inp c i arg1 harg1 arg2 harg2 arg4 harg4 arg7 harg7 arg8 harg8 arg13 x0 x1 x3 x6 x7 1 0 (by omega) (by omega)).a00 (keyA arg3 harg3 x2 1 (by omega))) := by
  unfold kernelRun0_A.sl.r_22 kernelRun0_A.sl.v1054 kernelRun0_A.sl.v1026
  rw [u10_208, u10_205, u10_201, v172_mask, v164_mask]
  rfl
/-- 242: `I.a10 k`. -/
theorem u10_242 : kernelRun0_A.sl.r_23 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 0 (by omega) (by omega)).a10 (keyA arg3 harg3 x2 1 (by omega)) := by
  unfold kernelRun0_A.sl.r_23 kernelRun0_A.sl.v1054 kernelRun0_A.sl.v1026
  rw [u10_208, u10_205, u10_201, v181_mask]
  rfl
/-- 251: `I.a11 k`. -/
theorem u10_251 : kernelRun0_A.sl.r_24 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 0 (by omega) (by omega)).a11 (keyA arg3 harg3 x2 1 (by omega)) := by
  unfold kernelRun0_A.sl.r_24 kernelRun0_A.sl.v1073 kernelRun0_A.sl.v1026
  rw [u10_208, u10_205, u10_201, v175_mask, v169_mask]
  rfl
/-- 254: `Tile.colMax (maximumf (I.a10 k) (I.a11 k))`. -/
theorem u10_254 : kernelRun0_A.sl.v1084 c i arg1 harg1 arg3 harg3 arg4 harg4 arg7 harg7 arg8 harg8 arg13 x0 x2 x3 x6 x7 =
    Tile.colMax (maximumf ((inp c i arg1 harg1 arg2 harg2 arg4 harg4 arg7 harg7 arg8 harg8 arg13 x0 x1 x3 x6 x7 1 0 (by omega) (by omega)).a10 (keyA arg3 harg3 x2 1 (by omega))) ((inp c i arg1 harg1 arg2 harg2 arg4 harg4 arg7 harg7 arg8 harg8 arg13 x0 x1 x3 x6 x7 1 0 (by omega) (by omega)).a11 (keyA arg3 harg3 x2 1 (by omega)))) := by
  unfold kernelRun0_A.sl.v1084 kernelRun0_A.sl.v1083 kernelRun0_A.sl.r_25 kernelRun0_A.sl.v1073 kernelRun0_A.sl.v1054 kernelRun0_A.sl.v1026
  rw [u10_208, u10_205, u10_201, v181_mask, v175_mask, v169_mask]
  rfl
/-- 260: `I.eA00 k`. -/
theorem u10_260 : kernelRun0_A.sl.v1090 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).eA00 (keyA arg3 harg3 x2 1 (by omega)) := by
  unfold kernelRun0_A.sl.v1090 kernelRun0_A.sl.v1089 kernelRun0_A.sl.v1088 kernelRun0_A.sl.v1087 kernelRun0_A.sl.v1086
  rw [u10_234, u10_232, u10_220]
  rfl
/-- 269: `I.fA0 k`. -/
theorem u10_269 : kernelRun0_A.sl.v1099 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).fA0 (keyA arg3 harg3 x2 1 (by omega)) := by
  unfold kernelRun0_A.sl.v1099 kernelRun0_A.sl.v1098 kernelRun0_A.sl.v1094 kernelRun0_A.sl.v1093 kernelRun0_A.sl.v20
  rw [u10_260, v172_mask]
  rfl
/-- 275: `I.eA10 k`. -/
theorem u10_275 : kernelRun0_A.sl.v1105 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).eA10 (keyA arg3 harg3 x2 1 (by omega)) := by
  unfold kernelRun0_A.sl.v1105 kernelRun0_A.sl.v1104 kernelRun0_A.sl.v1103 kernelRun0_A.sl.v1102 kernelRun0_A.sl.v1101
  rw [u10_254, u10_242, u10_222]
  rfl
/-- 285: `I.eA11 k`. -/
theorem u10_285 : kernelRun0_A.sl.v1115 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).eA11 (keyA arg3 harg3 x2 1 (by omega)) := by
  unfold kernelRun0_A.sl.v1115 kernelRun0_A.sl.v1114 kernelRun0_A.sl.v1112 kernelRun0_A.sl.v1103 kernelRun0_A.sl.v1101
  rw [u10_254, u10_251, u10_222]
  rfl
/-- 290: `I.xwA k`. -/
theorem u10_290 : kernelRun0_A.sl.v1120 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).xwA (keyA arg3 harg3 x2 1 (by omega)) := by
  unfold kernelRun0_A.sl.v1120 kernelRun0_A.sl.v1110 kernelRun0_A.sl.v1096 kernelRun0_A.sl.v20
  rw [u10_285, u10_275, u10_260, v181_mask, v169_mask, v164_mask]
  rfl
/-- 292: `I.fA1 k`. -/
theorem u10_292 : kernelRun0_A.sl.v1122 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).fA1 (keyA arg3 harg3 x2 1 (by omega)) := by
  unfold kernelRun0_A.sl.v1122 kernelRun0_A.sl.v1121 kernelRun0_A.sl.v1119 kernelRun0_A.sl.v1118 kernelRun0_A.sl.v1109 kernelRun0_A.sl.v1108 kernelRun0_A.sl.v20
  rw [u10_285, u10_275, v181_mask, v175_mask]
  rfl
/-- 440: `Tile.skew (I.xwA k)`. -/
theorem u10_440 : kernelRun0_A.sl.v1270 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 1 0 (by omega) (by omega)).xwA (keyA arg3 harg3 x2 1 (by omega))) := by
  unfold kernelRun0_A.sl.v1270 kernelRun0_A.sl.v1269 kernelRun0_A.sl.v1268 kernelRun0_A.sl.v1267 kernelRun0_A.sl.v1266 kernelRun0_A.sl.v1258 kernelRun0_A.sl.v1257 kernelRun0_A.sl.v1249 kernelRun0_A.sl.v1248 kernelRun0_A.sl.v1240 kernelRun0_A.sl.v1239 kernelRun0_A.sl.v1231 kernelRun0_A.sl.v1230 kernelRun0_A.sl.v1222 kernelRun0_A.sl.v1221 kernelRun0_A.sl.v1213 kernelRun0_A.sl.v1212 kernelRun0_A.sl.v1204 kernelRun0_A.sl.v1203 kernelRun0_A.sl.v1195 kernelRun0_A.sl.v1194 kernelRun0_A.sl.v1186 kernelRun0_A.sl.v1185 kernelRun0_A.sl.v1177 kernelRun0_A.sl.v1176 kernelRun0_A.sl.v1168 kernelRun0_A.sl.v1167 kernelRun0_A.sl.v1159 kernelRun0_A.sl.v1158 kernelRun0_A.sl.v1150 kernelRun0_A.sl.v1149 kernelRun0_A.sl.v1141 kernelRun0_A.sl.v1140 kernelRun0_A.sl.v1132 kernelRun0_A.sl.v1131 kernelRun0_A.sl.v1123 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u10_290]
  rfl
/-- 441: `I.wA0 k`. -/
theorem u10_441 : kernelRun0_A.sl.v1271 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).wA0 (keyA arg3 harg3 x2 1 (by omega)) := by
  unfold kernelRun0_A.sl.v1271
  rw [u10_440]
  rfl
/-- 442: `I.wA1 k`. -/
theorem u10_442 : kernelRun0_A.sl.v1272 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 0 (by omega) (by omega)).wA1 (keyA arg3 harg3 x2 1 (by omega)) := by
  unfold kernelRun0_A.sl.v1272
  rw [u10_440]
  rfl
/-- 447: `Tile.inv (I.fA0 k) (I.wA0 k)`. -/
theorem u10_447 : kernelRun0_A.sl.v1277 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 1 0 (by omega) (by omega)).fA0 (keyA arg3 harg3 x2 1 (by omega))) ((inp c i arg1 harg1 arg2 harg2 arg4 harg4 arg7 harg7 arg8 harg8 arg13 x0 x1 x3 x6 x7 1 0 (by omega) (by omega)).wA0 (keyA arg3 harg3 x2 1 (by omega))) := by
  unfold kernelRun0_A.sl.v1277 kernelRun0_A.sl.v1275 kernelRun0_A.sl.v1274 kernelRun0_A.sl.v1273 kernelRun0_A.sl.v446
  rw [u10_441, u10_269]
  rfl
/-- 452: `Tile.inv (I.fA1 k) (I.wA1 k)`. -/
theorem u10_452 : kernelRun0_A.sl.v1282 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 1 0 (by omega) (by omega)).fA1 (keyA arg3 harg3 x2 1 (by omega))) ((inp c i arg1 harg1 arg2 harg2 arg4 harg4 arg7 harg7 arg8 harg8 arg13 x0 x1 x3 x6 x7 1 0 (by omega) (by omega)).wA1 (keyA arg3 harg3 x2 1 (by omega))) := by
  unfold kernelRun0_A.sl.v1282 kernelRun0_A.sl.v1280 kernelRun0_A.sl.v1279 kernelRun0_A.sl.v1278 kernelRun0_A.sl.v446
  rw [u10_442, u10_292]
  rfl
/-- 486: `I.oA VT AVT k`. -/
theorem u10_486 : kernelRun0_A.sl.v1316 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 1 0 (by omega) (by omega)).oA (vtB arg5 harg5 arg6 harg6 x4 x5 1 (by omega)) (kernelRun0_A.sl.v86 c i arg9 harg9 arg10 harg10 arg14 arg15 x8 x9) (keyA arg3 harg3 x2 1 (by omega)) := by
  unfold kernelRun0_A.sl.v1316 kernelRun0_A.sl.v1315 kernelRun0_A.sl.v1314 kernelRun0_A.sl.v1313 kernelRun0_A.sl.v1312 kernelRun0_A.sl.v1311 kernelRun0_A.sl.v1310 kernelRun0_A.sl.v1309 kernelRun0_A.sl.v1308 kernelRun0_A.sl.v1307 kernelRun0_A.sl.v1306 kernelRun0_A.sl.v1305 kernelRun0_A.sl.v1304 kernelRun0_A.sl.v1303 kernelRun0_A.sl.v1302 kernelRun0_A.sl.v1301 kernelRun0_A.sl.v1300 kernelRun0_A.sl.v1299 kernelRun0_A.sl.v1298 kernelRun0_A.sl.v1297 kernelRun0_A.sl.v1296 kernelRun0_A.sl.v1294 kernelRun0_A.sl.v1293 kernelRun0_A.sl.v1289 kernelRun0_A.sl.v1287 kernelRun0_A.sl.v1286 kernelRun0_A.sl.v1116 kernelRun0_A.sl.v1106 kernelRun0_A.sl.v1091 kernelRun0_A.sl.v1024 kernelRun0_A.sl.v1023 kernelRun0_A.sl.v1022 kernelRun0_A.sl.v1021 kernelRun0_A.sl.v1019 kernelRun0_A.sl.v1018 kernelRun0_A.sl.v1017 kernelRun0_A.sl.v1016 kernelRun0_A.sl.v458 kernelRun0_A.sl.v454 kernelRun0_A.sl.v453 kernelRun0_A.sl.v267
  rw [u10_452, u10_447, u10_442, u10_441, u10_292, u10_285, u10_275, u10_269, u10_260]
  rfl
/-- 500: `Tile.wOut (I.wA0 k) (Tile.inv (I.fA0 k) (I.wA0 k))`. -/
theorem u10_500 : kernelRun0_A.sl.v1330 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 1 0 (by omega) (by omega)).wA0 (keyA arg3 harg3 x2 1 (by omega))) (Tile.inv ((inp c i arg1 harg1 arg2 harg2 arg4 harg4 arg7 harg7 arg8 harg8 arg13 x0 x1 x3 x6 x7 1 0 (by omega) (by omega)).fA0 (keyA arg3 harg3 x2 1 (by omega))) ((inp c i arg1 harg1 arg2 harg2 arg4 harg4 arg7 harg7 arg8 harg8 arg13 x0 x1 x3 x6 x7 1 0 (by omega) (by omega)).wA0 (keyA arg3 harg3 x2 1 (by omega)))) := by
  unfold kernelRun0_A.sl.v1330 kernelRun0_A.sl.v1329
  rw [u10_447, u10_441]
  rfl
/-- 501: `mulf (I.fA0 k) (Tile.inv (I.fA0 k) (I.wA0 k))`. -/
theorem u10_501 : kernelRun0_A.sl.v1331 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 1 0 (by omega) (by omega)).fA0 (keyA arg3 harg3 x2 1 (by omega))) (Tile.inv ((inp c i arg1 harg1 arg2 harg2 arg4 harg4 arg7 harg7 arg8 harg8 arg13 x0 x1 x3 x6 x7 1 0 (by omega) (by omega)).fA0 (keyA arg3 harg3 x2 1 (by omega))) ((inp c i arg1 harg1 arg2 harg2 arg4 harg4 arg7 harg7 arg8 harg8 arg13 x0 x1 x3 x6 x7 1 0 (by omega) (by omega)).wA0 (keyA arg3 harg3 x2 1 (by omega)))) := by
  unfold kernelRun0_A.sl.v1331
  rw [u10_447, u10_269]
/-- 540: `Tile.rot64W (Tile.wOut (I.wA1 k) (Tile.inv (I.fA1 k) (I.wA1 k)))`. -/
theorem u10_540 : kernelRun0_A.sl.v1370 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 1 0 (by omega) (by omega)).wA1 (keyA arg3 harg3 x2 1 (by omega))) (Tile.inv ((inp c i arg1 harg1 arg2 harg2 arg4 harg4 arg7 harg7 arg8 harg8 arg13 x0 x1 x3 x6 x7 1 0 (by omega) (by omega)).fA1 (keyA arg3 harg3 x2 1 (by omega))) ((inp c i arg1 harg1 arg2 harg2 arg4 harg4 arg7 harg7 arg8 harg8 arg13 x0 x1 x3 x6 x7 1 0 (by omega) (by omega)).wA1 (keyA arg3 harg3 x2 1 (by omega))))) := by
  unfold kernelRun0_A.sl.v1370 kernelRun0_A.sl.v1368 kernelRun0_A.sl.v1367
  rw [u10_452, u10_442]
  rfl
/-- 541: `Tile.rot64 (mulf (I.fA1 k) (Tile.inv (I.fA1 k) (I.wA1 k)))`. -/
theorem u10_541 : kernelRun0_A.sl.v1371 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 1 0 (by omega) (by omega)).fA1 (keyA arg3 harg3 x2 1 (by omega))) (Tile.inv ((inp c i arg1 harg1 arg2 harg2 arg4 harg4 arg7 harg7 arg8 harg8 arg13 x0 x1 x3 x6 x7 1 0 (by omega) (by omega)).fA1 (keyA arg3 harg3 x2 1 (by omega))) ((inp c i arg1 harg1 arg2 harg2 arg4 harg4 arg7 harg7 arg8 harg8 arg13 x0 x1 x3 x6 x7 1 0 (by omega) (by omega)).wA1 (keyA arg3 harg3 x2 1 (by omega))))) := by
  unfold kernelRun0_A.sl.v1371 kernelRun0_A.sl.v1369
  rw [u10_452, u10_292]
  rfl

end Cert.KernelIdeal.Body
-- ==== Proof.KernelIdeal.Unit11.lean ====
/- The body's values in unit (batch 1, pair 1): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 587: `Tile.stB k I.q`. -/
theorem u11_587 : kernelRun0_A.sl.r_27 c arg1 harg1 arg3 harg3 x0 x2 =
    Tile.stB (keyB arg3 harg3 x2 1 (by omega)) (inp c i arg1 harg1 arg2 harg2 arg4 harg4 arg7 harg7 arg8 harg8 arg13 x0 x1 x3 x6 x7 1 1 (by omega) (by omega)).q := by
  unfold kernelRun0_A.sl.r_27 kernelRun0_A.sl.v1410 kernelRun0_A.sl.v1408 kernelRun0_A.sl.r_26
  rfl
/-- 590: `Tile.far I.akf I.sfar I.q`. -/
theorem u11_590 : kernelRun0_A.sl.r_28 c i arg1 harg1 arg7 harg7 arg8 harg8 x0 x6 x7 =
    Tile.far (inp c i arg1 harg1 arg2 harg2 arg4 harg4 arg7 harg7 arg8 harg8 arg13 x0 x1 x3 x6 x7 1 1 (by omega) (by omega)).akf (inp c i arg1 harg1 arg2 harg2 arg4 harg4 arg7 harg7 arg8 harg8 arg13 x0 x1 x3 x6 x7 1 1 (by omega) (by omega)).sfar (inp c i arg1 harg1 arg2 harg2 arg4 harg4 arg7 harg7 arg8 harg8 arg13 x0 x1 x3 x6 x7 1 1 (by omega) (by omega)).q := by
  unfold kernelRun0_A.sl.r_28 kernelRun0_A.sl.v1410 kernelRun0_A.sl.v1408 kernelRun0_A.sl.r_26
  rfl
/-- 597: `I.b`. -/
theorem u11_597 : kernelRun0_A.sl.r_29 c i arg1 harg1 arg7 harg7 arg8 harg8 x0 x6 x7 =
    (inp c i arg1 harg1 arg2 harg2 arg4 harg4 arg7 harg7 arg8 harg8 arg13 x0 x1 x3 x6 x7 1 1 (by omega) (by omega)).b := by
  unfold kernelRun0_A.sl.r_29 kernelRun0_A.sl.v1410 kernelRun0_A.sl.v1408 kernelRun0_A.sl.r_26
  rfl
/-- 602: `I.c0`. -/
theorem u11_602 : kernelRun0_A.sl.r_30 c arg2 harg2 x1 =
    (inp c i arg1 harg1 arg2 harg2 arg4 harg4 arg7 harg7 arg8 harg8 arg13 x0 x1 x3 x6 x7 1 1 (by omega) (by omega)).c0 := by
  unfold kernelRun0_A.sl.r_30
  rfl
/-- 604: `I.c1`. -/
theorem u11_604 : kernelRun0_A.sl.r_31 c arg2 harg2 x1 =
    (inp c i arg1 harg1 arg2 harg2 arg4 harg4 arg7 harg7 arg8 harg8 arg13 x0 x1 x3 x6 x7 1 1 (by omega) (by omega)).c1 := by
  unfold kernelRun0_A.sl.r_31
  rfl
/-- 610: `I.b00 k`. -/
theorem u11_610 : kernelRun0_A.sl.r_32 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b00 (keyB arg3 harg3 x2 1 (by omega)) := by
  unfold kernelRun0_A.sl.r_32 kernelRun0_A.sl.v1410 kernelRun0_A.sl.v1408 kernelRun0_A.sl.v1054 kernelRun0_A.sl.r_26
  rfl
/-- 617: `I.b01 k`. -/
theorem u11_617 : kernelRun0_A.sl.r_33 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b01 (keyB arg3 harg3 x2 1 (by omega)) := by
  unfold kernelRun0_A.sl.r_33 kernelRun0_A.sl.v1410 kernelRun0_A.sl.v1408 kernelRun0_A.sl.v1073 kernelRun0_A.sl.r_26
  rw [v178_mask]
  rfl
/-- 626: `I.b02 k`. -/
theorem u11_626 : kernelRun0_A.sl.v1456 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b02 (keyB arg3 harg3 x2 1 (by omega)) := by
  unfold kernelRun0_A.sl.v1456 kernelRun0_A.sl.v1455 kernelRun0_A.sl.v1454 kernelRun0_A.sl.v1452 kernelRun0_A.sl.r_35 kernelRun0_A.sl.r_34 kernelRun0_A.sl.v1448 kernelRun0_A.sl.v1410 kernelRun0_A.sl.v1408 kernelRun0_A.sl.v248 kernelRun0_A.sl.r_26
  rw [u11_597, v172_mask, v164_mask]
  rfl
/-- 630: `I.mB0 k`. -/
theorem u11_630 : kernelRun0_A.sl.v1460 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).mB0 (keyB arg3 harg3 x2 1 (by omega)) := by
  unfold kernelRun0_A.sl.v1460 kernelRun0_A.sl.v1459 kernelRun0_A.sl.v1458 kernelRun0_A.sl.v1457
  rw [u11_626 (arg2 := arg2) (harg2 := harg2) (x1 := x1), u11_617 (arg2 := arg2) (harg2 := harg2) (x1 := x1), u11_610 (arg2 := arg2) (harg2 := harg2) (x1 := x1)]
  rfl
/-- 631: `I.fr1`. -/
theorem u11_631 : kernelRun0_A.sl.v1461 c i arg1 harg1 arg7 harg7 arg8 harg8 x0 x6 x7 =
    (inp c i arg1 harg1 arg2 harg2 arg4 harg4 arg7 harg7 arg8 harg8 arg13 x0 x1 x3 x6 x7 1 1 (by omega) (by omega)).fr1 := by
  unfold kernelRun0_A.sl.v1461
  rw [u11_590]
  rfl
/-- 636: `I.b10 k`. -/
theorem u11_636 : kernelRun0_A.sl.v1466 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b10 (keyB arg3 harg3 x2 1 (by omega)) := by
  unfold kernelRun0_A.sl.v1466 kernelRun0_A.sl.v1465 kernelRun0_A.sl.v1464 kernelRun0_A.sl.v1463 kernelRun0_A.sl.v1462
  rw [u11_631, u11_587]
  rfl
/-- 641: `I.b11 k`. -/
theorem u11_641 : kernelRun0_A.sl.v1471 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b11 (keyB arg3 harg3 x2 1 (by omega)) := by
  unfold kernelRun0_A.sl.v1471 kernelRun0_A.sl.v1469 kernelRun0_A.sl.v1468 kernelRun0_A.sl.v1467 kernelRun0_A.sl.v1465
  rw [u11_631, u11_587]
  rfl
/-- 648: `I.b12 k`. -/
theorem u11_648 : kernelRun0_A.sl.v1478 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b12 (keyB arg3 harg3 x2 1 (by omega)) := by
  unfold kernelRun0_A.sl.v1478 kernelRun0_A.sl.v1477 kernelRun0_A.sl.v1476 kernelRun0_A.sl.v1475 kernelRun0_A.sl.v1474 kernelRun0_A.sl.v1473 kernelRun0_A.sl.v1472
  rw [u11_631, u11_597, u11_587, v181_mask]
  rfl
/-- 657: `I.b13 k`. -/
theorem u11_657 : kernelRun0_A.sl.v1487 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).b13 (keyB arg3 harg3 x2 1 (by omega)) := by
  unfold kernelRun0_A.sl.v1487 kernelRun0_A.sl.v1486 kernelRun0_A.sl.v1485 kernelRun0_A.sl.v1481 kernelRun0_A.sl.v1480 kernelRun0_A.sl.v1479 kernelRun0_A.sl.v1476 kernelRun0_A.sl.v1475 kernelRun0_A.sl.v248
  rw [u11_631, u11_597, u11_587, v175_mask, v169_mask]
  rfl
/-- 662: `I.mB1 k`. -/
theorem u11_662 : kernelRun0_A.sl.v1492 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 1 1 (by omega) (by omega)).mB1 (keyB arg3 harg3 x2 1 (by omega)) := by
  unfold kernelRun0_A.sl.v1492 kernelRun0_A.sl.v1491 kernelRun0_A.sl.v1490 kernelRun0_A.sl.v1489 kernelRun0_A.sl.v1488
  rw [u11_657 (arg2 := arg2) (harg2 := harg2) (x1 := x1), u11_648 (arg2 := arg2) (harg2 := harg2) (x1 := x1), u11_641 (arg2 := arg2) (harg2 := harg2) (x1 := x1), u11_636 (arg2 := arg2) (harg2 := harg2) (x1 := x1)]
  rfl
/-- 668: `I.eB00 k`. -/
theorem u11_668 : kernelRun0_A.sl.v1498 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB00 (keyB arg3 harg3 x2 1 (by omega)) := by
  unfold kernelRun0_A.sl.v1498 kernelRun0_A.sl.v1497 kernelRun0_A.sl.v1496 kernelRun0_A.sl.v1495 kernelRun0_A.sl.v1494
  rw [u11_630, u11_610, u11_602]
  rfl
/-- 675: `I.eB01 k`. -/
theorem u11_675 : kernelRun0_A.sl.v1505 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB01 (keyB arg3 harg3 x2 1 (by omega)) := by
  unfold kernelRun0_A.sl.v1505 kernelRun0_A.sl.v1504 kernelRun0_A.sl.v1502 kernelRun0_A.sl.v1496 kernelRun0_A.sl.v1494
  rw [u11_630, u11_617, u11_602]
  rfl
/-- 686: `I.eB02 k`. -/
theorem u11_686 : kernelRun0_A.sl.v1516 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB02 (keyB arg3 harg3 x2 1 (by omega)) := by
  unfold kernelRun0_A.sl.v1516 kernelRun0_A.sl.v1515 kernelRun0_A.sl.v1513 kernelRun0_A.sl.v1496 kernelRun0_A.sl.v1494
  rw [u11_630, u11_626, u11_602]
  rfl
/-- 694: `I.fB0 k`. -/
theorem u11_694 : kernelRun0_A.sl.v1524 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).fB0 (keyB arg3 harg3 x2 1 (by omega)) := by
  unfold kernelRun0_A.sl.v1524 kernelRun0_A.sl.v1523 kernelRun0_A.sl.v1520 kernelRun0_A.sl.v1519 kernelRun0_A.sl.v1509 kernelRun0_A.sl.v1508 kernelRun0_A.sl.v1500 kernelRun0_A.sl.v20
  rw [u11_686, u11_675, u11_668, v178_mask, v172_mask]
  rfl
/-- 700: `I.eB10 k`. -/
theorem u11_700 : kernelRun0_A.sl.v1530 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB10 (keyB arg3 harg3 x2 1 (by omega)) := by
  unfold kernelRun0_A.sl.v1530 kernelRun0_A.sl.v1529 kernelRun0_A.sl.v1528 kernelRun0_A.sl.v1527 kernelRun0_A.sl.v1526
  rw [u11_662, u11_636, u11_604]
  rfl
/-- 707: `I.eB11 k`. -/
theorem u11_707 : kernelRun0_A.sl.v1537 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB11 (keyB arg3 harg3 x2 1 (by omega)) := by
  unfold kernelRun0_A.sl.v1537 kernelRun0_A.sl.v1536 kernelRun0_A.sl.v1534 kernelRun0_A.sl.v1528 kernelRun0_A.sl.v1526
  rw [u11_662, u11_641, u11_604]
  rfl
/-- 714: `I.eB12 k`. -/
theorem u11_714 : kernelRun0_A.sl.v1544 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB12 (keyB arg3 harg3 x2 1 (by omega)) := by
  unfold kernelRun0_A.sl.v1544 kernelRun0_A.sl.v1543 kernelRun0_A.sl.v1541 kernelRun0_A.sl.v1528 kernelRun0_A.sl.v1526
  rw [u11_662, u11_648, u11_604]
  rfl
/-- 724: `I.eB13 k`. -/
theorem u11_724 : kernelRun0_A.sl.v1554 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).eB13 (keyB arg3 harg3 x2 1 (by omega)) := by
  unfold kernelRun0_A.sl.v1554 kernelRun0_A.sl.v1553 kernelRun0_A.sl.v1551 kernelRun0_A.sl.v1528 kernelRun0_A.sl.v1526
  rw [u11_662, u11_657, u11_604]
  rfl
/-- 729: `I.xwB k`. -/
theorem u11_729 : kernelRun0_A.sl.v1559 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).xwB (keyB arg3 harg3 x2 1 (by omega)) := by
  unfold kernelRun0_A.sl.v1559 kernelRun0_A.sl.v1549 kernelRun0_A.sl.v1521 kernelRun0_A.sl.v1511 kernelRun0_A.sl.v20
  rw [u11_724, u11_714, u11_686, u11_675, v181_mask, v178_mask, v169_mask, v164_mask]
  rfl
/-- 731: `I.fB1 k`. -/
theorem u11_731 : kernelRun0_A.sl.v1561 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).fB1 (keyB arg3 harg3 x2 1 (by omega)) := by
  unfold kernelRun0_A.sl.v1561 kernelRun0_A.sl.v1560 kernelRun0_A.sl.v1558 kernelRun0_A.sl.v1557 kernelRun0_A.sl.v1548 kernelRun0_A.sl.v1547 kernelRun0_A.sl.v1539 kernelRun0_A.sl.v1532 kernelRun0_A.sl.v20
  rw [u11_724, u11_714, u11_707, u11_700, v181_mask, v175_mask]
  rfl
/-- 879: `Tile.skew (I.xwB k)`. -/
theorem u11_879 : kernelRun0_A.sl.v1709 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 1 1 (by omega) (by omega)).xwB (keyB arg3 harg3 x2 1 (by omega))) := by
  unfold kernelRun0_A.sl.v1709 kernelRun0_A.sl.v1708 kernelRun0_A.sl.v1707 kernelRun0_A.sl.v1706 kernelRun0_A.sl.v1705 kernelRun0_A.sl.v1697 kernelRun0_A.sl.v1696 kernelRun0_A.sl.v1688 kernelRun0_A.sl.v1687 kernelRun0_A.sl.v1679 kernelRun0_A.sl.v1678 kernelRun0_A.sl.v1670 kernelRun0_A.sl.v1669 kernelRun0_A.sl.v1661 kernelRun0_A.sl.v1660 kernelRun0_A.sl.v1652 kernelRun0_A.sl.v1651 kernelRun0_A.sl.v1643 kernelRun0_A.sl.v1642 kernelRun0_A.sl.v1634 kernelRun0_A.sl.v1633 kernelRun0_A.sl.v1625 kernelRun0_A.sl.v1624 kernelRun0_A.sl.v1616 kernelRun0_A.sl.v1615 kernelRun0_A.sl.v1607 kernelRun0_A.sl.v1606 kernelRun0_A.sl.v1598 kernelRun0_A.sl.v1597 kernelRun0_A.sl.v1589 kernelRun0_A.sl.v1588 kernelRun0_A.sl.v1580 kernelRun0_A.sl.v1579 kernelRun0_A.sl.v1571 kernelRun0_A.sl.v1570 kernelRun0_A.sl.v1562 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u11_729]
  rfl
/-- 880: `I.wB0 k`. -/
theorem u11_880 : kernelRun0_A.sl.v1710 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).wB0 (keyB arg3 harg3 x2 1 (by omega)) := by
  unfold kernelRun0_A.sl.v1710
  rw [u11_879]
  rfl
/-- 881: `I.wB1 k`. -/
theorem u11_881 : kernelRun0_A.sl.v1711 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 1 1 (by omega) (by omega)).wB1 (keyB arg3 harg3 x2 1 (by omega)) := by
  unfold kernelRun0_A.sl.v1711
  rw [u11_879]
  rfl
/-- 886: `Tile.inv (I.fB0 k) (I.wB0 k)`. -/
theorem u11_886 : kernelRun0_A.sl.v1716 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 1 1 (by omega) (by omega)).fB0 (keyB arg3 harg3 x2 1 (by omega))) ((inp c i arg1 harg1 arg2 harg2 arg4 harg4 arg7 harg7 arg8 harg8 arg13 x0 x1 x3 x6 x7 1 1 (by omega) (by omega)).wB0 (keyB arg3 harg3 x2 1 (by omega))) := by
  unfold kernelRun0_A.sl.v1716 kernelRun0_A.sl.v1714 kernelRun0_A.sl.v1713 kernelRun0_A.sl.v1712 kernelRun0_A.sl.v446
  rw [u11_880, u11_694]
  rfl
/-- 891: `Tile.inv (I.fB1 k) (I.wB1 k)`. -/
theorem u11_891 : kernelRun0_A.sl.v1721 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 1 1 (by omega) (by omega)).fB1 (keyB arg3 harg3 x2 1 (by omega))) ((inp c i arg1 harg1 arg2 harg2 arg4 harg4 arg7 harg7 arg8 harg8 arg13 x0 x1 x3 x6 x7 1 1 (by omega) (by omega)).wB1 (keyB arg3 harg3 x2 1 (by omega))) := by
  unfold kernelRun0_A.sl.v1721 kernelRun0_A.sl.v1719 kernelRun0_A.sl.v1718 kernelRun0_A.sl.v1717 kernelRun0_A.sl.v446
  rw [u11_881, u11_731]
  rfl
/-- 924: `I.oB VT AVT k`. -/
theorem u11_924 : kernelRun0_A.sl.v1754 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 1 1 (by omega) (by omega)).oB (vtB arg5 harg5 arg6 harg6 x4 x5 1 (by omega)) (kernelRun0_A.sl.v86 c i arg9 harg9 arg10 harg10 arg14 arg15 x8 x9) (keyB arg3 harg3 x2 1 (by omega)) := by
  unfold kernelRun0_A.sl.v1754 kernelRun0_A.sl.v1753 kernelRun0_A.sl.v1752 kernelRun0_A.sl.v1751 kernelRun0_A.sl.v1750 kernelRun0_A.sl.v1749 kernelRun0_A.sl.v1748 kernelRun0_A.sl.v1747 kernelRun0_A.sl.v1746 kernelRun0_A.sl.v1745 kernelRun0_A.sl.v1744 kernelRun0_A.sl.v1743 kernelRun0_A.sl.v1742 kernelRun0_A.sl.v1741 kernelRun0_A.sl.v1740 kernelRun0_A.sl.v1739 kernelRun0_A.sl.v1738 kernelRun0_A.sl.v1737 kernelRun0_A.sl.v1736 kernelRun0_A.sl.v1735 kernelRun0_A.sl.v1733 kernelRun0_A.sl.v1732 kernelRun0_A.sl.v1728 kernelRun0_A.sl.v1726 kernelRun0_A.sl.v1725 kernelRun0_A.sl.v1555 kernelRun0_A.sl.v1545 kernelRun0_A.sl.v1538 kernelRun0_A.sl.v1531 kernelRun0_A.sl.v1517 kernelRun0_A.sl.v1506 kernelRun0_A.sl.v1499 kernelRun0_A.sl.v1024 kernelRun0_A.sl.v1023 kernelRun0_A.sl.v1022 kernelRun0_A.sl.v1021 kernelRun0_A.sl.v1019 kernelRun0_A.sl.v1018 kernelRun0_A.sl.v1017 kernelRun0_A.sl.v1016 kernelRun0_A.sl.v458 kernelRun0_A.sl.v454 kernelRun0_A.sl.v453 kernelRun0_A.sl.v267
  rw [u11_891, u11_886, u11_881, u11_880, u11_731, u11_724, u11_714, u11_707, u11_700, u11_694, u11_686, u11_675, u11_668]
  rfl
/-- 938: `Tile.wOut (I.wB0 k) (Tile.inv (I.fB0 k) (I.wB0 k))`. -/
theorem u11_938 : kernelRun0_A.sl.v1768 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 1 1 (by omega) (by omega)).wB0 (keyB arg3 harg3 x2 1 (by omega))) (Tile.inv ((inp c i arg1 harg1 arg2 harg2 arg4 harg4 arg7 harg7 arg8 harg8 arg13 x0 x1 x3 x6 x7 1 1 (by omega) (by omega)).fB0 (keyB arg3 harg3 x2 1 (by omega))) ((inp c i arg1 harg1 arg2 harg2 arg4 harg4 arg7 harg7 arg8 harg8 arg13 x0 x1 x3 x6 x7 1 1 (by omega) (by omega)).wB0 (keyB arg3 harg3 x2 1 (by omega)))) := by
  unfold kernelRun0_A.sl.v1768 kernelRun0_A.sl.v1767
  rw [u11_886, u11_880]
  rfl
/-- 939: `mulf (I.fB0 k) (Tile.inv (I.fB0 k) (I.wB0 k))`. -/
theorem u11_939 : kernelRun0_A.sl.v1769 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 1 1 (by omega) (by omega)).fB0 (keyB arg3 harg3 x2 1 (by omega))) (Tile.inv ((inp c i arg1 harg1 arg2 harg2 arg4 harg4 arg7 harg7 arg8 harg8 arg13 x0 x1 x3 x6 x7 1 1 (by omega) (by omega)).fB0 (keyB arg3 harg3 x2 1 (by omega))) ((inp c i arg1 harg1 arg2 harg2 arg4 harg4 arg7 harg7 arg8 harg8 arg13 x0 x1 x3 x6 x7 1 1 (by omega) (by omega)).wB0 (keyB arg3 harg3 x2 1 (by omega)))) := by
  unfold kernelRun0_A.sl.v1769
  rw [u11_886, u11_694]
/-- 978: `Tile.rot64W (Tile.wOut (I.wB1 k) (Tile.inv (I.fB1 k) (I.wB1 k)))`. -/
theorem u11_978 : kernelRun0_A.sl.v1808 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 1 1 (by omega) (by omega)).wB1 (keyB arg3 harg3 x2 1 (by omega))) (Tile.inv ((inp c i arg1 harg1 arg2 harg2 arg4 harg4 arg7 harg7 arg8 harg8 arg13 x0 x1 x3 x6 x7 1 1 (by omega) (by omega)).fB1 (keyB arg3 harg3 x2 1 (by omega))) ((inp c i arg1 harg1 arg2 harg2 arg4 harg4 arg7 harg7 arg8 harg8 arg13 x0 x1 x3 x6 x7 1 1 (by omega) (by omega)).wB1 (keyB arg3 harg3 x2 1 (by omega))))) := by
  unfold kernelRun0_A.sl.v1808 kernelRun0_A.sl.v1806 kernelRun0_A.sl.v1805
  rw [u11_891, u11_881]
  rfl
/-- 979: `Tile.rot64 (mulf (I.fB1 k) (Tile.inv (I.fB1 k) (I.wB1 k)))`. -/
theorem u11_979 : kernelRun0_A.sl.v1809 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 1 1 (by omega) (by omega)).fB1 (keyB arg3 harg3 x2 1 (by omega))) (Tile.inv ((inp c i arg1 harg1 arg2 harg2 arg4 harg4 arg7 harg7 arg8 harg8 arg13 x0 x1 x3 x6 x7 1 1 (by omega) (by omega)).fB1 (keyB arg3 harg3 x2 1 (by omega))) ((inp c i arg1 harg1 arg2 harg2 arg4 harg4 arg7 harg7 arg8 harg8 arg13 x0 x1 x3 x6 x7 1 1 (by omega) (by omega)).wB1 (keyB arg3 harg3 x2 1 (by omega))))) := by
  unfold kernelRun0_A.sl.v1809 kernelRun0_A.sl.v1807
  rw [u11_891, u11_731]
  rfl

end Cert.KernelIdeal.Body
-- ==== Proof.KernelIdeal.Facts1.lean ====
/- What the units of batch 1 hold: the specification's values of their rows. -/
module

public import proofs.«01_k».proof.Proof.KernelIdeal.Unit10
public import proofs.«01_k».proof.Proof.KernelIdeal.Unit11
public import proofs.«01_k».proof.Proof.KernelIdeal.Prep
public import proofs.«01_k».proof.Proof.KernelIdeal.Store
import all proofs.«01_k».proof.Proof.KernelIdeal.Run

@[expose] public section

set_option maxRecDepth 16384

noncomputable section

namespace Cert.KernelIdeal.Body

open Cert.KernelIdeal.Gen Cert.Spec Cert.KernelIdeal.Tile Cert.KernelIdeal.Store
open Idealize.ShloMosaic Idealize.ShloMosaic.TcCoe Idealize.ShloMosaic.Tactic Idealize.SL.Sem

local notation "ℝI" => Idealize.ShloMosaic.Ideal

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg11 : Memref sig .tc .vmem S4x512x128 .bf16) (harg11 : arg11.IsWhole)
variable (arg12 : Memref sig .tc .vmem S1x1040x128 .f32) (harg12 : arg12.IsWhole)
variable (arg13 : Memref sig .tc .vmem S512x512 .f32)
variable (arg14 : Memref sig .tc .vmem S80x128 .f32)
variable (arg15 : Memref sig .tc .vmem S8x128 .f32)
variable (x0 : Vec ℝI S4x1x512x128 .fp8e4m3)
variable (x1 : Vec ℝI S1x4x512 .f32)
variable (x2 : Vec ℝI S4x1x512x128 .fp8e4m3)
variable (x3 : Vec ℝI S1x4x512 .f32)
variable (x4 : Vec ℝI S4x1x512x128 .fp8e4m3)
variable (x5 : Vec ℝI S1x4x512 .f32)
variable (x6 : Vec ℝI S1x65x128 .i8)
variable (x7 : Vec ℝI S20x65 .f32)
variable (x8 : Vec ℝI S1x65x128 .i8)
variable (x9 : Vec ℝI S20x65 .f32)

variable {H : Hd} {h : Fin 20} (hs : Src H 1 h x0 x1 x2 x3 x4 x5 x6 x7 x8 x9) (hi : k0_off1 i = ![(h : ℕ), 0])

include hs hi in
/-- Block 0: the first result. -/
theorem o10 (l d : Fin 128) : kernelRun0_A.sl.v1316 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 0 + l) d := by
  rw [u10_486]
  exact oA0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 0: the near weights. -/
theorem w10 (r : Fin 64) (l : Fin 128) : kernelRun0_A.sl.v1330 (F := ℝI) c i arg1 harg1 arg2 harg2 arg3 harg3 arg4 harg4 arg7 harg7 arg8 harg8 arg13 x0 x1 x2 x3 x6 x7 (ix2 r l) = H.WOUT (128 * 0 + l) r := by
  rw [u10_500]
  exact wOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 0: the far weight. -/
theorem f10 (l : Fin 128) : kernelRun0_A.sl.v1331 (F := ℝI) c i arg1 harg1 arg2 harg2 arg3 harg3 arg4 harg4 arg7 harg7 arg8 harg8 arg13 x0 x1 x2 x3 x6 x7 (ix2 0 l) = H.WOUT (128 * 0 + l) 64 := by
  rw [u10_501]
  exact fOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 1: the first result. -/
theorem o11 (l d : Fin 128) : kernelRun0_A.sl.v1316 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 1 + Lb l) d := by
  rw [u10_486]
  exact oA1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 1: the near weights. -/
theorem w11 (r : Fin 64) (l : Fin 128) : kernelRun0_A.sl.v1370 (F := ℝI) c i arg1 harg1 arg2 harg2 arg3 harg3 arg4 harg4 arg7 harg7 arg8 harg8 arg13 x0 x1 x2 x3 x6 x7 (ix2 r l) = H.WOUT (128 * 1 + l) r := by
  rw [u10_540]
  exact wOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 1: the far weight. -/
theorem f11 (l : Fin 128) : kernelRun0_A.sl.v1371 (F := ℝI) c i arg1 harg1 arg2 harg2 arg3 harg3 arg4 harg4 arg7 harg7 arg8 harg8 arg13 x0 x1 x2 x3 x6 x7 (ix2 0 l) = H.WOUT (128 * 1 + l) 64 := by
  rw [u10_541]
  exact fOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 2: the first result. -/
theorem o12 (l d : Fin 128) : kernelRun0_A.sl.v1754 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 2 + l) d := by
  rw [u11_924]
  exact oB0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 2: the near weights. -/
theorem w12 (r : Fin 64) (l : Fin 128) : kernelRun0_A.sl.v1768 (F := ℝI) c i arg1 harg1 arg2 harg2 arg3 harg3 arg4 harg4 arg7 harg7 arg8 harg8 arg13 x0 x1 x2 x3 x6 x7 (ix2 r l) = H.WOUT (128 * 2 + l) r := by
  rw [u11_938]
  exact wOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 2: the far weight. -/
theorem f12 (l : Fin 128) : kernelRun0_A.sl.v1769 (F := ℝI) c i arg1 harg1 arg2 harg2 arg3 harg3 arg4 harg4 arg7 harg7 arg8 harg8 arg13 x0 x1 x2 x3 x6 x7 (ix2 0 l) = H.WOUT (128 * 2 + l) 64 := by
  rw [u11_939]
  exact fOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

include hs hi in
/-- Block 3: the first result. -/
theorem o13 (l d : Fin 128) : kernelRun0_A.sl.v1754 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 3 + Lb l) d := by
  rw [u11_924]
  exact oB1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 3: the near weights. -/
theorem w13 (r : Fin 64) (l : Fin 128) : kernelRun0_A.sl.v1808 (F := ℝI) c i arg1 harg1 arg2 harg2 arg3 harg3 arg4 harg4 arg7 harg7 arg8 harg8 arg13 x0 x1 x2 x3 x6 x7 (ix2 r l) = H.WOUT (128 * 3 + l) r := by
  rw [u11_978]
  exact wOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 3: the far weight. -/
theorem f13 (l : Fin 128) : kernelRun0_A.sl.v1809 (F := ℝI) c i arg1 harg1 arg2 harg2 arg3 harg3 arg4 harg4 arg7 harg7 arg8 harg8 arg13 x0 x1 x2 x3 x6 x7 (ix2 0 l) = H.WOUT (128 * 3 + l) 64 := by
  rw [u11_979]
  exact fOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

end Cert.KernelIdeal.Body
-- ==== Proof.KernelIdeal.Unit20.lean ====
/- The body's values in unit (batch 2, pair 0): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 201: `I.qb`. -/
theorem u20_201 : kernelRun0_A.sl.v1861 c arg1 harg1 x0 =
    (inp c i arg1 harg1 arg2 harg2 arg4 harg4 arg7 harg7 arg8 harg8 arg13 x0 x1 x3 x6 x7 2 0 (by omega) (by omega)).qb := by
  unfold kernelRun0_A.sl.v1861 kernelRun0_A.sl.v1860 kernelRun0_A.sl.v1858
  rfl
/-- 202: `I.q`. -/
theorem u20_202 : kernelRun0_A.sl.v1862 c arg1 harg1 x0 =
    (inp c i arg1 harg1 arg2 harg2 arg4 harg4 arg7 harg7 arg8 harg8 arg13 x0 x1 x3 x6 x7 2 0 (by omega) (by omega)).q := by
  unfold kernelRun0_A.sl.v1862 kernelRun0_A.sl.v1856
  rw [u20_201]
  rfl
/-- 205: `Tile.stA k I.q`. -/
theorem u20_205 : kernelRun0_A.sl.v1865 c arg1 harg1 arg3 harg3 x0 x2 =
    Tile.stA (keyA arg3 harg3 x2 2 (by omega)) (inp c i arg1 harg1 arg2 harg2 arg4 harg4 arg7 harg7 arg8 harg8 arg13 x0 x1 x3 x6 x7 2 0 (by omega) (by omega)).q := by
  unfold kernelRun0_A.sl.v1865 kernelRun0_A.sl.v1864
  rw [u20_202]
  rfl
/-- 208: `Tile.far I.akf I.sfar I.q`. -/
theorem u20_208 : kernelRun0_A.sl.v1868 c i arg1 harg1 arg7 harg7 arg8 harg8 x0 x6 x7 =
    Tile.far (inp c i arg1 harg1 arg2 harg2 arg4 harg4 arg7 harg7 arg8 harg8 arg13 x0 x1 x3 x6 x7 2 0 (by omega) (by omega)).akf (inp c i arg1 harg1 arg2 harg2 arg4 harg4 arg7 harg7 arg8 harg8 arg13 x0 x1 x3 x6 x7 2 0 (by omega) (by omega)).sfar (inp c i arg1 harg1 arg2 harg2 arg4 harg4 arg7 harg7 arg8 harg8 arg13 x0 x1 x3 x6 x7 2 0 (by omega) (by omega)).q := by
  unfold kernelRun0_A.sl.v1868 kernelRun0_A.sl.v1866 kernelRun0_A.sl.v1037
  rw [u20_202]
  rfl
/-- 222: `I.c1`. -/
theorem u20_222 : kernelRun0_A.sl.r_36 c arg2 harg2 x1 =
    (inp c i arg1 harg1 arg2 harg2 arg4 harg4 arg7 harg7 arg8 harg8 arg13 x0 x1 x3 x6 x7 2 0 (by omega) (by omega)).c1 := by
  unfold kernelRun0_A.sl.r_36
  rfl
/-- 242: `I.a10 k`. -/
theorem u20_242 : kernelRun0_A.sl.r_37 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 0 (by omega) (by omega)).a10 (keyA arg3 harg3 x2 2 (by omega)) := by
  unfold kernelRun0_A.sl.r_37 kernelRun0_A.sl.v1884 kernelRun0_A.sl.v1874 kernelRun0_A.sl.v1873 kernelRun0_A.sl.v1872 kernelRun0_A.sl.v1871 kernelRun0_A.sl.v1870 kernelRun0_A.sl.v1869 kernelRun0_A.sl.v1856
  rw [u20_208, u20_205, u20_201, v181_mask]
  rfl
/-- 251: `I.a11 k`. -/
theorem u20_251 : kernelRun0_A.sl.r_38 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 0 (by omega) (by omega)).a11 (keyA arg3 harg3 x2 2 (by omega)) := by
  unfold kernelRun0_A.sl.r_38 kernelRun0_A.sl.v1903 kernelRun0_A.sl.v1874 kernelRun0_A.sl.v1873 kernelRun0_A.sl.v1872 kernelRun0_A.sl.v1871 kernelRun0_A.sl.v1870 kernelRun0_A.sl.v1869 kernelRun0_A.sl.v1856
  rw [u20_208, u20_205, u20_201, v175_mask, v169_mask]
  rfl
/-- 254: `Tile.colMax (maximumf (I.a10 k) (I.a11 k))`. -/
theorem u20_254 : kernelRun0_A.sl.r_39 c i arg1 harg1 arg3 harg3 arg4 harg4 arg7 harg7 arg8 harg8 arg13 x0 x2 x3 x6 x7 =
    Tile.colMax (maximumf ((inp c i arg1 harg1 arg2 harg2 arg4 harg4 arg7 harg7 arg8 harg8 arg13 x0 x1 x3 x6 x7 2 0 (by omega) (by omega)).a10 (keyA arg3 harg3 x2 2 (by omega))) ((inp c i arg1 harg1 arg2 harg2 arg4 harg4 arg7 harg7 arg8 harg8 arg13 x0 x1 x3 x6 x7 2 0 (by omega) (by omega)).a11 (keyA arg3 harg3 x2 2 (by omega)))) := by
  unfold kernelRun0_A.sl.r_39 kernelRun0_A.sl.v1903 kernelRun0_A.sl.v1884 kernelRun0_A.sl.v1874 kernelRun0_A.sl.v1873 kernelRun0_A.sl.v1872 kernelRun0_A.sl.v1871 kernelRun0_A.sl.v1870 kernelRun0_A.sl.v1869 kernelRun0_A.sl.v1856
  rw [u20_208, u20_205, u20_201, v181_mask, v175_mask, v169_mask]
  rfl
/-- 260: `I.eA00 k`. -/
theorem u20_260 : kernelRun0_A.sl.v1920 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).eA00 (keyA arg3 harg3 x2 2 (by omega)) := by
  unfold kernelRun0_A.sl.v1920 kernelRun0_A.sl.v1919 kernelRun0_A.sl.r_41 kernelRun0_A.sl.r_40 kernelRun0_A.sl.v1884 kernelRun0_A.sl.v1874 kernelRun0_A.sl.v1873 kernelRun0_A.sl.v1872 kernelRun0_A.sl.v1871 kernelRun0_A.sl.v1870 kernelRun0_A.sl.v1869 kernelRun0_A.sl.v1856
  rw [u20_208, u20_205, u20_201, v172_mask, v164_mask]
  rfl
/-- 269: `I.fA0 k`. -/
theorem u20_269 : kernelRun0_A.sl.v1929 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).fA0 (keyA arg3 harg3 x2 2 (by omega)) := by
  unfold kernelRun0_A.sl.v1929 kernelRun0_A.sl.v1928 kernelRun0_A.sl.v1924 kernelRun0_A.sl.v1923 kernelRun0_A.sl.v20
  rw [u20_260, v172_mask]
  rfl
/-- 275: `I.eA10 k`. -/
theorem u20_275 : kernelRun0_A.sl.v1935 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).eA10 (keyA arg3 harg3 x2 2 (by omega)) := by
  unfold kernelRun0_A.sl.v1935 kernelRun0_A.sl.v1934 kernelRun0_A.sl.v1933 kernelRun0_A.sl.v1932 kernelRun0_A.sl.v1931
  rw [u20_254, u20_242, u20_222]
  rfl
/-- 285: `I.eA11 k`. -/
theorem u20_285 : kernelRun0_A.sl.v1945 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).eA11 (keyA arg3 harg3 x2 2 (by omega)) := by
  unfold kernelRun0_A.sl.v1945 kernelRun0_A.sl.v1944 kernelRun0_A.sl.v1942 kernelRun0_A.sl.v1933 kernelRun0_A.sl.v1931
  rw [u20_254, u20_251, u20_222]
  rfl
/-- 290: `I.xwA k`. -/
theorem u20_290 : kernelRun0_A.sl.v1950 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).xwA (keyA arg3 harg3 x2 2 (by omega)) := by
  unfold kernelRun0_A.sl.v1950 kernelRun0_A.sl.v1940 kernelRun0_A.sl.v1926 kernelRun0_A.sl.v20
  rw [u20_285, u20_275, u20_260, v181_mask, v169_mask, v164_mask]
  rfl
/-- 292: `I.fA1 k`. -/
theorem u20_292 : kernelRun0_A.sl.v1952 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).fA1 (keyA arg3 harg3 x2 2 (by omega)) := by
  unfold kernelRun0_A.sl.v1952 kernelRun0_A.sl.v1951 kernelRun0_A.sl.v1949 kernelRun0_A.sl.v1948 kernelRun0_A.sl.v1939 kernelRun0_A.sl.v1938 kernelRun0_A.sl.v20
  rw [u20_285, u20_275, v181_mask, v175_mask]
  rfl
/-- 440: `Tile.skew (I.xwA k)`. -/
theorem u20_440 : kernelRun0_A.sl.v2100 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 2 0 (by omega) (by omega)).xwA (keyA arg3 harg3 x2 2 (by omega))) := by
  unfold kernelRun0_A.sl.v2100 kernelRun0_A.sl.v2099 kernelRun0_A.sl.v2098 kernelRun0_A.sl.v2097 kernelRun0_A.sl.v2096 kernelRun0_A.sl.v2088 kernelRun0_A.sl.v2087 kernelRun0_A.sl.v2079 kernelRun0_A.sl.v2078 kernelRun0_A.sl.v2070 kernelRun0_A.sl.v2069 kernelRun0_A.sl.v2061 kernelRun0_A.sl.v2060 kernelRun0_A.sl.v2052 kernelRun0_A.sl.v2051 kernelRun0_A.sl.v2043 kernelRun0_A.sl.v2042 kernelRun0_A.sl.v2034 kernelRun0_A.sl.v2033 kernelRun0_A.sl.v2025 kernelRun0_A.sl.v2024 kernelRun0_A.sl.v2016 kernelRun0_A.sl.v2015 kernelRun0_A.sl.v2007 kernelRun0_A.sl.v2006 kernelRun0_A.sl.v1998 kernelRun0_A.sl.v1997 kernelRun0_A.sl.v1989 kernelRun0_A.sl.v1988 kernelRun0_A.sl.v1980 kernelRun0_A.sl.v1979 kernelRun0_A.sl.v1971 kernelRun0_A.sl.v1970 kernelRun0_A.sl.v1962 kernelRun0_A.sl.v1961 kernelRun0_A.sl.v1953 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u20_290]
  rfl
/-- 441: `I.wA0 k`. -/
theorem u20_441 : kernelRun0_A.sl.v2101 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).wA0 (keyA arg3 harg3 x2 2 (by omega)) := by
  unfold kernelRun0_A.sl.v2101
  rw [u20_440]
  rfl
/-- 442: `I.wA1 k`. -/
theorem u20_442 : kernelRun0_A.sl.v2102 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 0 (by omega) (by omega)).wA1 (keyA arg3 harg3 x2 2 (by omega)) := by
  unfold kernelRun0_A.sl.v2102
  rw [u20_440]
  rfl
/-- 447: `Tile.inv (I.fA0 k) (I.wA0 k)`. -/
theorem u20_447 : kernelRun0_A.sl.v2107 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 2 0 (by omega) (by omega)).fA0 (keyA arg3 harg3 x2 2 (by omega))) ((inp c i arg1 harg1 arg2 harg2 arg4 harg4 arg7 harg7 arg8 harg8 arg13 x0 x1 x3 x6 x7 2 0 (by omega) (by omega)).wA0 (keyA arg3 harg3 x2 2 (by omega))) := by
  unfold kernelRun0_A.sl.v2107 kernelRun0_A.sl.v2105 kernelRun0_A.sl.v2104 kernelRun0_A.sl.v2103 kernelRun0_A.sl.v446
  rw [u20_441, u20_269]
  rfl
/-- 452: `Tile.inv (I.fA1 k) (I.wA1 k)`. -/
theorem u20_452 : kernelRun0_A.sl.v2112 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 2 0 (by omega) (by omega)).fA1 (keyA arg3 harg3 x2 2 (by omega))) ((inp c i arg1 harg1 arg2 harg2 arg4 harg4 arg7 harg7 arg8 harg8 arg13 x0 x1 x3 x6 x7 2 0 (by omega) (by omega)).wA1 (keyA arg3 harg3 x2 2 (by omega))) := by
  unfold kernelRun0_A.sl.v2112 kernelRun0_A.sl.v2110 kernelRun0_A.sl.v2109 kernelRun0_A.sl.v2108 kernelRun0_A.sl.v446
  rw [u20_442, u20_292]
  rfl
/-- 486: `I.oA VT AVT k`. -/
theorem u20_486 : kernelRun0_A.sl.v2146 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 2 0 (by omega) (by omega)).oA (vtB arg5 harg5 arg6 harg6 x4 x5 2 (by omega)) (kernelRun0_A.sl.v86 c i arg9 harg9 arg10 harg10 arg14 arg15 x8 x9) (keyA arg3 harg3 x2 2 (by omega)) := by
  unfold kernelRun0_A.sl.v2146 kernelRun0_A.sl.v2145 kernelRun0_A.sl.v2144 kernelRun0_A.sl.v2143 kernelRun0_A.sl.v2142 kernelRun0_A.sl.v2141 kernelRun0_A.sl.v2140 kernelRun0_A.sl.v2139 kernelRun0_A.sl.v2138 kernelRun0_A.sl.v2137 kernelRun0_A.sl.v2136 kernelRun0_A.sl.v2135 kernelRun0_A.sl.v2134 kernelRun0_A.sl.v2133 kernelRun0_A.sl.v2132 kernelRun0_A.sl.v2131 kernelRun0_A.sl.v2130 kernelRun0_A.sl.v2129 kernelRun0_A.sl.v2128 kernelRun0_A.sl.v2127 kernelRun0_A.sl.v2126 kernelRun0_A.sl.v2124 kernelRun0_A.sl.v2123 kernelRun0_A.sl.v2119 kernelRun0_A.sl.v2117 kernelRun0_A.sl.v2116 kernelRun0_A.sl.v1946 kernelRun0_A.sl.v1936 kernelRun0_A.sl.v1921 kernelRun0_A.sl.v1854 kernelRun0_A.sl.v1853 kernelRun0_A.sl.v1852 kernelRun0_A.sl.v1851 kernelRun0_A.sl.v1849 kernelRun0_A.sl.v1848 kernelRun0_A.sl.v1847 kernelRun0_A.sl.v1846 kernelRun0_A.sl.v458 kernelRun0_A.sl.v454 kernelRun0_A.sl.v453 kernelRun0_A.sl.v267
  rw [u20_452, u20_447, u20_442, u20_441, u20_292, u20_285, u20_275, u20_269, u20_260]
  rfl
/-- 500: `Tile.wOut (I.wA0 k) (Tile.inv (I.fA0 k) (I.wA0 k))`. -/
theorem u20_500 : kernelRun0_A.sl.v2160 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 2 0 (by omega) (by omega)).wA0 (keyA arg3 harg3 x2 2 (by omega))) (Tile.inv ((inp c i arg1 harg1 arg2 harg2 arg4 harg4 arg7 harg7 arg8 harg8 arg13 x0 x1 x3 x6 x7 2 0 (by omega) (by omega)).fA0 (keyA arg3 harg3 x2 2 (by omega))) ((inp c i arg1 harg1 arg2 harg2 arg4 harg4 arg7 harg7 arg8 harg8 arg13 x0 x1 x3 x6 x7 2 0 (by omega) (by omega)).wA0 (keyA arg3 harg3 x2 2 (by omega)))) := by
  unfold kernelRun0_A.sl.v2160 kernelRun0_A.sl.v2159
  rw [u20_447, u20_441]
  rfl
/-- 501: `mulf (I.fA0 k) (Tile.inv (I.fA0 k) (I.wA0 k))`. -/
theorem u20_501 : kernelRun0_A.sl.v2161 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 2 0 (by omega) (by omega)).fA0 (keyA arg3 harg3 x2 2 (by omega))) (Tile.inv ((inp c i arg1 harg1 arg2 harg2 arg4 harg4 arg7 harg7 arg8 harg8 arg13 x0 x1 x3 x6 x7 2 0 (by omega) (by omega)).fA0 (keyA arg3 harg3 x2 2 (by omega))) ((inp c i arg1 harg1 arg2 harg2 arg4 harg4 arg7 harg7 arg8 harg8 arg13 x0 x1 x3 x6 x7 2 0 (by omega) (by omega)).wA0 (keyA arg3 harg3 x2 2 (by omega)))) := by
  unfold kernelRun0_A.sl.v2161
  rw [u20_447, u20_269]
/-- 540: `Tile.rot64W (Tile.wOut (I.wA1 k) (Tile.inv (I.fA1 k) (I.wA1 k)))`. -/
theorem u20_540 : kernelRun0_A.sl.v2200 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 2 0 (by omega) (by omega)).wA1 (keyA arg3 harg3 x2 2 (by omega))) (Tile.inv ((inp c i arg1 harg1 arg2 harg2 arg4 harg4 arg7 harg7 arg8 harg8 arg13 x0 x1 x3 x6 x7 2 0 (by omega) (by omega)).fA1 (keyA arg3 harg3 x2 2 (by omega))) ((inp c i arg1 harg1 arg2 harg2 arg4 harg4 arg7 harg7 arg8 harg8 arg13 x0 x1 x3 x6 x7 2 0 (by omega) (by omega)).wA1 (keyA arg3 harg3 x2 2 (by omega))))) := by
  unfold kernelRun0_A.sl.v2200 kernelRun0_A.sl.v2198 kernelRun0_A.sl.v2197
  rw [u20_452, u20_442]
  rfl
/-- 541: `Tile.rot64 (mulf (I.fA1 k) (Tile.inv (I.fA1 k) (I.wA1 k)))`. -/
theorem u20_541 : kernelRun0_A.sl.v2201 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 2 0 (by omega) (by omega)).fA1 (keyA arg3 harg3 x2 2 (by omega))) (Tile.inv ((inp c i arg1 harg1 arg2 harg2 arg4 harg4 arg7 harg7 arg8 harg8 arg13 x0 x1 x3 x6 x7 2 0 (by omega) (by omega)).fA1 (keyA arg3 harg3 x2 2 (by omega))) ((inp c i arg1 harg1 arg2 harg2 arg4 harg4 arg7 harg7 arg8 harg8 arg13 x0 x1 x3 x6 x7 2 0 (by omega) (by omega)).wA1 (keyA arg3 harg3 x2 2 (by omega))))) := by
  unfold kernelRun0_A.sl.v2201 kernelRun0_A.sl.v2199
  rw [u20_452, u20_292]
  rfl

end Cert.KernelIdeal.Body
-- ==== Proof.KernelIdeal.Unit21.lean ====
/- The body's values in unit (batch 2, pair 1): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 583: `I.qb`. -/
theorem u21_583 : kernelRun0_A.sl.v2243 c arg1 harg1 x0 =
    (inp c i arg1 harg1 arg2 harg2 arg4 harg4 arg7 harg7 arg8 harg8 arg13 x0 x1 x3 x6 x7 2 1 (by omega) (by omega)).qb := by
  unfold kernelRun0_A.sl.v2243 kernelRun0_A.sl.v2242 kernelRun0_A.sl.v2240
  rfl
/-- 584: `I.q`. -/
theorem u21_584 : kernelRun0_A.sl.v2244 c arg1 harg1 x0 =
    (inp c i arg1 harg1 arg2 harg2 arg4 harg4 arg7 harg7 arg8 harg8 arg13 x0 x1 x3 x6 x7 2 1 (by omega) (by omega)).q := by
  unfold kernelRun0_A.sl.v2244 kernelRun0_A.sl.v2238
  rw [u21_583]
  rfl
/-- 587: `Tile.stB k I.q`. -/
theorem u21_587 : kernelRun0_A.sl.r_43 c arg1 harg1 arg3 harg3 x0 x2 =
    Tile.stB (keyB arg3 harg3 x2 2 (by omega)) (inp c i arg1 harg1 arg2 harg2 arg4 harg4 arg7 harg7 arg8 harg8 arg13 x0 x1 x3 x6 x7 2 1 (by omega) (by omega)).q := by
  unfold kernelRun0_A.sl.r_43 kernelRun0_A.sl.r_42
  rw [u21_584]
  rfl
/-- 590: `Tile.far I.akf I.sfar I.q`. -/
theorem u21_590 : kernelRun0_A.sl.r_44 c i arg1 harg1 arg7 harg7 arg8 harg8 x0 x6 x7 =
    Tile.far (inp c i arg1 harg1 arg2 harg2 arg4 harg4 arg7 harg7 arg8 harg8 arg13 x0 x1 x3 x6 x7 2 1 (by omega) (by omega)).akf (inp c i arg1 harg1 arg2 harg2 arg4 harg4 arg7 harg7 arg8 harg8 arg13 x0 x1 x3 x6 x7 2 1 (by omega) (by omega)).sfar (inp c i arg1 harg1 arg2 harg2 arg4 harg4 arg7 harg7 arg8 harg8 arg13 x0 x1 x3 x6 x7 2 1 (by omega) (by omega)).q := by
  unfold kernelRun0_A.sl.r_44
  rw [u21_584]
  rfl
/-- 597: `I.b`. -/
theorem u21_597 : kernelRun0_A.sl.r_45 c i arg1 harg1 arg7 harg7 arg8 harg8 x0 x6 x7 =
    (inp c i arg1 harg1 arg2 harg2 arg4 harg4 arg7 harg7 arg8 harg8 arg13 x0 x1 x3 x6 x7 2 1 (by omega) (by omega)).b := by
  unfold kernelRun0_A.sl.r_45 kernelRun0_A.sl.v2238
  rw [u21_583]
  rfl
/-- 602: `I.c0`. -/
theorem u21_602 : kernelRun0_A.sl.r_46 c arg2 harg2 x1 =
    (inp c i arg1 harg1 arg2 harg2 arg4 harg4 arg7 harg7 arg8 harg8 arg13 x0 x1 x3 x6 x7 2 1 (by omega) (by omega)).c0 := by
  unfold kernelRun0_A.sl.r_46
  rfl
/-- 604: `I.c1`. -/
theorem u21_604 : kernelRun0_A.sl.r_47 c arg2 harg2 x1 =
    (inp c i arg1 harg1 arg2 harg2 arg4 harg4 arg7 harg7 arg8 harg8 arg13 x0 x1 x3 x6 x7 2 1 (by omega) (by omega)).c1 := by
  unfold kernelRun0_A.sl.r_47
  rfl
/-- 610: `I.b00 k`. -/
theorem u21_610 : kernelRun0_A.sl.r_48 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b00 (keyB arg3 harg3 x2 2 (by omega)) := by
  unfold kernelRun0_A.sl.r_48 kernelRun0_A.sl.v1884 kernelRun0_A.sl.r_42
  rw [u21_584]
  rfl
/-- 617: `I.b01 k`. -/
theorem u21_617 : kernelRun0_A.sl.r_49 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b01 (keyB arg3 harg3 x2 2 (by omega)) := by
  unfold kernelRun0_A.sl.r_49 kernelRun0_A.sl.v2238 kernelRun0_A.sl.v1903 kernelRun0_A.sl.r_42
  rw [u21_584, u21_583, v178_mask]
  rfl
/-- 626: `I.b02 k`. -/
theorem u21_626 : kernelRun0_A.sl.r_50 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b02 (keyB arg3 harg3 x2 2 (by omega)) := by
  unfold kernelRun0_A.sl.r_50 kernelRun0_A.sl.v2278 kernelRun0_A.sl.v2238 kernelRun0_A.sl.r_42
  rw [u21_584, u21_583, v172_mask, v164_mask]
  rfl
/-- 630: `I.mB0 k`. -/
theorem u21_630 : kernelRun0_A.sl.v2290 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).mB0 (keyB arg3 harg3 x2 2 (by omega)) := by
  unfold kernelRun0_A.sl.v2290 kernelRun0_A.sl.v2289 kernelRun0_A.sl.r_51 kernelRun0_A.sl.v2278 kernelRun0_A.sl.v2238 kernelRun0_A.sl.v1903 kernelRun0_A.sl.v1884 kernelRun0_A.sl.r_42
  rw [u21_584 (i := i) (arg2 := arg2) (harg2 := harg2) (arg4 := arg4) (harg4 := harg4) (arg7 := arg7) (harg7 := harg7) (arg8 := arg8) (harg8 := harg8) (arg13 := arg13) (x1 := x1) (x3 := x3) (x6 := x6) (x7 := x7), u21_583 (i := i) (arg2 := arg2) (harg2 := harg2) (arg4 := arg4) (harg4 := harg4) (arg7 := arg7) (harg7 := harg7) (arg8 := arg8) (harg8 := harg8) (arg13 := arg13) (x1 := x1) (x3 := x3) (x6 := x6) (x7 := x7), v178_mask, v172_mask, v164_mask]
  rfl
/-- 631: `I.fr1`. -/
theorem u21_631 : kernelRun0_A.sl.v2291 c i arg1 harg1 arg7 harg7 arg8 harg8 x0 x6 x7 =
    (inp c i arg1 harg1 arg2 harg2 arg4 harg4 arg7 harg7 arg8 harg8 arg13 x0 x1 x3 x6 x7 2 1 (by omega) (by omega)).fr1 := by
  unfold kernelRun0_A.sl.v2291
  rw [u21_590]
  rfl
/-- 636: `I.b10 k`. -/
theorem u21_636 : kernelRun0_A.sl.v2296 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b10 (keyB arg3 harg3 x2 2 (by omega)) := by
  unfold kernelRun0_A.sl.v2296 kernelRun0_A.sl.v2295 kernelRun0_A.sl.v2294 kernelRun0_A.sl.v2293 kernelRun0_A.sl.v2292
  rw [u21_631, u21_587]
  rfl
/-- 641: `I.b11 k`. -/
theorem u21_641 : kernelRun0_A.sl.v2301 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b11 (keyB arg3 harg3 x2 2 (by omega)) := by
  unfold kernelRun0_A.sl.v2301 kernelRun0_A.sl.v2299 kernelRun0_A.sl.v2298 kernelRun0_A.sl.v2297 kernelRun0_A.sl.v2295
  rw [u21_631, u21_587]
  rfl
/-- 648: `I.b12 k`. -/
theorem u21_648 : kernelRun0_A.sl.v2308 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b12 (keyB arg3 harg3 x2 2 (by omega)) := by
  unfold kernelRun0_A.sl.v2308 kernelRun0_A.sl.v2307 kernelRun0_A.sl.v2306 kernelRun0_A.sl.v2305 kernelRun0_A.sl.v2304 kernelRun0_A.sl.v2303 kernelRun0_A.sl.v2302
  rw [u21_631, u21_597, u21_587, v181_mask]
  rfl
/-- 657: `I.b13 k`. -/
theorem u21_657 : kernelRun0_A.sl.v2317 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).b13 (keyB arg3 harg3 x2 2 (by omega)) := by
  unfold kernelRun0_A.sl.v2317 kernelRun0_A.sl.v2316 kernelRun0_A.sl.v2315 kernelRun0_A.sl.v2311 kernelRun0_A.sl.v2310 kernelRun0_A.sl.v2309 kernelRun0_A.sl.v2306 kernelRun0_A.sl.v2305 kernelRun0_A.sl.v248
  rw [u21_631, u21_597, u21_587, v175_mask, v169_mask]
  rfl
/-- 662: `I.mB1 k`. -/
theorem u21_662 : kernelRun0_A.sl.v2322 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 2 1 (by omega) (by omega)).mB1 (keyB arg3 harg3 x2 2 (by omega)) := by
  unfold kernelRun0_A.sl.v2322 kernelRun0_A.sl.v2321 kernelRun0_A.sl.v2320 kernelRun0_A.sl.v2319 kernelRun0_A.sl.v2318
  rw [u21_657 (arg2 := arg2) (harg2 := harg2) (x1 := x1), u21_648 (arg2 := arg2) (harg2 := harg2) (x1 := x1), u21_641 (arg2 := arg2) (harg2 := harg2) (x1 := x1), u21_636 (arg2 := arg2) (harg2 := harg2) (x1 := x1)]
  rfl
/-- 668: `I.eB00 k`. -/
theorem u21_668 : kernelRun0_A.sl.v2328 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB00 (keyB arg3 harg3 x2 2 (by omega)) := by
  unfold kernelRun0_A.sl.v2328 kernelRun0_A.sl.v2327 kernelRun0_A.sl.v2326 kernelRun0_A.sl.v2325 kernelRun0_A.sl.v2324
  rw [u21_630, u21_610, u21_602]
  rfl
/-- 675: `I.eB01 k`. -/
theorem u21_675 : kernelRun0_A.sl.v2335 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB01 (keyB arg3 harg3 x2 2 (by omega)) := by
  unfold kernelRun0_A.sl.v2335 kernelRun0_A.sl.v2334 kernelRun0_A.sl.v2332 kernelRun0_A.sl.v2326 kernelRun0_A.sl.v2324
  rw [u21_630, u21_617, u21_602]
  rfl
/-- 686: `I.eB02 k`. -/
theorem u21_686 : kernelRun0_A.sl.v2346 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB02 (keyB arg3 harg3 x2 2 (by omega)) := by
  unfold kernelRun0_A.sl.v2346 kernelRun0_A.sl.v2345 kernelRun0_A.sl.v2343 kernelRun0_A.sl.v2326 kernelRun0_A.sl.v2324
  rw [u21_630, u21_626, u21_602]
  rfl
/-- 694: `I.fB0 k`. -/
theorem u21_694 : kernelRun0_A.sl.v2354 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).fB0 (keyB arg3 harg3 x2 2 (by omega)) := by
  unfold kernelRun0_A.sl.v2354 kernelRun0_A.sl.v2353 kernelRun0_A.sl.v2350 kernelRun0_A.sl.v2349 kernelRun0_A.sl.v2339 kernelRun0_A.sl.v2338 kernelRun0_A.sl.v2330 kernelRun0_A.sl.v20
  rw [u21_686, u21_675, u21_668, v178_mask, v172_mask]
  rfl
/-- 700: `I.eB10 k`. -/
theorem u21_700 : kernelRun0_A.sl.v2360 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB10 (keyB arg3 harg3 x2 2 (by omega)) := by
  unfold kernelRun0_A.sl.v2360 kernelRun0_A.sl.v2359 kernelRun0_A.sl.v2358 kernelRun0_A.sl.v2357 kernelRun0_A.sl.v2356
  rw [u21_662, u21_636, u21_604]
  rfl
/-- 707: `I.eB11 k`. -/
theorem u21_707 : kernelRun0_A.sl.v2367 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB11 (keyB arg3 harg3 x2 2 (by omega)) := by
  unfold kernelRun0_A.sl.v2367 kernelRun0_A.sl.v2366 kernelRun0_A.sl.v2364 kernelRun0_A.sl.v2358 kernelRun0_A.sl.v2356
  rw [u21_662, u21_641, u21_604]
  rfl
/-- 714: `I.eB12 k`. -/
theorem u21_714 : kernelRun0_A.sl.v2374 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB12 (keyB arg3 harg3 x2 2 (by omega)) := by
  unfold kernelRun0_A.sl.v2374 kernelRun0_A.sl.v2373 kernelRun0_A.sl.v2371 kernelRun0_A.sl.v2358 kernelRun0_A.sl.v2356
  rw [u21_662, u21_648, u21_604]
  rfl
/-- 724: `I.eB13 k`. -/
theorem u21_724 : kernelRun0_A.sl.v2384 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).eB13 (keyB arg3 harg3 x2 2 (by omega)) := by
  unfold kernelRun0_A.sl.v2384 kernelRun0_A.sl.v2383 kernelRun0_A.sl.v2381 kernelRun0_A.sl.v2358 kernelRun0_A.sl.v2356
  rw [u21_662, u21_657, u21_604]
  rfl
/-- 729: `I.xwB k`. -/
theorem u21_729 : kernelRun0_A.sl.v2389 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).xwB (keyB arg3 harg3 x2 2 (by omega)) := by
  unfold kernelRun0_A.sl.v2389 kernelRun0_A.sl.v2379 kernelRun0_A.sl.v2351 kernelRun0_A.sl.v2341 kernelRun0_A.sl.v20
  rw [u21_724, u21_714, u21_686, u21_675, v181_mask, v178_mask, v169_mask, v164_mask]
  rfl
/-- 731: `I.fB1 k`. -/
theorem u21_731 : kernelRun0_A.sl.v2391 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).fB1 (keyB arg3 harg3 x2 2 (by omega)) := by
  unfold kernelRun0_A.sl.v2391 kernelRun0_A.sl.v2390 kernelRun0_A.sl.v2388 kernelRun0_A.sl.v2387 kernelRun0_A.sl.v2378 kernelRun0_A.sl.v2377 kernelRun0_A.sl.v2369 kernelRun0_A.sl.v2362 kernelRun0_A.sl.v20
  rw [u21_724, u21_714, u21_707, u21_700, v181_mask, v175_mask]
  rfl
/-- 879: `Tile.skew (I.xwB k)`. -/
theorem u21_879 : kernelRun0_A.sl.v2539 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 2 1 (by omega) (by omega)).xwB (keyB arg3 harg3 x2 2 (by omega))) := by
  unfold kernelRun0_A.sl.v2539 kernelRun0_A.sl.v2538 kernelRun0_A.sl.v2537 kernelRun0_A.sl.v2536 kernelRun0_A.sl.v2535 kernelRun0_A.sl.v2527 kernelRun0_A.sl.v2526 kernelRun0_A.sl.v2518 kernelRun0_A.sl.v2517 kernelRun0_A.sl.v2509 kernelRun0_A.sl.v2508 kernelRun0_A.sl.v2500 kernelRun0_A.sl.v2499 kernelRun0_A.sl.v2491 kernelRun0_A.sl.v2490 kernelRun0_A.sl.v2482 kernelRun0_A.sl.v2481 kernelRun0_A.sl.v2473 kernelRun0_A.sl.v2472 kernelRun0_A.sl.v2464 kernelRun0_A.sl.v2463 kernelRun0_A.sl.v2455 kernelRun0_A.sl.v2454 kernelRun0_A.sl.v2446 kernelRun0_A.sl.v2445 kernelRun0_A.sl.v2437 kernelRun0_A.sl.v2436 kernelRun0_A.sl.v2428 kernelRun0_A.sl.v2427 kernelRun0_A.sl.v2419 kernelRun0_A.sl.v2418 kernelRun0_A.sl.v2410 kernelRun0_A.sl.v2409 kernelRun0_A.sl.v2401 kernelRun0_A.sl.v2400 kernelRun0_A.sl.v2392 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u21_729]
  rfl
/-- 880: `I.wB0 k`. -/
theorem u21_880 : kernelRun0_A.sl.v2540 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).wB0 (keyB arg3 harg3 x2 2 (by omega)) := by
  unfold kernelRun0_A.sl.v2540
  rw [u21_879]
  rfl
/-- 881: `I.wB1 k`. -/
theorem u21_881 : kernelRun0_A.sl.v2541 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 2 1 (by omega) (by omega)).wB1 (keyB arg3 harg3 x2 2 (by omega)) := by
  unfold kernelRun0_A.sl.v2541
  rw [u21_879]
  rfl
/-- 886: `Tile.inv (I.fB0 k) (I.wB0 k)`. -/
theorem u21_886 : kernelRun0_A.sl.v2546 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 2 1 (by omega) (by omega)).fB0 (keyB arg3 harg3 x2 2 (by omega))) ((inp c i arg1 harg1 arg2 harg2 arg4 harg4 arg7 harg7 arg8 harg8 arg13 x0 x1 x3 x6 x7 2 1 (by omega) (by omega)).wB0 (keyB arg3 harg3 x2 2 (by omega))) := by
  unfold kernelRun0_A.sl.v2546 kernelRun0_A.sl.v2544 kernelRun0_A.sl.v2543 kernelRun0_A.sl.v2542 kernelRun0_A.sl.v446
  rw [u21_880, u21_694]
  rfl
/-- 891: `Tile.inv (I.fB1 k) (I.wB1 k)`. -/
theorem u21_891 : kernelRun0_A.sl.v2551 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 2 1 (by omega) (by omega)).fB1 (keyB arg3 harg3 x2 2 (by omega))) ((inp c i arg1 harg1 arg2 harg2 arg4 harg4 arg7 harg7 arg8 harg8 arg13 x0 x1 x3 x6 x7 2 1 (by omega) (by omega)).wB1 (keyB arg3 harg3 x2 2 (by omega))) := by
  unfold kernelRun0_A.sl.v2551 kernelRun0_A.sl.v2549 kernelRun0_A.sl.v2548 kernelRun0_A.sl.v2547 kernelRun0_A.sl.v446
  rw [u21_881, u21_731]
  rfl
/-- 924: `I.oB VT AVT k`. -/
theorem u21_924 : kernelRun0_A.sl.v2584 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 2 1 (by omega) (by omega)).oB (vtB arg5 harg5 arg6 harg6 x4 x5 2 (by omega)) (kernelRun0_A.sl.v86 c i arg9 harg9 arg10 harg10 arg14 arg15 x8 x9) (keyB arg3 harg3 x2 2 (by omega)) := by
  unfold kernelRun0_A.sl.v2584 kernelRun0_A.sl.v2583 kernelRun0_A.sl.v2582 kernelRun0_A.sl.v2581 kernelRun0_A.sl.v2580 kernelRun0_A.sl.v2579 kernelRun0_A.sl.v2578 kernelRun0_A.sl.v2577 kernelRun0_A.sl.v2576 kernelRun0_A.sl.v2575 kernelRun0_A.sl.v2574 kernelRun0_A.sl.v2573 kernelRun0_A.sl.v2572 kernelRun0_A.sl.v2571 kernelRun0_A.sl.v2570 kernelRun0_A.sl.v2569 kernelRun0_A.sl.v2568 kernelRun0_A.sl.v2567 kernelRun0_A.sl.v2566 kernelRun0_A.sl.v2565 kernelRun0_A.sl.v2563 kernelRun0_A.sl.v2562 kernelRun0_A.sl.v2558 kernelRun0_A.sl.v2556 kernelRun0_A.sl.v2555 kernelRun0_A.sl.v2385 kernelRun0_A.sl.v2375 kernelRun0_A.sl.v2368 kernelRun0_A.sl.v2361 kernelRun0_A.sl.v2347 kernelRun0_A.sl.v2336 kernelRun0_A.sl.v2329 kernelRun0_A.sl.v1854 kernelRun0_A.sl.v1853 kernelRun0_A.sl.v1852 kernelRun0_A.sl.v1851 kernelRun0_A.sl.v1849 kernelRun0_A.sl.v1848 kernelRun0_A.sl.v1847 kernelRun0_A.sl.v1846 kernelRun0_A.sl.v458 kernelRun0_A.sl.v454 kernelRun0_A.sl.v453 kernelRun0_A.sl.v267
  rw [u21_891, u21_886, u21_881, u21_880, u21_731, u21_724, u21_714, u21_707, u21_700, u21_694, u21_686, u21_675, u21_668]
  rfl
/-- 938: `Tile.wOut (I.wB0 k) (Tile.inv (I.fB0 k) (I.wB0 k))`. -/
theorem u21_938 : kernelRun0_A.sl.v2598 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 2 1 (by omega) (by omega)).wB0 (keyB arg3 harg3 x2 2 (by omega))) (Tile.inv ((inp c i arg1 harg1 arg2 harg2 arg4 harg4 arg7 harg7 arg8 harg8 arg13 x0 x1 x3 x6 x7 2 1 (by omega) (by omega)).fB0 (keyB arg3 harg3 x2 2 (by omega))) ((inp c i arg1 harg1 arg2 harg2 arg4 harg4 arg7 harg7 arg8 harg8 arg13 x0 x1 x3 x6 x7 2 1 (by omega) (by omega)).wB0 (keyB arg3 harg3 x2 2 (by omega)))) := by
  unfold kernelRun0_A.sl.v2598 kernelRun0_A.sl.v2597
  rw [u21_886, u21_880]
  rfl
/-- 939: `mulf (I.fB0 k) (Tile.inv (I.fB0 k) (I.wB0 k))`. -/
theorem u21_939 : kernelRun0_A.sl.v2599 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 2 1 (by omega) (by omega)).fB0 (keyB arg3 harg3 x2 2 (by omega))) (Tile.inv ((inp c i arg1 harg1 arg2 harg2 arg4 harg4 arg7 harg7 arg8 harg8 arg13 x0 x1 x3 x6 x7 2 1 (by omega) (by omega)).fB0 (keyB arg3 harg3 x2 2 (by omega))) ((inp c i arg1 harg1 arg2 harg2 arg4 harg4 arg7 harg7 arg8 harg8 arg13 x0 x1 x3 x6 x7 2 1 (by omega) (by omega)).wB0 (keyB arg3 harg3 x2 2 (by omega)))) := by
  unfold kernelRun0_A.sl.v2599
  rw [u21_886, u21_694]
/-- 978: `Tile.rot64W (Tile.wOut (I.wB1 k) (Tile.inv (I.fB1 k) (I.wB1 k)))`. -/
theorem u21_978 : kernelRun0_A.sl.v2638 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 2 1 (by omega) (by omega)).wB1 (keyB arg3 harg3 x2 2 (by omega))) (Tile.inv ((inp c i arg1 harg1 arg2 harg2 arg4 harg4 arg7 harg7 arg8 harg8 arg13 x0 x1 x3 x6 x7 2 1 (by omega) (by omega)).fB1 (keyB arg3 harg3 x2 2 (by omega))) ((inp c i arg1 harg1 arg2 harg2 arg4 harg4 arg7 harg7 arg8 harg8 arg13 x0 x1 x3 x6 x7 2 1 (by omega) (by omega)).wB1 (keyB arg3 harg3 x2 2 (by omega))))) := by
  unfold kernelRun0_A.sl.v2638 kernelRun0_A.sl.v2636 kernelRun0_A.sl.v2635
  rw [u21_891, u21_881]
  rfl
/-- 979: `Tile.rot64 (mulf (I.fB1 k) (Tile.inv (I.fB1 k) (I.wB1 k)))`. -/
theorem u21_979 : kernelRun0_A.sl.v2639 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 2 1 (by omega) (by omega)).fB1 (keyB arg3 harg3 x2 2 (by omega))) (Tile.inv ((inp c i arg1 harg1 arg2 harg2 arg4 harg4 arg7 harg7 arg8 harg8 arg13 x0 x1 x3 x6 x7 2 1 (by omega) (by omega)).fB1 (keyB arg3 harg3 x2 2 (by omega))) ((inp c i arg1 harg1 arg2 harg2 arg4 harg4 arg7 harg7 arg8 harg8 arg13 x0 x1 x3 x6 x7 2 1 (by omega) (by omega)).wB1 (keyB arg3 harg3 x2 2 (by omega))))) := by
  unfold kernelRun0_A.sl.v2639 kernelRun0_A.sl.v2637
  rw [u21_891, u21_731]
  rfl

end Cert.KernelIdeal.Body
-- ==== Proof.KernelIdeal.Facts2.lean ====
/- What the units of batch 2 hold: the specification's values of their rows. -/
module

public import proofs.«01_k».proof.Proof.KernelIdeal.Unit20
public import proofs.«01_k».proof.Proof.KernelIdeal.Unit21
public import proofs.«01_k».proof.Proof.KernelIdeal.Prep
public import proofs.«01_k».proof.Proof.KernelIdeal.Store
import all proofs.«01_k».proof.Proof.KernelIdeal.Run

@[expose] public section

set_option maxRecDepth 16384

noncomputable section

namespace Cert.KernelIdeal.Body

open Cert.KernelIdeal.Gen Cert.Spec Cert.KernelIdeal.Tile Cert.KernelIdeal.Store
open Idealize.ShloMosaic Idealize.ShloMosaic.TcCoe Idealize.ShloMosaic.Tactic Idealize.SL.Sem

local notation "ℝI" => Idealize.ShloMosaic.Ideal

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg11 : Memref sig .tc .vmem S4x512x128 .bf16) (harg11 : arg11.IsWhole)
variable (arg12 : Memref sig .tc .vmem S1x1040x128 .f32) (harg12 : arg12.IsWhole)
variable (arg13 : Memref sig .tc .vmem S512x512 .f32)
variable (arg14 : Memref sig .tc .vmem S80x128 .f32)
variable (arg15 : Memref sig .tc .vmem S8x128 .f32)
variable (x0 : Vec ℝI S4x1x512x128 .fp8e4m3)
variable (x1 : Vec ℝI S1x4x512 .f32)
variable (x2 : Vec ℝI S4x1x512x128 .fp8e4m3)
variable (x3 : Vec ℝI S1x4x512 .f32)
variable (x4 : Vec ℝI S4x1x512x128 .fp8e4m3)
variable (x5 : Vec ℝI S1x4x512 .f32)
variable (x6 : Vec ℝI S1x65x128 .i8)
variable (x7 : Vec ℝI S20x65 .f32)
variable (x8 : Vec ℝI S1x65x128 .i8)
variable (x9 : Vec ℝI S20x65 .f32)

variable {H : Hd} {h : Fin 20} (hs : Src H 2 h x0 x1 x2 x3 x4 x5 x6 x7 x8 x9) (hi : k0_off1 i = ![(h : ℕ), 0])

include hs hi in
/-- Block 0: the first result. -/
theorem o20 (l d : Fin 128) : kernelRun0_A.sl.v2146 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 0 + l) d := by
  rw [u20_486]
  exact oA0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 0: the near weights. -/
theorem w20 (r : Fin 64) (l : Fin 128) : kernelRun0_A.sl.v2160 (F := ℝI) c i arg1 harg1 arg2 harg2 arg3 harg3 arg4 harg4 arg7 harg7 arg8 harg8 arg13 x0 x1 x2 x3 x6 x7 (ix2 r l) = H.WOUT (128 * 0 + l) r := by
  rw [u20_500]
  exact wOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 0: the far weight. -/
theorem f20 (l : Fin 128) : kernelRun0_A.sl.v2161 (F := ℝI) c i arg1 harg1 arg2 harg2 arg3 harg3 arg4 harg4 arg7 harg7 arg8 harg8 arg13 x0 x1 x2 x3 x6 x7 (ix2 0 l) = H.WOUT (128 * 0 + l) 64 := by
  rw [u20_501]
  exact fOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 1: the first result. -/
theorem o21 (l d : Fin 128) : kernelRun0_A.sl.v2146 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 1 + Lb l) d := by
  rw [u20_486]
  exact oA1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 1: the near weights. -/
theorem w21 (r : Fin 64) (l : Fin 128) : kernelRun0_A.sl.v2200 (F := ℝI) c i arg1 harg1 arg2 harg2 arg3 harg3 arg4 harg4 arg7 harg7 arg8 harg8 arg13 x0 x1 x2 x3 x6 x7 (ix2 r l) = H.WOUT (128 * 1 + l) r := by
  rw [u20_540]
  exact wOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 1: the far weight. -/
theorem f21 (l : Fin 128) : kernelRun0_A.sl.v2201 (F := ℝI) c i arg1 harg1 arg2 harg2 arg3 harg3 arg4 harg4 arg7 harg7 arg8 harg8 arg13 x0 x1 x2 x3 x6 x7 (ix2 0 l) = H.WOUT (128 * 1 + l) 64 := by
  rw [u20_541]
  exact fOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 2: the first result. -/
theorem o22 (l d : Fin 128) : kernelRun0_A.sl.v2584 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 2 + l) d := by
  rw [u21_924]
  exact oB0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 2: the near weights. -/
theorem w22 (r : Fin 64) (l : Fin 128) : kernelRun0_A.sl.v2598 (F := ℝI) c i arg1 harg1 arg2 harg2 arg3 harg3 arg4 harg4 arg7 harg7 arg8 harg8 arg13 x0 x1 x2 x3 x6 x7 (ix2 r l) = H.WOUT (128 * 2 + l) r := by
  rw [u21_938]
  exact wOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 2: the far weight. -/
theorem f22 (l : Fin 128) : kernelRun0_A.sl.v2599 (F := ℝI) c i arg1 harg1 arg2 harg2 arg3 harg3 arg4 harg4 arg7 harg7 arg8 harg8 arg13 x0 x1 x2 x3 x6 x7 (ix2 0 l) = H.WOUT (128 * 2 + l) 64 := by
  rw [u21_939]
  exact fOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

include hs hi in
/-- Block 3: the first result. -/
theorem o23 (l d : Fin 128) : kernelRun0_A.sl.v2584 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 3 + Lb l) d := by
  rw [u21_924]
  exact oB1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 3: the near weights. -/
theorem w23 (r : Fin 64) (l : Fin 128) : kernelRun0_A.sl.v2638 (F := ℝI) c i arg1 harg1 arg2 harg2 arg3 harg3 arg4 harg4 arg7 harg7 arg8 harg8 arg13 x0 x1 x2 x3 x6 x7 (ix2 r l) = H.WOUT (128 * 3 + l) r := by
  rw [u21_978]
  exact wOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 3: the far weight. -/
theorem f23 (l : Fin 128) : kernelRun0_A.sl.v2639 (F := ℝI) c i arg1 harg1 arg2 harg2 arg3 harg3 arg4 harg4 arg7 harg7 arg8 harg8 arg13 x0 x1 x2 x3 x6 x7 (ix2 0 l) = H.WOUT (128 * 3 + l) 64 := by
  rw [u21_979]
  exact fOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

end Cert.KernelIdeal.Body
-- ==== Proof.KernelIdeal.Unit30.lean ====
/- The body's values in unit (batch 3, pair 0): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 205: `Tile.stA k I.q`. -/
theorem u30_205 : kernelRun0_A.sl.r_54 c arg1 harg1 arg3 harg3 x0 x2 =
    Tile.stA (keyA arg3 harg3 x2 3 (by omega)) (inp c i arg1 harg1 arg2 harg2 arg4 harg4 arg7 harg7 arg8 harg8 arg13 x0 x1 x3 x6 x7 3 0 (by omega) (by omega)).q := by
  unfold kernelRun0_A.sl.r_54
  rfl
/-- 208: `Tile.far I.akf I.sfar I.q`. -/
theorem u30_208 : kernelRun0_A.sl.r_55 c i arg1 harg1 arg7 harg7 arg8 harg8 x0 x6 x7 =
    Tile.far (inp c i arg1 harg1 arg2 harg2 arg4 harg4 arg7 harg7 arg8 harg8 arg13 x0 x1 x3 x6 x7 3 0 (by omega) (by omega)).akf (inp c i arg1 harg1 arg2 harg2 arg4 harg4 arg7 harg7 arg8 harg8 arg13 x0 x1 x3 x6 x7 3 0 (by omega) (by omega)).sfar (inp c i arg1 harg1 arg2 harg2 arg4 harg4 arg7 harg7 arg8 harg8 arg13 x0 x1 x3 x6 x7 3 0 (by omega) (by omega)).q := by
  unfold kernelRun0_A.sl.r_55
  rfl
/-- 215: `I.b`. -/
theorem u30_215 : kernelRun0_A.sl.r_56 c i arg1 harg1 arg7 harg7 arg8 harg8 x0 x6 x7 =
    (inp c i arg1 harg1 arg2 harg2 arg4 harg4 arg7 harg7 arg8 harg8 arg13 x0 x1 x3 x6 x7 3 0 (by omega) (by omega)).b := by
  unfold kernelRun0_A.sl.r_56
  rfl
/-- 220: `I.c0`. -/
theorem u30_220 : kernelRun0_A.sl.v2710 c arg2 harg2 x1 =
    (inp c i arg1 harg1 arg2 harg2 arg4 harg4 arg7 harg7 arg8 harg8 arg13 x0 x1 x3 x6 x7 3 0 (by omega) (by omega)).c0 := by
  unfold kernelRun0_A.sl.v2710 kernelRun0_A.sl.v2709 kernelRun0_A.sl.r_57
  rfl
/-- 222: `I.c1`. -/
theorem u30_222 : kernelRun0_A.sl.v2712 c arg2 harg2 x1 =
    (inp c i arg1 harg1 arg2 harg2 arg4 harg4 arg7 harg7 arg8 harg8 arg13 x0 x1 x3 x6 x7 3 0 (by omega) (by omega)).c1 := by
  unfold kernelRun0_A.sl.v2712 kernelRun0_A.sl.v2711 kernelRun0_A.sl.v2709 kernelRun0_A.sl.r_57
  rfl
/-- 223: `I.fr0`. -/
theorem u30_223 : kernelRun0_A.sl.v2713 c i arg1 harg1 arg7 harg7 arg8 harg8 x0 x6 x7 =
    (inp c i arg1 harg1 arg2 harg2 arg4 harg4 arg7 harg7 arg8 harg8 arg13 x0 x1 x3 x6 x7 3 0 (by omega) (by omega)).fr0 := by
  unfold kernelRun0_A.sl.v2713
  rw [u30_208]
  rfl
/-- 232: `I.a00 k`. -/
theorem u30_232 : kernelRun0_A.sl.v2722 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 0 (by omega) (by omega)).a00 (keyA arg3 harg3 x2 3 (by omega)) := by
  unfold kernelRun0_A.sl.v2722 kernelRun0_A.sl.v2721 kernelRun0_A.sl.v2720 kernelRun0_A.sl.v2718 kernelRun0_A.sl.v2717 kernelRun0_A.sl.v2716 kernelRun0_A.sl.v2715 kernelRun0_A.sl.v2714 kernelRun0_A.sl.v248
  rw [u30_223, u30_215, u30_205, v172_mask, v164_mask]
  rfl
/-- 234: `Tile.colMax (I.a00 k)`. -/
theorem u30_234 : kernelRun0_A.sl.v2724 c i arg1 harg1 arg3 harg3 arg4 harg4 arg7 harg7 arg8 harg8 arg13 x0 x2 x3 x6 x7 =
    Tile.colMax ((inp c i arg1 harg1 arg2 harg2 arg4 harg4 arg7 harg7 arg8 harg8 arg13 x0 x1 x3 x6 x7 3 0 (by omega) (by omega)).a00 (keyA arg3 harg3 x2 3 (by omega))) := by
  unfold kernelRun0_A.sl.v2724 kernelRun0_A.sl.v2723
  rw [u30_232]
  rfl
/-- 235: `I.fr1`. -/
theorem u30_235 : kernelRun0_A.sl.v2725 c i arg1 harg1 arg7 harg7 arg8 harg8 x0 x6 x7 =
    (inp c i arg1 harg1 arg2 harg2 arg4 harg4 arg7 harg7 arg8 harg8 arg13 x0 x1 x3 x6 x7 3 0 (by omega) (by omega)).fr1 := by
  unfold kernelRun0_A.sl.v2725
  rw [u30_208]
  rfl
/-- 242: `I.a10 k`. -/
theorem u30_242 : kernelRun0_A.sl.v2732 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 0 (by omega) (by omega)).a10 (keyA arg3 harg3 x2 3 (by omega)) := by
  unfold kernelRun0_A.sl.v2732 kernelRun0_A.sl.v2731 kernelRun0_A.sl.v2730 kernelRun0_A.sl.v2729 kernelRun0_A.sl.v2728 kernelRun0_A.sl.v2727 kernelRun0_A.sl.v2714
  rw [u30_235, u30_215, u30_205, v181_mask]
  rfl
/-- 251: `I.a11 k`. -/
theorem u30_251 : kernelRun0_A.sl.v2741 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 0 (by omega) (by omega)).a11 (keyA arg3 harg3 x2 3 (by omega)) := by
  unfold kernelRun0_A.sl.v2741 kernelRun0_A.sl.v2740 kernelRun0_A.sl.v2739 kernelRun0_A.sl.v2735 kernelRun0_A.sl.v2734 kernelRun0_A.sl.v2733 kernelRun0_A.sl.v2730 kernelRun0_A.sl.v2729 kernelRun0_A.sl.v248
  rw [u30_235, u30_215, u30_205, v175_mask, v169_mask]
  rfl
/-- 254: `Tile.colMax (maximumf (I.a10 k) (I.a11 k))`. -/
theorem u30_254 : kernelRun0_A.sl.v2744 c i arg1 harg1 arg3 harg3 arg4 harg4 arg7 harg7 arg8 harg8 arg13 x0 x2 x3 x6 x7 =
    Tile.colMax (maximumf ((inp c i arg1 harg1 arg2 harg2 arg4 harg4 arg7 harg7 arg8 harg8 arg13 x0 x1 x3 x6 x7 3 0 (by omega) (by omega)).a10 (keyA arg3 harg3 x2 3 (by omega))) ((inp c i arg1 harg1 arg2 harg2 arg4 harg4 arg7 harg7 arg8 harg8 arg13 x0 x1 x3 x6 x7 3 0 (by omega) (by omega)).a11 (keyA arg3 harg3 x2 3 (by omega)))) := by
  unfold kernelRun0_A.sl.v2744 kernelRun0_A.sl.v2743 kernelRun0_A.sl.v2742
  rw [u30_251, u30_242]
  rfl
/-- 260: `I.eA00 k`. -/
theorem u30_260 : kernelRun0_A.sl.v2750 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).eA00 (keyA arg3 harg3 x2 3 (by omega)) := by
  unfold kernelRun0_A.sl.v2750 kernelRun0_A.sl.v2749 kernelRun0_A.sl.v2748 kernelRun0_A.sl.v2747 kernelRun0_A.sl.v2746
  rw [u30_234, u30_232, u30_220]
  rfl
/-- 269: `I.fA0 k`. -/
theorem u30_269 : kernelRun0_A.sl.v2759 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).fA0 (keyA arg3 harg3 x2 3 (by omega)) := by
  unfold kernelRun0_A.sl.v2759 kernelRun0_A.sl.v2758 kernelRun0_A.sl.v2754 kernelRun0_A.sl.v2753 kernelRun0_A.sl.v20
  rw [u30_260, v172_mask]
  rfl
/-- 275: `I.eA10 k`. -/
theorem u30_275 : kernelRun0_A.sl.v2765 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).eA10 (keyA arg3 harg3 x2 3 (by omega)) := by
  unfold kernelRun0_A.sl.v2765 kernelRun0_A.sl.v2764 kernelRun0_A.sl.v2763 kernelRun0_A.sl.v2762 kernelRun0_A.sl.v2761
  rw [u30_254, u30_242, u30_222]
  rfl
/-- 285: `I.eA11 k`. -/
theorem u30_285 : kernelRun0_A.sl.v2775 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).eA11 (keyA arg3 harg3 x2 3 (by omega)) := by
  unfold kernelRun0_A.sl.v2775 kernelRun0_A.sl.v2774 kernelRun0_A.sl.v2772 kernelRun0_A.sl.v2763 kernelRun0_A.sl.v2761
  rw [u30_254, u30_251, u30_222]
  rfl
/-- 290: `I.xwA k`. -/
theorem u30_290 : kernelRun0_A.sl.v2780 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).xwA (keyA arg3 harg3 x2 3 (by omega)) := by
  unfold kernelRun0_A.sl.v2780 kernelRun0_A.sl.v2770 kernelRun0_A.sl.v2756 kernelRun0_A.sl.v20
  rw [u30_285, u30_275, u30_260, v181_mask, v169_mask, v164_mask]
  rfl
/-- 292: `I.fA1 k`. -/
theorem u30_292 : kernelRun0_A.sl.v2782 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).fA1 (keyA arg3 harg3 x2 3 (by omega)) := by
  unfold kernelRun0_A.sl.v2782 kernelRun0_A.sl.v2781 kernelRun0_A.sl.v2779 kernelRun0_A.sl.v2778 kernelRun0_A.sl.v2769 kernelRun0_A.sl.v2768 kernelRun0_A.sl.v20
  rw [u30_285, u30_275, v181_mask, v175_mask]
  rfl
/-- 440: `Tile.skew (I.xwA k)`. -/
theorem u30_440 : kernelRun0_A.sl.v2930 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 3 0 (by omega) (by omega)).xwA (keyA arg3 harg3 x2 3 (by omega))) := by
  unfold kernelRun0_A.sl.v2930 kernelRun0_A.sl.v2929 kernelRun0_A.sl.v2928 kernelRun0_A.sl.v2927 kernelRun0_A.sl.v2926 kernelRun0_A.sl.v2918 kernelRun0_A.sl.v2917 kernelRun0_A.sl.v2909 kernelRun0_A.sl.v2908 kernelRun0_A.sl.v2900 kernelRun0_A.sl.v2899 kernelRun0_A.sl.v2891 kernelRun0_A.sl.v2890 kernelRun0_A.sl.v2882 kernelRun0_A.sl.v2881 kernelRun0_A.sl.v2873 kernelRun0_A.sl.v2872 kernelRun0_A.sl.v2864 kernelRun0_A.sl.v2863 kernelRun0_A.sl.v2855 kernelRun0_A.sl.v2854 kernelRun0_A.sl.v2846 kernelRun0_A.sl.v2845 kernelRun0_A.sl.v2837 kernelRun0_A.sl.v2836 kernelRun0_A.sl.v2828 kernelRun0_A.sl.v2827 kernelRun0_A.sl.v2819 kernelRun0_A.sl.v2818 kernelRun0_A.sl.v2810 kernelRun0_A.sl.v2809 kernelRun0_A.sl.v2801 kernelRun0_A.sl.v2800 kernelRun0_A.sl.v2792 kernelRun0_A.sl.v2791 kernelRun0_A.sl.v2783 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u30_290]
  rfl
/-- 441: `I.wA0 k`. -/
theorem u30_441 : kernelRun0_A.sl.v2931 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).wA0 (keyA arg3 harg3 x2 3 (by omega)) := by
  unfold kernelRun0_A.sl.v2931
  rw [u30_440]
  rfl
/-- 442: `I.wA1 k`. -/
theorem u30_442 : kernelRun0_A.sl.v2932 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 0 (by omega) (by omega)).wA1 (keyA arg3 harg3 x2 3 (by omega)) := by
  unfold kernelRun0_A.sl.v2932
  rw [u30_440]
  rfl
/-- 447: `Tile.inv (I.fA0 k) (I.wA0 k)`. -/
theorem u30_447 : kernelRun0_A.sl.v2937 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 3 0 (by omega) (by omega)).fA0 (keyA arg3 harg3 x2 3 (by omega))) ((inp c i arg1 harg1 arg2 harg2 arg4 harg4 arg7 harg7 arg8 harg8 arg13 x0 x1 x3 x6 x7 3 0 (by omega) (by omega)).wA0 (keyA arg3 harg3 x2 3 (by omega))) := by
  unfold kernelRun0_A.sl.v2937 kernelRun0_A.sl.v2935 kernelRun0_A.sl.v2934 kernelRun0_A.sl.v2933 kernelRun0_A.sl.v446
  rw [u30_441, u30_269]
  rfl
/-- 452: `Tile.inv (I.fA1 k) (I.wA1 k)`. -/
theorem u30_452 : kernelRun0_A.sl.v2942 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 3 0 (by omega) (by omega)).fA1 (keyA arg3 harg3 x2 3 (by omega))) ((inp c i arg1 harg1 arg2 harg2 arg4 harg4 arg7 harg7 arg8 harg8 arg13 x0 x1 x3 x6 x7 3 0 (by omega) (by omega)).wA1 (keyA arg3 harg3 x2 3 (by omega))) := by
  unfold kernelRun0_A.sl.v2942 kernelRun0_A.sl.v2940 kernelRun0_A.sl.v2939 kernelRun0_A.sl.v2938 kernelRun0_A.sl.v446
  rw [u30_442, u30_292]
  rfl
/-- 486: `I.oA VT AVT k`. -/
theorem u30_486 : kernelRun0_A.sl.v2976 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 3 0 (by omega) (by omega)).oA (vtB arg5 harg5 arg6 harg6 x4 x5 3 (by omega)) (kernelRun0_A.sl.v86 c i arg9 harg9 arg10 harg10 arg14 arg15 x8 x9) (keyA arg3 harg3 x2 3 (by omega)) := by
  unfold kernelRun0_A.sl.v2976 kernelRun0_A.sl.v2975 kernelRun0_A.sl.v2974 kernelRun0_A.sl.v2973 kernelRun0_A.sl.v2972 kernelRun0_A.sl.v2971 kernelRun0_A.sl.v2970 kernelRun0_A.sl.v2969 kernelRun0_A.sl.v2968 kernelRun0_A.sl.v2967 kernelRun0_A.sl.v2966 kernelRun0_A.sl.v2965 kernelRun0_A.sl.v2964 kernelRun0_A.sl.v2963 kernelRun0_A.sl.v2962 kernelRun0_A.sl.v2961 kernelRun0_A.sl.v2960 kernelRun0_A.sl.v2959 kernelRun0_A.sl.v2958 kernelRun0_A.sl.v2957 kernelRun0_A.sl.v2956 kernelRun0_A.sl.v2954 kernelRun0_A.sl.v2953 kernelRun0_A.sl.v2949 kernelRun0_A.sl.v2947 kernelRun0_A.sl.v2946 kernelRun0_A.sl.v2776 kernelRun0_A.sl.v2766 kernelRun0_A.sl.v2751 kernelRun0_A.sl.r_53 kernelRun0_A.sl.v458 kernelRun0_A.sl.v454 kernelRun0_A.sl.v453 kernelRun0_A.sl.v267 kernelRun0_A.sl.r_52
  rw [u30_452, u30_447, u30_442, u30_441, u30_292, u30_285, u30_275, u30_269, u30_260]
  rfl
/-- 500: `Tile.wOut (I.wA0 k) (Tile.inv (I.fA0 k) (I.wA0 k))`. -/
theorem u30_500 : kernelRun0_A.sl.v2990 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 3 0 (by omega) (by omega)).wA0 (keyA arg3 harg3 x2 3 (by omega))) (Tile.inv ((inp c i arg1 harg1 arg2 harg2 arg4 harg4 arg7 harg7 arg8 harg8 arg13 x0 x1 x3 x6 x7 3 0 (by omega) (by omega)).fA0 (keyA arg3 harg3 x2 3 (by omega))) ((inp c i arg1 harg1 arg2 harg2 arg4 harg4 arg7 harg7 arg8 harg8 arg13 x0 x1 x3 x6 x7 3 0 (by omega) (by omega)).wA0 (keyA arg3 harg3 x2 3 (by omega)))) := by
  unfold kernelRun0_A.sl.v2990 kernelRun0_A.sl.v2989
  rw [u30_447, u30_441]
  rfl
/-- 501: `mulf (I.fA0 k) (Tile.inv (I.fA0 k) (I.wA0 k))`. -/
theorem u30_501 : kernelRun0_A.sl.v2991 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 3 0 (by omega) (by omega)).fA0 (keyA arg3 harg3 x2 3 (by omega))) (Tile.inv ((inp c i arg1 harg1 arg2 harg2 arg4 harg4 arg7 harg7 arg8 harg8 arg13 x0 x1 x3 x6 x7 3 0 (by omega) (by omega)).fA0 (keyA arg3 harg3 x2 3 (by omega))) ((inp c i arg1 harg1 arg2 harg2 arg4 harg4 arg7 harg7 arg8 harg8 arg13 x0 x1 x3 x6 x7 3 0 (by omega) (by omega)).wA0 (keyA arg3 harg3 x2 3 (by omega)))) := by
  unfold kernelRun0_A.sl.v2991
  rw [u30_447, u30_269]
/-- 540: `Tile.rot64W (Tile.wOut (I.wA1 k) (Tile.inv (I.fA1 k) (I.wA1 k)))`. -/
theorem u30_540 : kernelRun0_A.sl.v3030 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 3 0 (by omega) (by omega)).wA1 (keyA arg3 harg3 x2 3 (by omega))) (Tile.inv ((inp c i arg1 harg1 arg2 harg2 arg4 harg4 arg7 harg7 arg8 harg8 arg13 x0 x1 x3 x6 x7 3 0 (by omega) (by omega)).fA1 (keyA arg3 harg3 x2 3 (by omega))) ((inp c i arg1 harg1 arg2 harg2 arg4 harg4 arg7 harg7 arg8 harg8 arg13 x0 x1 x3 x6 x7 3 0 (by omega) (by omega)).wA1 (keyA arg3 harg3 x2 3 (by omega))))) := by
  unfold kernelRun0_A.sl.v3030 kernelRun0_A.sl.v3028 kernelRun0_A.sl.v3027
  rw [u30_452, u30_442]
  rfl
/-- 541: `Tile.rot64 (mulf (I.fA1 k) (Tile.inv (I.fA1 k) (I.wA1 k)))`. -/
theorem u30_541 : kernelRun0_A.sl.v3031 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 3 0 (by omega) (by omega)).fA1 (keyA arg3 harg3 x2 3 (by omega))) (Tile.inv ((inp c i arg1 harg1 arg2 harg2 arg4 harg4 arg7 harg7 arg8 harg8 arg13 x0 x1 x3 x6 x7 3 0 (by omega) (by omega)).fA1 (keyA arg3 harg3 x2 3 (by omega))) ((inp c i arg1 harg1 arg2 harg2 arg4 harg4 arg7 harg7 arg8 harg8 arg13 x0 x1 x3 x6 x7 3 0 (by omega) (by omega)).wA1 (keyA arg3 harg3 x2 3 (by omega))))) := by
  unfold kernelRun0_A.sl.v3031 kernelRun0_A.sl.v3029
  rw [u30_452, u30_292]
  rfl

end Cert.KernelIdeal.Body
-- ==== Proof.KernelIdeal.Unit31.lean ====
/- The body's values in unit (batch 3, pair 1): each is the named value of `Tile`, of the blocks the unit reads. -/
module

public import proofs.«01_k».proof.Proof.KernelIdeal.Run
public import proofs.«01_k».proof.Proof.KernelIdeal.Unit
import all proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F] [Named F]

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg13 : Memref sig .tc .vmem S512x512 .f32)
variable (arg14 : Memref sig .tc .vmem S80x128 .f32)
variable (arg15 : Memref sig .tc .vmem S8x128 .f32)
variable (x0 : Vec F S4x1x512x128 .fp8e4m3)
variable (x1 : Vec F S1x4x512 .f32)
variable (x2 : Vec F S4x1x512x128 .fp8e4m3)
variable (x3 : Vec F S1x4x512 .f32)
variable (x4 : Vec F S4x1x512x128 .fp8e4m3)
variable (x5 : Vec F S1x4x512 .f32)
variable (x6 : Vec F S1x65x128 .i8)
variable (x7 : Vec F S20x65 .f32)
variable (x8 : Vec F S1x65x128 .i8)
variable (x9 : Vec F S20x65 .f32)

/-- 583: `I.qb`. -/
theorem u31_583 : kernelRun0_A.sl.v3073 c arg1 harg1 x0 =
    (inp c i arg1 harg1 arg2 harg2 arg4 harg4 arg7 harg7 arg8 harg8 arg13 x0 x1 x3 x6 x7 3 1 (by omega) (by omega)).qb := by
  unfold kernelRun0_A.sl.v3073 kernelRun0_A.sl.v3072 kernelRun0_A.sl.v3070
  rfl
/-- 584: `I.q`. -/
theorem u31_584 : kernelRun0_A.sl.v3074 c arg1 harg1 x0 =
    (inp c i arg1 harg1 arg2 harg2 arg4 harg4 arg7 harg7 arg8 harg8 arg13 x0 x1 x3 x6 x7 3 1 (by omega) (by omega)).q := by
  unfold kernelRun0_A.sl.v3074 kernelRun0_A.sl.v3068
  rw [u31_583]
  rfl
/-- 587: `Tile.stB k I.q`. -/
theorem u31_587 : kernelRun0_A.sl.v3077 c arg1 harg1 arg3 harg3 x0 x2 =
    Tile.stB (keyB arg3 harg3 x2 3 (by omega)) (inp c i arg1 harg1 arg2 harg2 arg4 harg4 arg7 harg7 arg8 harg8 arg13 x0 x1 x3 x6 x7 3 1 (by omega) (by omega)).q := by
  unfold kernelRun0_A.sl.v3077 kernelRun0_A.sl.v3076
  rw [u31_584]
  rfl
/-- 590: `Tile.far I.akf I.sfar I.q`. -/
theorem u31_590 : kernelRun0_A.sl.v3080 c i arg1 harg1 arg7 harg7 arg8 harg8 x0 x6 x7 =
    Tile.far (inp c i arg1 harg1 arg2 harg2 arg4 harg4 arg7 harg7 arg8 harg8 arg13 x0 x1 x3 x6 x7 3 1 (by omega) (by omega)).akf (inp c i arg1 harg1 arg2 harg2 arg4 harg4 arg7 harg7 arg8 harg8 arg13 x0 x1 x3 x6 x7 3 1 (by omega) (by omega)).sfar (inp c i arg1 harg1 arg2 harg2 arg4 harg4 arg7 harg7 arg8 harg8 arg13 x0 x1 x3 x6 x7 3 1 (by omega) (by omega)).q := by
  unfold kernelRun0_A.sl.v3080 kernelRun0_A.sl.v3078 kernelRun0_A.sl.v1037
  rw [u31_584]
  rfl
/-- 597: `I.b`. -/
theorem u31_597 : kernelRun0_A.sl.r_58 c i arg1 harg1 arg7 harg7 arg8 harg8 x0 x6 x7 =
    (inp c i arg1 harg1 arg2 harg2 arg4 harg4 arg7 harg7 arg8 harg8 arg13 x0 x1 x3 x6 x7 3 1 (by omega) (by omega)).b := by
  unfold kernelRun0_A.sl.r_58 kernelRun0_A.sl.v3081 kernelRun0_A.sl.v3068
  rw [u31_583]
  rfl
/-- 602: `I.c0`. -/
theorem u31_602 : kernelRun0_A.sl.r_59 c arg2 harg2 x1 =
    (inp c i arg1 harg1 arg2 harg2 arg4 harg4 arg7 harg7 arg8 harg8 arg13 x0 x1 x3 x6 x7 3 1 (by omega) (by omega)).c0 := by
  unfold kernelRun0_A.sl.r_59
  rfl
/-- 604: `I.c1`. -/
theorem u31_604 : kernelRun0_A.sl.r_60 c arg2 harg2 x1 =
    (inp c i arg1 harg1 arg2 harg2 arg4 harg4 arg7 harg7 arg8 harg8 arg13 x0 x1 x3 x6 x7 3 1 (by omega) (by omega)).c1 := by
  unfold kernelRun0_A.sl.r_60
  rfl
/-- 610: `I.b00 k`. -/
theorem u31_610 : kernelRun0_A.sl.r_61 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b00 (keyB arg3 harg3 x2 3 (by omega)) := by
  unfold kernelRun0_A.sl.r_61 kernelRun0_A.sl.v3096
  rw [u31_590, u31_587]
  rfl
/-- 617: `I.b01 k`. -/
theorem u31_617 : kernelRun0_A.sl.r_62 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b01 (keyB arg3 harg3 x2 3 (by omega)) := by
  unfold kernelRun0_A.sl.r_62 kernelRun0_A.sl.v3101 kernelRun0_A.sl.v3081 kernelRun0_A.sl.v3068
  rw [u31_590, u31_587, u31_583, v178_mask]
  rfl
/-- 626: `I.b02 k`. -/
theorem u31_626 : kernelRun0_A.sl.r_63 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b02 (keyB arg3 harg3 x2 3 (by omega)) := by
  unfold kernelRun0_A.sl.r_63 kernelRun0_A.sl.v3108 kernelRun0_A.sl.v3081 kernelRun0_A.sl.v3068
  rw [u31_590, u31_587, u31_583, v172_mask, v164_mask]
  rfl
/-- 630: `I.mB0 k`. -/
theorem u31_630 : kernelRun0_A.sl.r_64 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).mB0 (keyB arg3 harg3 x2 3 (by omega)) := by
  unfold kernelRun0_A.sl.r_64 kernelRun0_A.sl.v3108 kernelRun0_A.sl.v3101 kernelRun0_A.sl.v3096 kernelRun0_A.sl.v3081 kernelRun0_A.sl.v3068
  rw [u31_590 (arg2 := arg2) (harg2 := harg2) (arg4 := arg4) (harg4 := harg4) (arg13 := arg13) (x1 := x1) (x3 := x3), u31_587 (i := i) (arg2 := arg2) (harg2 := harg2) (arg4 := arg4) (harg4 := harg4) (arg7 := arg7) (harg7 := harg7) (arg8 := arg8) (harg8 := harg8) (arg13 := arg13) (x1 := x1) (x3 := x3) (x6 := x6) (x7 := x7), u31_583 (i := i) (arg2 := arg2) (harg2 := harg2) (arg4 := arg4) (harg4 := harg4) (arg7 := arg7) (harg7 := harg7) (arg8 := arg8) (harg8 := harg8) (arg13 := arg13) (x1 := x1) (x3 := x3) (x6 := x6) (x7 := x7), v178_mask, v172_mask, v164_mask]
  rfl
/-- 631: `I.fr1`. -/
theorem u31_631 : kernelRun0_A.sl.r_65 c i arg1 harg1 arg7 harg7 arg8 harg8 x0 x6 x7 =
    (inp c i arg1 harg1 arg2 harg2 arg4 harg4 arg7 harg7 arg8 harg8 arg13 x0 x1 x3 x6 x7 3 1 (by omega) (by omega)).fr1 := by
  unfold kernelRun0_A.sl.r_65
  rw [u31_590]
  rfl
/-- 636: `I.b10 k`. -/
theorem u31_636 : kernelRun0_A.sl.v3126 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b10 (keyB arg3 harg3 x2 3 (by omega)) := by
  unfold kernelRun0_A.sl.v3126 kernelRun0_A.sl.v3125 kernelRun0_A.sl.r_66 kernelRun0_A.sl.v3096
  rw [u31_631, u31_587]
  rfl
/-- 641: `I.b11 k`. -/
theorem u31_641 : kernelRun0_A.sl.v3131 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b11 (keyB arg3 harg3 x2 3 (by omega)) := by
  unfold kernelRun0_A.sl.v3131 kernelRun0_A.sl.v3129 kernelRun0_A.sl.v3128 kernelRun0_A.sl.v3125 kernelRun0_A.sl.v2733
  rw [u31_631, u31_587]
  rfl
/-- 648: `I.b12 k`. -/
theorem u31_648 : kernelRun0_A.sl.v3138 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b12 (keyB arg3 harg3 x2 3 (by omega)) := by
  unfold kernelRun0_A.sl.v3138 kernelRun0_A.sl.v3137 kernelRun0_A.sl.v3136 kernelRun0_A.sl.v3135 kernelRun0_A.sl.v3134 kernelRun0_A.sl.v3133 kernelRun0_A.sl.v3132
  rw [u31_631, u31_597, u31_587, v181_mask]
  rfl
/-- 657: `I.b13 k`. -/
theorem u31_657 : kernelRun0_A.sl.v3147 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).b13 (keyB arg3 harg3 x2 3 (by omega)) := by
  unfold kernelRun0_A.sl.v3147 kernelRun0_A.sl.v3146 kernelRun0_A.sl.v3145 kernelRun0_A.sl.v3141 kernelRun0_A.sl.v3140 kernelRun0_A.sl.v3139 kernelRun0_A.sl.v3136 kernelRun0_A.sl.v3135 kernelRun0_A.sl.v248
  rw [u31_631, u31_597, u31_587, v175_mask, v169_mask]
  rfl
/-- 662: `I.mB1 k`. -/
theorem u31_662 : kernelRun0_A.sl.v3152 c i arg1 harg1 arg3 harg3 arg4 harg4 arg7 harg7 arg8 harg8 arg13 x0 x2 x3 x6 x7 =
    (inp c i arg1 harg1 arg2 harg2 arg4 harg4 arg7 harg7 arg8 harg8 arg13 x0 x1 x3 x6 x7 3 1 (by omega) (by omega)).mB1 (keyB arg3 harg3 x2 3 (by omega)) := by
  unfold kernelRun0_A.sl.v3152 kernelRun0_A.sl.v3151 kernelRun0_A.sl.v3150 kernelRun0_A.sl.v3149 kernelRun0_A.sl.v3148
  rw [u31_657 (arg2 := arg2) (harg2 := harg2) (x1 := x1), u31_648 (arg2 := arg2) (harg2 := harg2) (x1 := x1), u31_641 (arg2 := arg2) (harg2 := harg2) (x1 := x1), u31_636 (arg2 := arg2) (harg2 := harg2) (x1 := x1)]
  rfl
/-- 668: `I.eB00 k`. -/
theorem u31_668 : kernelRun0_A.sl.v3158 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB00 (keyB arg3 harg3 x2 3 (by omega)) := by
  unfold kernelRun0_A.sl.v3158 kernelRun0_A.sl.v3157 kernelRun0_A.sl.v3156 kernelRun0_A.sl.v3155 kernelRun0_A.sl.v3154
  rw [u31_630, u31_610, u31_602]
  rfl
/-- 675: `I.eB01 k`. -/
theorem u31_675 : kernelRun0_A.sl.v3165 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB01 (keyB arg3 harg3 x2 3 (by omega)) := by
  unfold kernelRun0_A.sl.v3165 kernelRun0_A.sl.v3164 kernelRun0_A.sl.v3162 kernelRun0_A.sl.v3156 kernelRun0_A.sl.v3154
  rw [u31_630, u31_617, u31_602]
  rfl
/-- 686: `I.eB02 k`. -/
theorem u31_686 : kernelRun0_A.sl.v3176 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB02 (keyB arg3 harg3 x2 3 (by omega)) := by
  unfold kernelRun0_A.sl.v3176 kernelRun0_A.sl.v3175 kernelRun0_A.sl.v3173 kernelRun0_A.sl.v3156 kernelRun0_A.sl.v3154
  rw [u31_630, u31_626, u31_602]
  rfl
/-- 694: `I.fB0 k`. -/
theorem u31_694 : kernelRun0_A.sl.v3184 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).fB0 (keyB arg3 harg3 x2 3 (by omega)) := by
  unfold kernelRun0_A.sl.v3184 kernelRun0_A.sl.v3183 kernelRun0_A.sl.v3180 kernelRun0_A.sl.v3179 kernelRun0_A.sl.v3169 kernelRun0_A.sl.v3168 kernelRun0_A.sl.v3160 kernelRun0_A.sl.v20
  rw [u31_686, u31_675, u31_668, v178_mask, v172_mask]
  rfl
/-- 700: `I.eB10 k`. -/
theorem u31_700 : kernelRun0_A.sl.v3190 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB10 (keyB arg3 harg3 x2 3 (by omega)) := by
  unfold kernelRun0_A.sl.v3190 kernelRun0_A.sl.v3189 kernelRun0_A.sl.v3188 kernelRun0_A.sl.v3187 kernelRun0_A.sl.v3186
  rw [u31_662, u31_636, u31_604]
  rfl
/-- 707: `I.eB11 k`. -/
theorem u31_707 : kernelRun0_A.sl.v3197 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB11 (keyB arg3 harg3 x2 3 (by omega)) := by
  unfold kernelRun0_A.sl.v3197 kernelRun0_A.sl.v3196 kernelRun0_A.sl.v3194 kernelRun0_A.sl.v3188 kernelRun0_A.sl.v3186
  rw [u31_662, u31_641, u31_604]
  rfl
/-- 714: `I.eB12 k`. -/
theorem u31_714 : kernelRun0_A.sl.v3204 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB12 (keyB arg3 harg3 x2 3 (by omega)) := by
  unfold kernelRun0_A.sl.v3204 kernelRun0_A.sl.v3203 kernelRun0_A.sl.v3201 kernelRun0_A.sl.v3188 kernelRun0_A.sl.v3186
  rw [u31_662, u31_648, u31_604]
  rfl
/-- 724: `I.eB13 k`. -/
theorem u31_724 : kernelRun0_A.sl.v3214 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).eB13 (keyB arg3 harg3 x2 3 (by omega)) := by
  unfold kernelRun0_A.sl.v3214 kernelRun0_A.sl.v3213 kernelRun0_A.sl.v3211 kernelRun0_A.sl.v3188 kernelRun0_A.sl.v3186
  rw [u31_662, u31_657, u31_604]
  rfl
/-- 729: `I.xwB k`. -/
theorem u31_729 : kernelRun0_A.sl.v3219 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).xwB (keyB arg3 harg3 x2 3 (by omega)) := by
  unfold kernelRun0_A.sl.v3219 kernelRun0_A.sl.v3209 kernelRun0_A.sl.v3181 kernelRun0_A.sl.v3171 kernelRun0_A.sl.v20
  rw [u31_724, u31_714, u31_686, u31_675, v181_mask, v178_mask, v169_mask, v164_mask]
  rfl
/-- 731: `I.fB1 k`. -/
theorem u31_731 : kernelRun0_A.sl.v3221 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).fB1 (keyB arg3 harg3 x2 3 (by omega)) := by
  unfold kernelRun0_A.sl.v3221 kernelRun0_A.sl.v3220 kernelRun0_A.sl.v3218 kernelRun0_A.sl.v3217 kernelRun0_A.sl.v3208 kernelRun0_A.sl.v3207 kernelRun0_A.sl.v3199 kernelRun0_A.sl.v3192 kernelRun0_A.sl.v20
  rw [u31_724, u31_714, u31_707, u31_700, v181_mask, v175_mask]
  rfl
/-- 879: `Tile.skew (I.xwB k)`. -/
theorem u31_879 : kernelRun0_A.sl.v3369 c i arg1 harg1 arg2 harg2 arg3 harg3 arg4 harg4 arg7 harg7 arg8 harg8 arg13 x0 x1 x2 x3 x6 x7 =
    Tile.skew ((inp c i arg1 harg1 arg2 harg2 arg4 harg4 arg7 harg7 arg8 harg8 arg13 x0 x1 x3 x6 x7 3 1 (by omega) (by omega)).xwB (keyB arg3 harg3 x2 3 (by omega))) := by
  unfold kernelRun0_A.sl.v3369 kernelRun0_A.sl.v3368 kernelRun0_A.sl.v3367 kernelRun0_A.sl.v3366 kernelRun0_A.sl.v3365 kernelRun0_A.sl.v3357 kernelRun0_A.sl.v3356 kernelRun0_A.sl.v3348 kernelRun0_A.sl.v3347 kernelRun0_A.sl.v3339 kernelRun0_A.sl.v3338 kernelRun0_A.sl.v3330 kernelRun0_A.sl.v3329 kernelRun0_A.sl.v3321 kernelRun0_A.sl.v3320 kernelRun0_A.sl.v3312 kernelRun0_A.sl.v3311 kernelRun0_A.sl.v3303 kernelRun0_A.sl.v3302 kernelRun0_A.sl.v3294 kernelRun0_A.sl.v3293 kernelRun0_A.sl.v3285 kernelRun0_A.sl.v3284 kernelRun0_A.sl.v3276 kernelRun0_A.sl.v3275 kernelRun0_A.sl.v3267 kernelRun0_A.sl.v3266 kernelRun0_A.sl.v3258 kernelRun0_A.sl.v3257 kernelRun0_A.sl.v3249 kernelRun0_A.sl.v3248 kernelRun0_A.sl.v3240 kernelRun0_A.sl.v3239 kernelRun0_A.sl.v3231 kernelRun0_A.sl.v3230 kernelRun0_A.sl.v3222 kernelRun0_A.sl.v300 kernelRun0_A.sl.v298 kernelRun0_A.sl.v297 kernelRun0_A.sl.v296 kernelRun0_A.sl.v295 kernelRun0_A.sl.v294 kernelRun0_A.sl.v183 kernelRun0_A.sl.v182
  rw [u31_729]
  rfl
/-- 880: `I.wB0 k`. -/
theorem u31_880 : kernelRun0_A.sl.v3370 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).wB0 (keyB arg3 harg3 x2 3 (by omega)) := by
  unfold kernelRun0_A.sl.v3370
  rw [u31_879]
  rfl
/-- 881: `I.wB1 k`. -/
theorem u31_881 : kernelRun0_A.sl.v3371 c i arg1 harg1 arg2 harg2 arg3 harg3 arg4 harg4 arg7 harg7 arg8 harg8 arg13 x0 x1 x2 x3 x6 x7 =
    (inp c i arg1 harg1 arg2 harg2 arg4 harg4 arg7 harg7 arg8 harg8 arg13 x0 x1 x3 x6 x7 3 1 (by omega) (by omega)).wB1 (keyB arg3 harg3 x2 3 (by omega)) := by
  unfold kernelRun0_A.sl.v3371
  rw [u31_879]
  rfl
/-- 886: `Tile.inv (I.fB0 k) (I.wB0 k)`. -/
theorem u31_886 : kernelRun0_A.sl.v3376 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 3 1 (by omega) (by omega)).fB0 (keyB arg3 harg3 x2 3 (by omega))) ((inp c i arg1 harg1 arg2 harg2 arg4 harg4 arg7 harg7 arg8 harg8 arg13 x0 x1 x3 x6 x7 3 1 (by omega) (by omega)).wB0 (keyB arg3 harg3 x2 3 (by omega))) := by
  unfold kernelRun0_A.sl.v3376 kernelRun0_A.sl.v3374 kernelRun0_A.sl.v3373 kernelRun0_A.sl.v3372 kernelRun0_A.sl.v446
  rw [u31_880, u31_694]
  rfl
/-- 891: `Tile.inv (I.fB1 k) (I.wB1 k)`. -/
theorem u31_891 : kernelRun0_A.sl.v3381 c i arg1 harg1 arg2 harg2 arg3 harg3 arg4 harg4 arg7 harg7 arg8 harg8 arg13 x0 x1 x2 x3 x6 x7 =
    Tile.inv ((inp c i arg1 harg1 arg2 harg2 arg4 harg4 arg7 harg7 arg8 harg8 arg13 x0 x1 x3 x6 x7 3 1 (by omega) (by omega)).fB1 (keyB arg3 harg3 x2 3 (by omega))) ((inp c i arg1 harg1 arg2 harg2 arg4 harg4 arg7 harg7 arg8 harg8 arg13 x0 x1 x3 x6 x7 3 1 (by omega) (by omega)).wB1 (keyB arg3 harg3 x2 3 (by omega))) := by
  unfold kernelRun0_A.sl.v3381 kernelRun0_A.sl.v3379 kernelRun0_A.sl.v3378 kernelRun0_A.sl.v3377 kernelRun0_A.sl.v446
  rw [u31_881, u31_731]
  rfl
/-- 924: `I.oB VT AVT k`. -/
theorem u31_924 : kernelRun0_A.sl.v3414 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 =
    (inp c i arg1 harg1 arg2 harg2 arg4 harg4 arg7 harg7 arg8 harg8 arg13 x0 x1 x3 x6 x7 3 1 (by omega) (by omega)).oB (vtB arg5 harg5 arg6 harg6 x4 x5 3 (by omega)) (kernelRun0_A.sl.v86 c i arg9 harg9 arg10 harg10 arg14 arg15 x8 x9) (keyB arg3 harg3 x2 3 (by omega)) := by
  unfold kernelRun0_A.sl.v3414 kernelRun0_A.sl.v3413 kernelRun0_A.sl.v3412 kernelRun0_A.sl.v3411 kernelRun0_A.sl.v3410 kernelRun0_A.sl.v3409 kernelRun0_A.sl.v3408 kernelRun0_A.sl.v3407 kernelRun0_A.sl.v3406 kernelRun0_A.sl.v3405 kernelRun0_A.sl.v3404 kernelRun0_A.sl.v3403 kernelRun0_A.sl.v3402 kernelRun0_A.sl.v3401 kernelRun0_A.sl.v3400 kernelRun0_A.sl.v3399 kernelRun0_A.sl.v3398 kernelRun0_A.sl.v3397 kernelRun0_A.sl.v3396 kernelRun0_A.sl.v3395 kernelRun0_A.sl.v3393 kernelRun0_A.sl.v3392 kernelRun0_A.sl.v3388 kernelRun0_A.sl.v3386 kernelRun0_A.sl.v3385 kernelRun0_A.sl.v3215 kernelRun0_A.sl.v3205 kernelRun0_A.sl.v3198 kernelRun0_A.sl.v3191 kernelRun0_A.sl.v3177 kernelRun0_A.sl.v3166 kernelRun0_A.sl.v3159 kernelRun0_A.sl.r_53 kernelRun0_A.sl.v458 kernelRun0_A.sl.v454 kernelRun0_A.sl.v453 kernelRun0_A.sl.v267 kernelRun0_A.sl.r_52
  rw [u31_891, u31_886, u31_881, u31_880, u31_731, u31_724, u31_714, u31_707, u31_700, u31_694, u31_686, u31_675, u31_668]
  rfl
/-- 938: `Tile.wOut (I.wB0 k) (Tile.inv (I.fB0 k) (I.wB0 k))`. -/
theorem u31_938 : kernelRun0_A.sl.v3428 c i arg1 harg1 arg2 harg2 arg3 harg3 arg4 harg4 arg7 harg7 arg8 harg8 arg13 x0 x1 x2 x3 x6 x7 =
    Tile.wOut ((inp c i arg1 harg1 arg2 harg2 arg4 harg4 arg7 harg7 arg8 harg8 arg13 x0 x1 x3 x6 x7 3 1 (by omega) (by omega)).wB0 (keyB arg3 harg3 x2 3 (by omega))) (Tile.inv ((inp c i arg1 harg1 arg2 harg2 arg4 harg4 arg7 harg7 arg8 harg8 arg13 x0 x1 x3 x6 x7 3 1 (by omega) (by omega)).fB0 (keyB arg3 harg3 x2 3 (by omega))) ((inp c i arg1 harg1 arg2 harg2 arg4 harg4 arg7 harg7 arg8 harg8 arg13 x0 x1 x3 x6 x7 3 1 (by omega) (by omega)).wB0 (keyB arg3 harg3 x2 3 (by omega)))) := by
  unfold kernelRun0_A.sl.v3428 kernelRun0_A.sl.v3427
  rw [u31_886, u31_880]
  rfl
/-- 939: `mulf (I.fB0 k) (Tile.inv (I.fB0 k) (I.wB0 k))`. -/
theorem u31_939 : kernelRun0_A.sl.v3429 c i arg1 harg1 arg2 harg2 arg3 harg3 arg4 harg4 arg7 harg7 arg8 harg8 arg13 x0 x1 x2 x3 x6 x7 =
    mulf ((inp c i arg1 harg1 arg2 harg2 arg4 harg4 arg7 harg7 arg8 harg8 arg13 x0 x1 x3 x6 x7 3 1 (by omega) (by omega)).fB0 (keyB arg3 harg3 x2 3 (by omega))) (Tile.inv ((inp c i arg1 harg1 arg2 harg2 arg4 harg4 arg7 harg7 arg8 harg8 arg13 x0 x1 x3 x6 x7 3 1 (by omega) (by omega)).fB0 (keyB arg3 harg3 x2 3 (by omega))) ((inp c i arg1 harg1 arg2 harg2 arg4 harg4 arg7 harg7 arg8 harg8 arg13 x0 x1 x3 x6 x7 3 1 (by omega) (by omega)).wB0 (keyB arg3 harg3 x2 3 (by omega)))) := by
  unfold kernelRun0_A.sl.v3429
  rw [u31_886, u31_694]
/-- 978: `Tile.rot64W (Tile.wOut (I.wB1 k) (Tile.inv (I.fB1 k) (I.wB1 k)))`. -/
theorem u31_978 : kernelRun0_A.sl.v3468 c i arg1 harg1 arg2 harg2 arg3 harg3 arg4 harg4 arg7 harg7 arg8 harg8 arg13 x0 x1 x2 x3 x6 x7 =
    Tile.rot64W (Tile.wOut ((inp c i arg1 harg1 arg2 harg2 arg4 harg4 arg7 harg7 arg8 harg8 arg13 x0 x1 x3 x6 x7 3 1 (by omega) (by omega)).wB1 (keyB arg3 harg3 x2 3 (by omega))) (Tile.inv ((inp c i arg1 harg1 arg2 harg2 arg4 harg4 arg7 harg7 arg8 harg8 arg13 x0 x1 x3 x6 x7 3 1 (by omega) (by omega)).fB1 (keyB arg3 harg3 x2 3 (by omega))) ((inp c i arg1 harg1 arg2 harg2 arg4 harg4 arg7 harg7 arg8 harg8 arg13 x0 x1 x3 x6 x7 3 1 (by omega) (by omega)).wB1 (keyB arg3 harg3 x2 3 (by omega))))) := by
  unfold kernelRun0_A.sl.v3468 kernelRun0_A.sl.v3466 kernelRun0_A.sl.v3465
  rw [u31_891, u31_881]
  rfl
/-- 979: `Tile.rot64 (mulf (I.fB1 k) (Tile.inv (I.fB1 k) (I.wB1 k)))`. -/
theorem u31_979 : kernelRun0_A.sl.v3469 c i arg1 harg1 arg2 harg2 arg3 harg3 arg4 harg4 arg7 harg7 arg8 harg8 arg13 x0 x1 x2 x3 x6 x7 =
    Tile.rot64 (mulf ((inp c i arg1 harg1 arg2 harg2 arg4 harg4 arg7 harg7 arg8 harg8 arg13 x0 x1 x3 x6 x7 3 1 (by omega) (by omega)).fB1 (keyB arg3 harg3 x2 3 (by omega))) (Tile.inv ((inp c i arg1 harg1 arg2 harg2 arg4 harg4 arg7 harg7 arg8 harg8 arg13 x0 x1 x3 x6 x7 3 1 (by omega) (by omega)).fB1 (keyB arg3 harg3 x2 3 (by omega))) ((inp c i arg1 harg1 arg2 harg2 arg4 harg4 arg7 harg7 arg8 harg8 arg13 x0 x1 x3 x6 x7 3 1 (by omega) (by omega)).wB1 (keyB arg3 harg3 x2 3 (by omega))))) := by
  unfold kernelRun0_A.sl.v3469 kernelRun0_A.sl.v3467
  rw [u31_891, u31_731]
  rfl

end Cert.KernelIdeal.Body
-- ==== Proof.KernelIdeal.Facts3.lean ====
/- What the units of batch 3 hold: the specification's values of their rows. -/
module

public import proofs.«01_k».proof.Proof.KernelIdeal.Unit30
public import proofs.«01_k».proof.Proof.KernelIdeal.Unit31
public import proofs.«01_k».proof.Proof.KernelIdeal.Prep
public import proofs.«01_k».proof.Proof.KernelIdeal.Store
import all proofs.«01_k».proof.Proof.KernelIdeal.Run

@[expose] public section

set_option maxRecDepth 16384

noncomputable section

namespace Cert.KernelIdeal.Body

open Cert.KernelIdeal.Gen Cert.Spec Cert.KernelIdeal.Tile Cert.KernelIdeal.Store
open Idealize.ShloMosaic Idealize.ShloMosaic.TcCoe Idealize.ShloMosaic.Tactic Idealize.SL.Sem

local notation "ℝI" => Idealize.ShloMosaic.Ideal

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg11 : Memref sig .tc .vmem S4x512x128 .bf16) (harg11 : arg11.IsWhole)
variable (arg12 : Memref sig .tc .vmem S1x1040x128 .f32) (harg12 : arg12.IsWhole)
variable (arg13 : Memref sig .tc .vmem S512x512 .f32)
variable (arg14 : Memref sig .tc .vmem S80x128 .f32)
variable (arg15 : Memref sig .tc .vmem S8x128 .f32)
variable (x0 : Vec ℝI S4x1x512x128 .fp8e4m3)
variable (x1 : Vec ℝI S1x4x512 .f32)
variable (x2 : Vec ℝI S4x1x512x128 .fp8e4m3)
variable (x3 : Vec ℝI S1x4x512 .f32)
variable (x4 : Vec ℝI S4x1x512x128 .fp8e4m3)
variable (x5 : Vec ℝI S1x4x512 .f32)
variable (x6 : Vec ℝI S1x65x128 .i8)
variable (x7 : Vec ℝI S20x65 .f32)
variable (x8 : Vec ℝI S1x65x128 .i8)
variable (x9 : Vec ℝI S20x65 .f32)

variable {H : Hd} {h : Fin 20} (hs : Src H 3 h x0 x1 x2 x3 x4 x5 x6 x7 x8 x9) (hi : k0_off1 i = ![(h : ℕ), 0])

include hs hi in
/-- Block 0: the first result. -/
theorem o30 (l d : Fin 128) : kernelRun0_A.sl.v2976 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 0 + l) d := by
  rw [u30_486]
  exact oA0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 0: the near weights. -/
theorem w30 (r : Fin 64) (l : Fin 128) : kernelRun0_A.sl.v2990 (F := ℝI) c i arg1 harg1 arg2 harg2 arg3 harg3 arg4 harg4 arg7 harg7 arg8 harg8 arg13 x0 x1 x2 x3 x6 x7 (ix2 r l) = H.WOUT (128 * 0 + l) r := by
  rw [u30_500]
  exact wOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 0: the far weight. -/
theorem f30 (l : Fin 128) : kernelRun0_A.sl.v2991 (F := ℝI) c i arg1 harg1 arg2 harg2 arg3 harg3 arg4 harg4 arg7 harg7 arg8 harg8 arg13 x0 x1 x2 x3 x6 x7 (ix2 0 l) = H.WOUT (128 * 0 + l) 64 := by
  rw [u30_501]
  exact fOutA0_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 1: the first result. -/
theorem o31 (l d : Fin 128) : kernelRun0_A.sl.v2976 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 1 + Lb l) d := by
  rw [u30_486]
  exact oA1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l d
include hs hi in
/-- Block 1: the near weights. -/
theorem w31 (r : Fin 64) (l : Fin 128) : kernelRun0_A.sl.v3030 (F := ℝI) c i arg1 harg1 arg2 harg2 arg3 harg3 arg4 harg4 arg7 harg7 arg8 harg8 arg13 x0 x1 x2 x3 x6 x7 (ix2 r l) = H.WOUT (128 * 1 + l) r := by
  rw [u30_540]
  exact wOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) r l
include hs hi in
/-- Block 1: the far weight. -/
theorem f31 (l : Fin 128) : kernelRun0_A.sl.v3031 (F := ℝI) c i arg1 harg1 arg2 harg2 arg3 harg3 arg4 harg4 arg7 harg7 arg8 harg8 arg13 x0 x1 x2 x3 x6 x7 (ix2 0 l) = H.WOUT (128 * 1 + l) 64 := by
  rw [u30_541]
  exact fOutA1_eq (good c i arg1 harg1 arg2 harg2 arg4 harg4 arg7 harg7 arg8 harg8 arg13 x0 x1 x2 x3 x4 x5 x6 x7 x8 x9 hs hi 0 (by omega)) (keyA_apply arg3 harg3 x0 x1 x2 x3 x4 x5 x6 x7 x8 x9 hs) (C_pos' x0 x1 x2 x3 x4 x5 x6 x7 x8 x9 hs) l

include hs hi in
/-- Block 2: the first result. -/
theorem o32 (l d : Fin 128) : kernelRun0_A.sl.v3414 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨l, by omega⟩ d) = H.OUT (128 * 2 + l) d := by
  rw [u31_924]
  exact oB0_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 2: the near weights. -/
theorem w32 (r : Fin 64) (l : Fin 128) : kernelRun0_A.sl.v3428 (F := ℝI) c i arg1 harg1 arg2 harg2 arg3 harg3 arg4 harg4 arg7 harg7 arg8 harg8 arg13 x0 x1 x2 x3 x6 x7 (ix2 r l) = H.WOUT (128 * 2 + l) r := by
  rw [u31_938]
  exact wOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 2: the far weight. -/
theorem f32 (l : Fin 128) : kernelRun0_A.sl.v3429 (F := ℝI) c i arg1 harg1 arg2 harg2 arg3 harg3 arg4 harg4 arg7 harg7 arg8 harg8 arg13 x0 x1 x2 x3 x6 x7 (ix2 0 l) = H.WOUT (128 * 2 + l) 64 := by
  rw [u31_939]
  exact fOutB0_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

include hs hi in
/-- Block 3: the first result. -/
theorem o33 (l d : Fin 128) : kernelRun0_A.sl.v3414 (F := ℝI) c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (ix2 ⟨128 + l, by omega⟩ d) = H.OUT (128 * 3 + Lb l) d := by
  rw [u31_924]
  exact oB1_eq (goodV c i arg5 harg5 arg6 harg6 arg9 harg9 arg10 harg10 arg14 arg15 x0 x1 x2 x3 x4 x5 x6 x7 x8 x9 hs hi) (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l d
include hs hi in
/-- Block 3: the near weights. -/
theorem w33 (r : Fin 64) (l : Fin 128) : kernelRun0_A.sl.v3468 (F := ℝI) c i arg1 harg1 arg2 harg2 arg3 harg3 arg4 harg4 arg7 harg7 arg8 harg8 arg13 x0 x1 x2 x3 x6 x7 (ix2 r l) = H.WOUT (128 * 3 + l) r := by
  rw [u31_978]
  exact wOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) r l
include hs hi in
/-- Block 3: the far weight. -/
theorem f33 (l : Fin 128) : kernelRun0_A.sl.v3469 (F := ℝI) c i arg1 harg1 arg2 harg2 arg3 harg3 arg4 harg4 arg7 harg7 arg8 harg8 arg13 x0 x1 x2 x3 x6 x7 (ix2 0 l) = H.WOUT (128 * 3 + l) 64 := by
  rw [u31_979]
  exact fOutB1_eq (good c i arg1 harg1 arg2 harg2 arg4 harg4 arg7 harg7 arg8 harg8 arg13 x0 x1 x2 x3 x4 x5 x6 x7 x8 x9 hs hi 1 (by omega)) (keyB_apply arg3 harg3 x0 x1 x2 x3 x4 x5 x6 x7 x8 x9 hs) (C_pos' x0 x1 x2 x3 x4 x5 x6 x7 x8 x9 hs) l

end Cert.KernelIdeal.Body
-- ==== Proof.KernelIdeal.Stores.lean ====
/- What the body leaves in its two output blocks: the specification's values, row by row. -/
module

public import proofs.«01_k».proof.Proof.KernelIdeal.Frame
public import proofs.«01_k».proof.Proof.KernelIdeal.Facts0
public import proofs.«01_k».proof.Proof.KernelIdeal.Facts1
public import proofs.«01_k».proof.Proof.KernelIdeal.Facts2
public import proofs.«01_k».proof.Proof.KernelIdeal.Facts3
import all proofs.«01_k».proof.Proof.KernelIdeal.Run

@[expose] public section

set_option maxRecDepth 16384

noncomputable section

namespace Cert.KernelIdeal.Body

open Cert.KernelIdeal.Gen Cert.Spec Cert.KernelIdeal.Tile Cert.KernelIdeal.Store
open Idealize.ShloMosaic Idealize.ShloMosaic.TcCoe Idealize.ShloMosaic.Tactic Idealize.SL.Sem

local notation "ℝI" => Idealize.ShloMosaic.Ideal

variable (c : Dev nD) (i : grid0.Coords)
variable (arg1 : Memref sig .tc .vmem S4x1x512x128 .fp8e4m3) (harg1 : arg1.IsWhole)
variable (arg2 : Memref sig .tc .vmem S1x4x512 .f32) (harg2 : arg2.IsWhole)
variable (arg3 : Memref sig .tc .vmem S4x1x512x128 .fp8e4m3) (harg3 : arg3.IsWhole)
variable (arg4 : Memref sig .tc .vmem S1x4x512 .f32) (harg4 : arg4.IsWhole)
variable (arg5 : Memref sig .tc .vmem S4x1x512x128 .fp8e4m3) (harg5 : arg5.IsWhole)
variable (arg6 : Memref sig .tc .vmem S1x4x512 .f32) (harg6 : arg6.IsWhole)
variable (arg7 : Memref sig .tc .vmem S1x65x128 .i8) (harg7 : arg7.IsWhole)
variable (arg8 : Memref sig .tc .vmem S20x65 .f32) (harg8 : arg8.IsWhole)
variable (arg9 : Memref sig .tc .vmem S1x65x128 .i8) (harg9 : arg9.IsWhole)
variable (arg10 : Memref sig .tc .vmem S20x65 .f32) (harg10 : arg10.IsWhole)
variable (arg11 : Memref sig .tc .vmem S4x512x128 .bf16) (harg11 : arg11.IsWhole)
variable (arg12 : Memref sig .tc .vmem S1x1040x128 .f32) (harg12 : arg12.IsWhole)
variable (arg13 : Memref sig .tc .vmem S512x512 .f32) (harg13 : arg13.IsWhole)
variable (arg14 : Memref sig .tc .vmem S80x128 .f32) (harg14 : arg14.IsWhole)
variable (arg15 : Memref sig .tc .vmem S8x128 .f32) (harg15 : arg15.IsWhole)
variable (x0 : Vec ℝI S4x1x512x128 .fp8e4m3)
variable (x1 : Vec ℝI S1x4x512 .f32)
variable (x2 : Vec ℝI S4x1x512x128 .fp8e4m3)
variable (x3 : Vec ℝI S1x4x512 .f32)
variable (x4 : Vec ℝI S4x1x512x128 .fp8e4m3)
variable (x5 : Vec ℝI S1x4x512 .f32)
variable (x6 : Vec ℝI S1x65x128 .i8)
variable (x7 : Vec ℝI S20x65 .f32)
variable (x8 : Vec ℝI S1x65x128 .i8)
variable (x9 : Vec ℝI S20x65 .f32)

/-- A property of every member of a list, member by member. -/
theorem fc {α : Type*} {P : α → Prop} {a : α} {L : List α} (h : P a) (t : ∀ p ∈ L, P p) : ∀ p ∈ a :: L, P p := by
  intro p hp
  rcases List.mem_cons.1 hp with rfl | hp
  · exact h
  · exact t p hp
theorem fn {α : Type*} {P : α → Prop} : ∀ p ∈ ([] : List α), P p := fun p hp => absurd hp List.not_mem_nil

variable {hd : Fin 4 → Hd} {h : Fin 20} (hs : ∀ b, Src (hd b) b h x0 x1 x2 x3 x4 x5 x6 x7 x8 x9) (hi : k0_off1 i = ![(h : ℕ), 0])

include hs hi in
/-- The first output block. -/
theorem out10_eq (y : S4x512x128.Idx) : out0_A_10 (F := ℝI) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = G10 hd y := by
  unfold out0_A_10
  rw [View.read_writes_eq_canon _ _ _ (cover0_A_10 (F := ℝI) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  refine View.canon_apply_of_pieces (G10 hd) _ ?_ y (cover0_A_10 (F := ℝI) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y)
  have h00 := o00 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 0) hi
  have h01 := o01 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 0) hi
  have h02 := o02 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 0) hi
  have h03 := o03 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 0) hi
  have h10 := o10 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 1) hi
  have h11 := o11 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 1) hi
  have h12 := o12 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 1) hi
  have h13 := o13 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 1) hi
  have h20 := o20 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 2) hi
  have h21 := o21 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 2) hi
  have h22 := o22 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 2) hi
  have h23 := o23 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 2) hi
  have h30 := o30 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 3) hi
  have h31 := o31 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 3) hi
  have h32 := o32 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 3) hi
  have h33 := o33 c i arg1 harg1 arg2 harg2 arg3 harg3 arg4 harg4 arg5 harg5 arg6 harg6 arg7 harg7 arg8 harg8 arg9 harg9 arg10 harg10 arg13 arg14 arg15 x0 x1 x2 x3 x4 x5 x6 x7 x8 x9 (hs 3) hi
  exact fc (out_hi hd h33 rfl (by decide)) <|
    fc (out_mid hd h33 (by decide)) <|
    fc (out_lo hd h32 (by decide)) <|
    fc (out_hi hd h31 rfl (by decide)) <|
    fc (out_mid hd h31 (by decide)) <|
    fc (out_lo hd h30 (by decide)) <|
    fc (out_hi hd h23 rfl (by decide)) <|
    fc (out_mid hd h23 (by decide)) <|
    fc (out_lo hd h22 (by decide)) <|
    fc (out_hi hd h21 rfl (by decide)) <|
    fc (out_mid hd h21 (by decide)) <|
    fc (out_lo hd h20 (by decide)) <|
    fc (out_hi hd h13 rfl (by decide)) <|
    fc (out_mid hd h13 (by decide)) <|
    fc (out_lo hd h12 (by decide)) <|
    fc (out_hi hd h11 rfl (by decide)) <|
    fc (out_mid hd h11 (by decide)) <|
    fc (out_lo hd h10 (by decide)) <|
    fc (out_hi hd h03 rfl (by decide)) <|
    fc (out_mid hd h03 (by decide)) <|
    fc (out_lo hd h02 (by decide)) <|
    fc (out_hi hd h01 rfl (by decide)) <|
    fc (out_mid hd h01 (by decide)) <|
    fc (out_lo hd h00 (by decide)) <| fn

include hs hi in
/-- The second output block. -/
theorem out11_eq (y : S1x1040x128.Idx) : out0_A_11 (F := ℝI) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = G11 hd y := by
  unfold out0_A_11
  rw [View.read_writes_eq_canon _ _ _ (cover0_A_11 (F := ℝI) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  refine View.canon_apply_of_pieces (G11 hd) _ ?_ y (cover0_A_11 (F := ℝI) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y)
  have w00 := w00 c i arg1 harg1 arg2 harg2 arg3 harg3 arg4 harg4 arg7 harg7 arg8 harg8 arg13 x0 x1 x2 x3 x4 x5 x6 x7 x8 x9 (hs 0) hi
  have f00 := f00 c i arg1 harg1 arg2 harg2 arg3 harg3 arg4 harg4 arg7 harg7 arg8 harg8 arg13 x0 x1 x2 x3 x4 x5 x6 x7 x8 x9 (hs 0) hi
  have w01 := w01 c i arg1 harg1 arg2 harg2 arg3 harg3 arg4 harg4 arg7 harg7 arg8 harg8 arg13 x0 x1 x2 x3 x4 x5 x6 x7 x8 x9 (hs 0) hi
  have f01 := f01 c i arg1 harg1 arg2 harg2 arg3 harg3 arg4 harg4 arg7 harg7 arg8 harg8 arg13 x0 x1 x2 x3 x4 x5 x6 x7 x8 x9 (hs 0) hi
  have w02 := w02 c i arg1 harg1 arg2 harg2 arg3 harg3 arg4 harg4 arg7 harg7 arg8 harg8 arg13 x0 x1 x2 x3 x4 x5 x6 x7 x8 x9 (hs 0) hi
  have f02 := f02 c i arg1 harg1 arg2 harg2 arg3 harg3 arg4 harg4 arg7 harg7 arg8 harg8 arg13 x0 x1 x2 x3 x4 x5 x6 x7 x8 x9 (hs 0) hi
  have w03 := w03 c i arg1 harg1 arg2 harg2 arg3 harg3 arg4 harg4 arg7 harg7 arg8 harg8 arg13 x0 x1 x2 x3 x4 x5 x6 x7 x8 x9 (hs 0) hi
  have f03 := f03 c i arg1 harg1 arg2 harg2 arg3 harg3 arg4 harg4 arg7 harg7 arg8 harg8 arg13 x0 x1 x2 x3 x4 x5 x6 x7 x8 x9 (hs 0) hi
  have w10 := w10 c i arg1 harg1 arg2 harg2 arg3 harg3 arg4 harg4 arg7 harg7 arg8 harg8 arg13 x0 x1 x2 x3 x4 x5 x6 x7 x8 x9 (hs 1) hi
  have f10 := f10 c i arg1 harg1 arg2 harg2 arg3 harg3 arg4 harg4 arg7 harg7 arg8 harg8 arg13 x0 x1 x2 x3 x4 x5 x6 x7 x8 x9 (hs 1) hi
  have w11 := w11 c i arg1 harg1 arg2 harg2 arg3 harg3 arg4 harg4 arg7 harg7 arg8 harg8 arg13 x0 x1 x2 x3 x4 x5 x6 x7 x8 x9 (hs 1) hi
  have f11 := f11 c i arg1 harg1 arg2 harg2 arg3 harg3 arg4 harg4 arg7 harg7 arg8 harg8 arg13 x0 x1 x2 x3 x4 x5 x6 x7 x8 x9 (hs 1) hi
  have w12 := w12 c i arg1 harg1 arg2 harg2 arg3 harg3 arg4 harg4 arg7 harg7 arg8 harg8 arg13 x0 x1 x2 x3 x4 x5 x6 x7 x8 x9 (hs 1) hi
  have f12 := f12 c i arg1 harg1 arg2 harg2 arg3 harg3 arg4 harg4 arg7 harg7 arg8 harg8 arg13 x0 x1 x2 x3 x4 x5 x6 x7 x8 x9 (hs 1) hi
  have w13 := w13 c i arg1 harg1 arg2 harg2 arg3 harg3 arg4 harg4 arg7 harg7 arg8 harg8 arg13 x0 x1 x2 x3 x4 x5 x6 x7 x8 x9 (hs 1) hi
  have f13 := f13 c i arg1 harg1 arg2 harg2 arg3 harg3 arg4 harg4 arg7 harg7 arg8 harg8 arg13 x0 x1 x2 x3 x4 x5 x6 x7 x8 x9 (hs 1) hi
  have w20 := w20 c i arg1 harg1 arg2 harg2 arg3 harg3 arg4 harg4 arg7 harg7 arg8 harg8 arg13 x0 x1 x2 x3 x4 x5 x6 x7 x8 x9 (hs 2) hi
  have f20 := f20 c i arg1 harg1 arg2 harg2 arg3 harg3 arg4 harg4 arg7 harg7 arg8 harg8 arg13 x0 x1 x2 x3 x4 x5 x6 x7 x8 x9 (hs 2) hi
  have w21 := w21 c i arg1 harg1 arg2 harg2 arg3 harg3 arg4 harg4 arg7 harg7 arg8 harg8 arg13 x0 x1 x2 x3 x4 x5 x6 x7 x8 x9 (hs 2) hi
  have f21 := f21 c i arg1 harg1 arg2 harg2 arg3 harg3 arg4 harg4 arg7 harg7 arg8 harg8 arg13 x0 x1 x2 x3 x4 x5 x6 x7 x8 x9 (hs 2) hi
  have w22 := w22 c i arg1 harg1 arg2 harg2 arg3 harg3 arg4 harg4 arg7 harg7 arg8 harg8 arg13 x0 x1 x2 x3 x4 x5 x6 x7 x8 x9 (hs 2) hi
  have f22 := f22 c i arg1 harg1 arg2 harg2 arg3 harg3 arg4 harg4 arg7 harg7 arg8 harg8 arg13 x0 x1 x2 x3 x4 x5 x6 x7 x8 x9 (hs 2) hi
  have w23 := w23 c i arg1 harg1 arg2 harg2 arg3 harg3 arg4 harg4 arg7 harg7 arg8 harg8 arg13 x0 x1 x2 x3 x4 x5 x6 x7 x8 x9 (hs 2) hi
  have f23 := f23 c i arg1 harg1 arg2 harg2 arg3 harg3 arg4 harg4 arg7 harg7 arg8 harg8 arg13 x0 x1 x2 x3 x4 x5 x6 x7 x8 x9 (hs 2) hi
  have w30 := w30 c i arg1 harg1 arg2 harg2 arg3 harg3 arg4 harg4 arg7 harg7 arg8 harg8 arg13 x0 x1 x2 x3 x4 x5 x6 x7 x8 x9 (hs 3) hi
  have f30 := f30 c i arg1 harg1 arg2 harg2 arg3 harg3 arg4 harg4 arg7 harg7 arg8 harg8 arg13 x0 x1 x2 x3 x4 x5 x6 x7 x8 x9 (hs 3) hi
  have w31 := w31 c i arg1 harg1 arg2 harg2 arg3 harg3 arg4 harg4 arg7 harg7 arg8 harg8 arg13 x0 x1 x2 x3 x4 x5 x6 x7 x8 x9 (hs 3) hi
  have f31 := f31 c i arg1 harg1 arg2 harg2 arg3 harg3 arg4 harg4 arg7 harg7 arg8 harg8 arg13 x0 x1 x2 x3 x4 x5 x6 x7 x8 x9 (hs 3) hi
  have w32 := w32 c i arg1 harg1 arg2 harg2 arg3 harg3 arg4 harg4 arg7 harg7 arg8 harg8 arg13 x0 x1 x2 x3 x4 x5 x6 x7 x8 x9 (hs 3) hi
  have f32 := f32 c i arg1 harg1 arg2 harg2 arg3 harg3 arg4 harg4 arg7 harg7 arg8 harg8 arg13 x0 x1 x2 x3 x4 x5 x6 x7 x8 x9 (hs 3) hi
  have w33 := w33 c i arg1 harg1 arg2 harg2 arg3 harg3 arg4 harg4 arg7 harg7 arg8 harg8 arg13 x0 x1 x2 x3 x4 x5 x6 x7 x8 x9 (hs 3) hi
  have f33 := f33 c i arg1 harg1 arg2 harg2 arg3 harg3 arg4 harg4 arg7 harg7 arg8 harg8 arg13 x0 x1 x2 x3 x4 x5 x6 x7 x8 x9 (hs 3) hi
  exact fc (far hd f33 (by decide) rfl (by decide)) <|
    fc (near hd w33 (by decide) (by decide) rfl slices_S64x128_o56_0_S8x128 (by decide) (by decide)) <|
    fc (near hd w33 (by decide) (by decide) rfl slices_S64x128_o48_0_S8x128 (by decide) (by decide)) <|
    fc (near hd w33 (by decide) (by decide) rfl slices_S64x128_o40_0_S8x128 (by decide) (by decide)) <|
    fc (near hd w33 (by decide) (by decide) rfl slices_S64x128_o32_0_S8x128 (by decide) (by decide)) <|
    fc (near hd w33 (by decide) (by decide) rfl slices_S64x128_o24_0_S8x128 (by decide) (by decide)) <|
    fc (near hd w33 (by decide) (by decide) rfl slices_S64x128_o16_0_S8x128 (by decide) (by decide)) <|
    fc (near hd w33 (by decide) (by decide) rfl slices_S64x128_o8_0_S8x128 (by decide) (by decide)) <|
    fc (near hd w33 (by decide) (by decide) rfl slices_S64x128_o0_0_S8x128 (by decide) (by decide)) <|
    fc (far hd f32 (by decide) rfl (by decide)) <|
    fc (near hd w32 (by decide) (by decide) rfl slices_S64x128_o56_0_S8x128 (by decide) (by decide)) <|
    fc (near hd w32 (by decide) (by decide) rfl slices_S64x128_o48_0_S8x128 (by decide) (by decide)) <|
    fc (near hd w32 (by decide) (by decide) rfl slices_S64x128_o40_0_S8x128 (by decide) (by decide)) <|
    fc (near hd w32 (by decide) (by decide) rfl slices_S64x128_o32_0_S8x128 (by decide) (by decide)) <|
    fc (near hd w32 (by decide) (by decide) rfl slices_S64x128_o24_0_S8x128 (by decide) (by decide)) <|
    fc (near hd w32 (by decide) (by decide) rfl slices_S64x128_o16_0_S8x128 (by decide) (by decide)) <|
    fc (near hd w32 (by decide) (by decide) rfl slices_S64x128_o8_0_S8x128 (by decide) (by decide)) <|
    fc (near hd w32 (by decide) (by decide) rfl slices_S64x128_o0_0_S8x128 (by decide) (by decide)) <|
    fc (far hd f31 (by decide) rfl (by decide)) <|
    fc (near hd w31 (by decide) (by decide) rfl slices_S64x128_o56_0_S8x128 (by decide) (by decide)) <|
    fc (near hd w31 (by decide) (by decide) rfl slices_S64x128_o48_0_S8x128 (by decide) (by decide)) <|
    fc (near hd w31 (by decide) (by decide) rfl slices_S64x128_o40_0_S8x128 (by decide) (by decide)) <|
    fc (near hd w31 (by decide) (by decide) rfl slices_S64x128_o32_0_S8x128 (by decide) (by decide)) <|
    fc (near hd w31 (by decide) (by decide) rfl slices_S64x128_o24_0_S8x128 (by decide) (by decide)) <|
    fc (near hd w31 (by decide) (by decide) rfl slices_S64x128_o16_0_S8x128 (by decide) (by decide)) <|
    fc (near hd w31 (by decide) (by decide) rfl slices_S64x128_o8_0_S8x128 (by decide) (by decide)) <|
    fc (near hd w31 (by decide) (by decide) rfl slices_S64x128_o0_0_S8x128 (by decide) (by decide)) <|
    fc (far hd f30 (by decide) rfl (by decide)) <|
    fc (near hd w30 (by decide) (by decide) rfl slices_S64x128_o56_0_S8x128 (by decide) (by decide)) <|
    fc (near hd w30 (by decide) (by decide) rfl slices_S64x128_o48_0_S8x128 (by decide) (by decide)) <|
    fc (near hd w30 (by decide) (by decide) rfl slices_S64x128_o40_0_S8x128 (by decide) (by decide)) <|
    fc (near hd w30 (by decide) (by decide) rfl slices_S64x128_o32_0_S8x128 (by decide) (by decide)) <|
    fc (near hd w30 (by decide) (by decide) rfl slices_S64x128_o24_0_S8x128 (by decide) (by decide)) <|
    fc (near hd w30 (by decide) (by decide) rfl slices_S64x128_o16_0_S8x128 (by decide) (by decide)) <|
    fc (near hd w30 (by decide) (by decide) rfl slices_S64x128_o8_0_S8x128 (by decide) (by decide)) <|
    fc (near hd w30 (by decide) (by decide) rfl slices_S64x128_o0_0_S8x128 (by decide) (by decide)) <|
    fc (far hd f23 (by decide) rfl (by decide)) <|
    fc (near hd w23 (by decide) (by decide) rfl slices_S64x128_o56_0_S8x128 (by decide) (by decide)) <|
    fc (near hd w23 (by decide) (by decide) rfl slices_S64x128_o48_0_S8x128 (by decide) (by decide)) <|
    fc (near hd w23 (by decide) (by decide) rfl slices_S64x128_o40_0_S8x128 (by decide) (by decide)) <|
    fc (near hd w23 (by decide) (by decide) rfl slices_S64x128_o32_0_S8x128 (by decide) (by decide)) <|
    fc (near hd w23 (by decide) (by decide) rfl slices_S64x128_o24_0_S8x128 (by decide) (by decide)) <|
    fc (near hd w23 (by decide) (by decide) rfl slices_S64x128_o16_0_S8x128 (by decide) (by decide)) <|
    fc (near hd w23 (by decide) (by decide) rfl slices_S64x128_o8_0_S8x128 (by decide) (by decide)) <|
    fc (near hd w23 (by decide) (by decide) rfl slices_S64x128_o0_0_S8x128 (by decide) (by decide)) <|
    fc (far hd f22 (by decide) rfl (by decide)) <|
    fc (near hd w22 (by decide) (by decide) rfl slices_S64x128_o56_0_S8x128 (by decide) (by decide)) <|
    fc (near hd w22 (by decide) (by decide) rfl slices_S64x128_o48_0_S8x128 (by decide) (by decide)) <|
    fc (near hd w22 (by decide) (by decide) rfl slices_S64x128_o40_0_S8x128 (by decide) (by decide)) <|
    fc (near hd w22 (by decide) (by decide) rfl slices_S64x128_o32_0_S8x128 (by decide) (by decide)) <|
    fc (near hd w22 (by decide) (by decide) rfl slices_S64x128_o24_0_S8x128 (by decide) (by decide)) <|
    fc (near hd w22 (by decide) (by decide) rfl slices_S64x128_o16_0_S8x128 (by decide) (by decide)) <|
    fc (near hd w22 (by decide) (by decide) rfl slices_S64x128_o8_0_S8x128 (by decide) (by decide)) <|
    fc (near hd w22 (by decide) (by decide) rfl slices_S64x128_o0_0_S8x128 (by decide) (by decide)) <|
    fc (far hd f21 (by decide) rfl (by decide)) <|
    fc (near hd w21 (by decide) (by decide) rfl slices_S64x128_o56_0_S8x128 (by decide) (by decide)) <|
    fc (near hd w21 (by decide) (by decide) rfl slices_S64x128_o48_0_S8x128 (by decide) (by decide)) <|
    fc (near hd w21 (by decide) (by decide) rfl slices_S64x128_o40_0_S8x128 (by decide) (by decide)) <|
    fc (near hd w21 (by decide) (by decide) rfl slices_S64x128_o32_0_S8x128 (by decide) (by decide)) <|
    fc (near hd w21 (by decide) (by decide) rfl slices_S64x128_o24_0_S8x128 (by decide) (by decide)) <|
    fc (near hd w21 (by decide) (by decide) rfl slices_S64x128_o16_0_S8x128 (by decide) (by decide)) <|
    fc (near hd w21 (by decide) (by decide) rfl slices_S64x128_o8_0_S8x128 (by decide) (by decide)) <|
    fc (near hd w21 (by decide) (by decide) rfl slices_S64x128_o0_0_S8x128 (by decide) (by decide)) <|
    fc (far hd f20 (by decide) rfl (by decide)) <|
    fc (near hd w20 (by decide) (by decide) rfl slices_S64x128_o56_0_S8x128 (by decide) (by decide)) <|
    fc (near hd w20 (by decide) (by decide) rfl slices_S64x128_o48_0_S8x128 (by decide) (by decide)) <|
    fc (near hd w20 (by decide) (by decide) rfl slices_S64x128_o40_0_S8x128 (by decide) (by decide)) <|
    fc (near hd w20 (by decide) (by decide) rfl slices_S64x128_o32_0_S8x128 (by decide) (by decide)) <|
    fc (near hd w20 (by decide) (by decide) rfl slices_S64x128_o24_0_S8x128 (by decide) (by decide)) <|
    fc (near hd w20 (by decide) (by decide) rfl slices_S64x128_o16_0_S8x128 (by decide) (by decide)) <|
    fc (near hd w20 (by decide) (by decide) rfl slices_S64x128_o8_0_S8x128 (by decide) (by decide)) <|
    fc (near hd w20 (by decide) (by decide) rfl slices_S64x128_o0_0_S8x128 (by decide) (by decide)) <|
    fc (far hd f13 (by decide) rfl (by decide)) <|
    fc (near hd w13 (by decide) (by decide) rfl slices_S64x128_o56_0_S8x128 (by decide) (by decide)) <|
    fc (near hd w13 (by decide) (by decide) rfl slices_S64x128_o48_0_S8x128 (by decide) (by decide)) <|
    fc (near hd w13 (by decide) (by decide) rfl slices_S64x128_o40_0_S8x128 (by decide) (by decide)) <|
    fc (near hd w13 (by decide) (by decide) rfl slices_S64x128_o32_0_S8x128 (by decide) (by decide)) <|
    fc (near hd w13 (by decide) (by decide) rfl slices_S64x128_o24_0_S8x128 (by decide) (by decide)) <|
    fc (near hd w13 (by decide) (by decide) rfl slices_S64x128_o16_0_S8x128 (by decide) (by decide)) <|
    fc (near hd w13 (by decide) (by decide) rfl slices_S64x128_o8_0_S8x128 (by decide) (by decide)) <|
    fc (near hd w13 (by decide) (by decide) rfl slices_S64x128_o0_0_S8x128 (by decide) (by decide)) <|
    fc (far hd f12 (by decide) rfl (by decide)) <|
    fc (near hd w12 (by decide) (by decide) rfl slices_S64x128_o56_0_S8x128 (by decide) (by decide)) <|
    fc (near hd w12 (by decide) (by decide) rfl slices_S64x128_o48_0_S8x128 (by decide) (by decide)) <|
    fc (near hd w12 (by decide) (by decide) rfl slices_S64x128_o40_0_S8x128 (by decide) (by decide)) <|
    fc (near hd w12 (by decide) (by decide) rfl slices_S64x128_o32_0_S8x128 (by decide) (by decide)) <|
    fc (near hd w12 (by decide) (by decide) rfl slices_S64x128_o24_0_S8x128 (by decide) (by decide)) <|
    fc (near hd w12 (by decide) (by decide) rfl slices_S64x128_o16_0_S8x128 (by decide) (by decide)) <|
    fc (near hd w12 (by decide) (by decide) rfl slices_S64x128_o8_0_S8x128 (by decide) (by decide)) <|
    fc (near hd w12 (by decide) (by decide) rfl slices_S64x128_o0_0_S8x128 (by decide) (by decide)) <|
    fc (far hd f11 (by decide) rfl (by decide)) <|
    fc (near hd w11 (by decide) (by decide) rfl slices_S64x128_o56_0_S8x128 (by decide) (by decide)) <|
    fc (near hd w11 (by decide) (by decide) rfl slices_S64x128_o48_0_S8x128 (by decide) (by decide)) <|
    fc (near hd w11 (by decide) (by decide) rfl slices_S64x128_o40_0_S8x128 (by decide) (by decide)) <|
    fc (near hd w11 (by decide) (by decide) rfl slices_S64x128_o32_0_S8x128 (by decide) (by decide)) <|
    fc (near hd w11 (by decide) (by decide) rfl slices_S64x128_o24_0_S8x128 (by decide) (by decide)) <|
    fc (near hd w11 (by decide) (by decide) rfl slices_S64x128_o16_0_S8x128 (by decide) (by decide)) <|
    fc (near hd w11 (by decide) (by decide) rfl slices_S64x128_o8_0_S8x128 (by decide) (by decide)) <|
    fc (near hd w11 (by decide) (by decide) rfl slices_S64x128_o0_0_S8x128 (by decide) (by decide)) <|
    fc (far hd f10 (by decide) rfl (by decide)) <|
    fc (near hd w10 (by decide) (by decide) rfl slices_S64x128_o56_0_S8x128 (by decide) (by decide)) <|
    fc (near hd w10 (by decide) (by decide) rfl slices_S64x128_o48_0_S8x128 (by decide) (by decide)) <|
    fc (near hd w10 (by decide) (by decide) rfl slices_S64x128_o40_0_S8x128 (by decide) (by decide)) <|
    fc (near hd w10 (by decide) (by decide) rfl slices_S64x128_o32_0_S8x128 (by decide) (by decide)) <|
    fc (near hd w10 (by decide) (by decide) rfl slices_S64x128_o24_0_S8x128 (by decide) (by decide)) <|
    fc (near hd w10 (by decide) (by decide) rfl slices_S64x128_o16_0_S8x128 (by decide) (by decide)) <|
    fc (near hd w10 (by decide) (by decide) rfl slices_S64x128_o8_0_S8x128 (by decide) (by decide)) <|
    fc (near hd w10 (by decide) (by decide) rfl slices_S64x128_o0_0_S8x128 (by decide) (by decide)) <|
    fc (far hd f03 (by decide) rfl (by decide)) <|
    fc (near hd w03 (by decide) (by decide) rfl slices_S64x128_o56_0_S8x128 (by decide) (by decide)) <|
    fc (near hd w03 (by decide) (by decide) rfl slices_S64x128_o48_0_S8x128 (by decide) (by decide)) <|
    fc (near hd w03 (by decide) (by decide) rfl slices_S64x128_o40_0_S8x128 (by decide) (by decide)) <|
    fc (near hd w03 (by decide) (by decide) rfl slices_S64x128_o32_0_S8x128 (by decide) (by decide)) <|
    fc (near hd w03 (by decide) (by decide) rfl slices_S64x128_o24_0_S8x128 (by decide) (by decide)) <|
    fc (near hd w03 (by decide) (by decide) rfl slices_S64x128_o16_0_S8x128 (by decide) (by decide)) <|
    fc (near hd w03 (by decide) (by decide) rfl slices_S64x128_o8_0_S8x128 (by decide) (by decide)) <|
    fc (near hd w03 (by decide) (by decide) rfl slices_S64x128_o0_0_S8x128 (by decide) (by decide)) <|
    fc (far hd f02 (by decide) rfl (by decide)) <|
    fc (near hd w02 (by decide) (by decide) rfl slices_S64x128_o56_0_S8x128 (by decide) (by decide)) <|
    fc (near hd w02 (by decide) (by decide) rfl slices_S64x128_o48_0_S8x128 (by decide) (by decide)) <|
    fc (near hd w02 (by decide) (by decide) rfl slices_S64x128_o40_0_S8x128 (by decide) (by decide)) <|
    fc (near hd w02 (by decide) (by decide) rfl slices_S64x128_o32_0_S8x128 (by decide) (by decide)) <|
    fc (near hd w02 (by decide) (by decide) rfl slices_S64x128_o24_0_S8x128 (by decide) (by decide)) <|
    fc (near hd w02 (by decide) (by decide) rfl slices_S64x128_o16_0_S8x128 (by decide) (by decide)) <|
    fc (near hd w02 (by decide) (by decide) rfl slices_S64x128_o8_0_S8x128 (by decide) (by decide)) <|
    fc (near hd w02 (by decide) (by decide) rfl slices_S64x128_o0_0_S8x128 (by decide) (by decide)) <|
    fc (far hd f01 (by decide) rfl (by decide)) <|
    fc (near hd w01 (by decide) (by decide) rfl slices_S64x128_o56_0_S8x128 (by decide) (by decide)) <|
    fc (near hd w01 (by decide) (by decide) rfl slices_S64x128_o48_0_S8x128 (by decide) (by decide)) <|
    fc (near hd w01 (by decide) (by decide) rfl slices_S64x128_o40_0_S8x128 (by decide) (by decide)) <|
    fc (near hd w01 (by decide) (by decide) rfl slices_S64x128_o32_0_S8x128 (by decide) (by decide)) <|
    fc (near hd w01 (by decide) (by decide) rfl slices_S64x128_o24_0_S8x128 (by decide) (by decide)) <|
    fc (near hd w01 (by decide) (by decide) rfl slices_S64x128_o16_0_S8x128 (by decide) (by decide)) <|
    fc (near hd w01 (by decide) (by decide) rfl slices_S64x128_o8_0_S8x128 (by decide) (by decide)) <|
    fc (near hd w01 (by decide) (by decide) rfl slices_S64x128_o0_0_S8x128 (by decide) (by decide)) <|
    fc (far hd f00 (by decide) rfl (by decide)) <|
    fc (near hd w00 (by decide) (by decide) rfl slices_S64x128_o56_0_S8x128 (by decide) (by decide)) <|
    fc (near hd w00 (by decide) (by decide) rfl slices_S64x128_o48_0_S8x128 (by decide) (by decide)) <|
    fc (near hd w00 (by decide) (by decide) rfl slices_S64x128_o40_0_S8x128 (by decide) (by decide)) <|
    fc (near hd w00 (by decide) (by decide) rfl slices_S64x128_o32_0_S8x128 (by decide) (by decide)) <|
    fc (near hd w00 (by decide) (by decide) rfl slices_S64x128_o24_0_S8x128 (by decide) (by decide)) <|
    fc (near hd w00 (by decide) (by decide) rfl slices_S64x128_o16_0_S8x128 (by decide) (by decide)) <|
    fc (near hd w00 (by decide) (by decide) rfl slices_S64x128_o8_0_S8x128 (by decide) (by decide)) <|
    fc (near hd w00 (by decide) (by decide) rfl slices_S64x128_o0_0_S8x128 (by decide) (by decide)) <| fn

end Cert.KernelIdeal.Body
-- ==== Proof.KernelIdeal.Final.lean ====
/- The two arrays the pipeline fills, as functions of the argument arrays. -/
module

public import proofs.«01_k».proof.Proof.KernelIdeal.Arrays
public import proofs.«01_k».proof.Proof.KernelIdeal.Stores

@[expose] public section

noncomputable section

namespace Cert.KernelIdeal.Arrays

open Cert.KernelIdeal Cert.KernelIdeal.Gen Cert.KernelIdeal.Body Cert.KernelIdeal.Store
open Idealize.ShloMosaic Idealize.ShloMosaic.TcCoe Idealize.SL.Sem

local notation "ℝI" => Idealize.ShloMosaic.Ideal

variable {m : (ℓ : Loc nD τ sig) → Buf (Elt ℝI) ℓ}

variable (m) in
/-- The first result. -/
def F0 (c : Dev nD) : Vec ℝI S4x512x2560 .bf16 := fun z =>
  (hd m c (z 0) ⟨(z 2 : ℕ) / 128, by have : (z 2 : ℕ) < 2560 := (z 2).isLt; omega⟩).OUT (z 1 : ℕ) ⟨(z 2 : ℕ) % 128, Nat.mod_lt _ (by omega)⟩
variable (m) in
/-- The second result's array before the host rearranges it. -/
def F1 (c : Dev nD) : Vec ℝI S20x1040x128 .f32 := fun z =>
  G11 (fun b => hd m c b (z 0)) (ix3 0 (z 1) (z 2) : S1x1040x128.Idx)

theorem F0_at (c : Dev nD) (h : Fin 20) (b : Fin 4) (i : Fin 512) (d : Fin 128) (hh) :
    F0 m c (ix3 b i ⟨128 * h.val + d.val, hh⟩ : S4x512x2560.Idx) = (hd m c b h).OUT (i : ℕ) d := by
  have e1 : (⟨(128 * h.val + d.val) / 128, by omega⟩ : Fin 20) = h := Fin.ext (by show (128 * h.val + d.val) / 128 = h.val; omega)
  have e2 : (⟨(128 * h.val + d.val) % 128, Nat.mod_lt _ (by omega)⟩ : Fin 128) = d :=
    Fin.ext (by show (128 * h.val + d.val) % 128 = d.val; omega)
  show (hd m c b ⟨(128 * h.val + d.val) / 128, _⟩).OUT (i : ℕ) ⟨(128 * h.val + d.val) % 128, _⟩ = _
  rw [e1, e2]

theorem emb10 (t : Fin cfg0.N) (y : S4x512x128.Idx) : ((cfg0.win 10).blk t).view.emb y
    = (ix3 (y 0) (y 1) ⟨128 * t.val + (y 2 : ℕ), by have := tlt t; have : (y 2 : ℕ) < 128 := (y 2).isLt; omega⟩ : S4x512x2560.Idx) := by
  obtain ⟨e0, e1, e2⟩ := i10 t
  funext a; apply Fin.ext
  match a with
  | ⟨0, _⟩ => show win0_10.index t (0 : Fin 3) * 4 + 1 * (y 0).val = (y 0).val; omega
  | ⟨1, _⟩ => show win0_10.index t (1 : Fin 3) * 512 + 1 * (y 1).val = (y 1).val; omega
  | ⟨2, _⟩ => show win0_10.index t (2 : Fin 3) * 128 + 1 * (y 2).val = 128 * t.val + (y 2).val; omega
theorem emb11 (t : Fin cfg0.N) (y : S1x1040x128.Idx) : ((cfg0.win 11).blk t).view.emb y
    = (ix3 (hof t) (y 1) (y 2) : S20x1040x128.Idx) := by
  obtain ⟨e0, e1, e2⟩ := i11 t
  funext a; apply Fin.ext
  match a with
  | ⟨0, _⟩ => show win0_11.index t (0 : Fin 3) * 1 + 1 * (y 0).val = t.val; have : (y 0).val < 1 := (y 0).isLt; omega
  | ⟨1, _⟩ => show win0_11.index t (1 : Fin 3) * 1040 + 1 * (y 1).val = (y 1).val; omega
  | ⟨2, _⟩ => show win0_11.index t (2 : Fin 3) * 128 + 1 * (y 2).val = (y 2).val; omega

theorem outs10 {c : Dev nD} (hf : Fin_ m c) (t : Fin cfg0.N) (y : S4x512x128.Idx) :
    (outsAt0 m c t).1 y = G10 (fun b => hd m c b (hof t)) y := by
  have e : (outsAt0 m c t).1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
    unfold outsAt0; dsimp only
  rw [e]
  exact out10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun b => src hf t b) (off t) y

theorem outs11 {c : Dev nD} (hf : Fin_ m c) (t : Fin cfg0.N) (y : S1x1040x128.Idx) :
    (outsAt0 m c t).2 y = G11 (fun b => hd m c b (hof t)) y := by
  have e : (outsAt0 m c t).2 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
    unfold outsAt0; dsimp only
  rw [e]
  exact out11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun b => src hf t b) (off t) y

theorem flushed10 {c : Dev nD} (hf : Fin_ m c) (t : Fin cfg0.N) :
    (dats m 0 c).flushed 10 t = ((cfg0.win 10).blk t).view.read (Elt ℝI) (F0 m c) := by
  show (cfg0.win 10).cut (grid0.coords t) ((dats m 0 c).after 10 t) = _
  rw [after0_10]
  funext y
  show (outsAt0 m c t).1 y = F0 m c (((cfg0.win 10).blk t).view.emb y)
  rw [emb10]
  refine (outs10 hf t y).trans ?_
  exact (F0_at c (hof t) (y 0) (y 1) (y 2) _).symm

theorem flushed11 {c : Dev nD} (hf : Fin_ m c) (t : Fin cfg0.N) :
    (dats m 0 c).flushed 11 t = ((cfg0.win 11).blk t).view.read (Elt ℝI) (F1 m c) := by
  show (cfg0.win 11).cut (grid0.coords t) ((dats m 0 c).after 11 t) = _
  rw [after0_11]
  funext y
  show (outsAt0 m c t).2 y = F1 m c (((cfg0.win 11).blk t).view.emb y)
  rw [emb11]
  exact outs11 hf t y

theorem cover10 (z : S4x512x2560.Idx) : ∃ t : Fin cfg0.N, (cfg0.win 10).flush t = true ∧ z ∈ ((cfg0.win 10).blk t).view.set := by
  have h2 : (z 2 : ℕ) < 2560 := (z 2).isLt
  obtain ⟨t, ht⟩ : ∃ t : Fin cfg0.N, t.val = (z 2 : ℕ) / 128 := ⟨⟨(z 2 : ℕ) / 128, by have : cfg0.N = 20 := N_0; omega⟩, rfl⟩
  refine ⟨t, flush0_10 t, ?_⟩
  have hm : (z 2 : ℕ) % 128 < 128 := Nat.mod_lt _ (by omega)
  have h := ((cfg0.win 10).blk t).view.emb_mem_set (ix3 (z 0) (z 1) ⟨(z 2 : ℕ) % 128, hm⟩ : S4x512x128.Idx)
  have e : ((cfg0.win 10).blk t).view.emb (ix3 (z 0) (z 1) ⟨(z 2 : ℕ) % 128, hm⟩ : S4x512x128.Idx) = z := by
    refine (emb10 t _).trans ?_
    funext a
    match a with
    | ⟨0, _⟩ => rfl
    | ⟨1, _⟩ => rfl
    | ⟨2, _⟩ => exact Fin.ext (by show 128 * t.val + (z 2 : ℕ) % 128 = (z 2 : ℕ); omega)
  rwa [e] at h

theorem cover11 (z : S20x1040x128.Idx) : ∃ t : Fin cfg0.N, (cfg0.win 11).flush t = true ∧ z ∈ ((cfg0.win 11).blk t).view.set := by
  have h2 : (z 0 : ℕ) < 20 := (z 0).isLt
  obtain ⟨t, ht⟩ : ∃ t : Fin cfg0.N, t.val = (z 0 : ℕ) := ⟨⟨(z 0 : ℕ), by have : cfg0.N = 20 := N_0; omega⟩, rfl⟩
  refine ⟨t, flush0_11 t, ?_⟩
  have h := ((cfg0.win 11).blk t).view.emb_mem_set (ix3 0 (z 1) (z 2) : S1x1040x128.Idx)
  have e : ((cfg0.win 11).blk t).view.emb (ix3 0 (z 1) (z 2) : S1x1040x128.Idx) = z := by
    refine (emb11 t _).trans ?_
    funext a
    match a with
    | ⟨0, _⟩ => exact Fin.ext ht
    | ⟨1, _⟩ => rfl
    | ⟨2, _⟩ => rfl
  rwa [e] at h

theorem final10 {c : Dev nD} (hf : Fin_ m c) : (dats m 0 c).arrAt 10 cfg0.N = F0 m c :=
  (dats m 0 c).arrAt_eq_of_cover 10 (F0 m c) (fun t _ => flushed10 hf t) cover10
theorem final11 {c : Dev nD} (hf : Fin_ m c) : (dats m 0 c).arrAt 11 cfg0.N = F1 m c :=
  (dats m 0 c).arrAt_eq_of_cover 11 (F1 m c) (fun t _ => flushed11 hf t) cover11

end Cert.KernelIdeal.Arrays

end
-- ==== Proof.KernelIdeal.Result.lean ====
/- The kernel's run with its two results at named functions of the argument arrays. -/
module

public import proofs.«01_k».proof.Proof.KernelIdeal.Final

@[expose] public section

noncomputable section

namespace Cert.KernelIdeal.Arrays

open Cert.KernelIdeal Cert.KernelIdeal.Gen Cert.KernelIdeal.Body Cert.KernelIdeal.Store
open Idealize.ShloMosaic Idealize.ShloMosaic.TcCoe Idealize.ShloMosaic.Tactic Idealize.SL.Sem

local notation "ℝI" => Idealize.ShloMosaic.Ideal

variable {m : (ℓ : Loc nD τ sig) → Buf (Elt ℝI) ℓ}

/-- How the host rearranges the second result's array. -/
def arr (x : Vec ℝI S20x1040x128 .f32) : Vec ℝI S4x512x20x65 .f32 :=
  shapeCast S4x512x20x65 (transpose S4x4x128x20x65 [3, 2, 4, 0, 1] (shapeCast S20x65x4x4x128 x shapeCasts_S20x1040x128_S20x65x4x4x128)
    transposes_S20x65x4x4x128_S4x4x128x20x65_3_2_4_0_1) shapeCasts_S4x4x128x20x65_S4x512x20x65

theorem arr_apply (x : Vec ℝI S20x1040x128 .f32) (b : Fin 4) (i : Fin 512) (h : Fin 20) (r : Fin 65) :
    arr x (ix4 b i h r) = x (ix3 h ⟨16 * r.val + 4 * (i.val / 128) + b.val, by omega⟩ ⟨i.val % 128, by omega⟩) := by
  unfold arr
  pointwise []
  exact congrArg x (funext fun a => by fin_cases a <;> [rfl; exact Fin.ext (by show (r : ℕ) * 16 + (i : ℕ) / 128 * 4 + b = 16 * r + 4 * (i / 128) + b; omega); rfl])

theorem tail {c : Dev nD} : Pipeline.afterTail₀ cfgs (dats m) 0 (V0 m) [hostOps1] c main_v9 = arr ((dats m 0 c).arrAt 11 cfg0.N) := by
  unfold Pipeline.afterTail₀
  simp only [List.flatten_cons, List.flatten_nil, List.append_nil]
  after_results
  rw [← Pipeline.withArrays_arr spec0 Gen.launch0.win.arr_inj c (V0 m c) (fun w => (dats m 0 c).arrAt w cfg0.N) 11]
  rfl

variable (m) in
/-- The second result. -/
def F2 (c : Dev nD) : Vec ℝI S4x512x20x65 .f32 := fun z => (hd m c (z 0) (z 2)).WOUT (z 1 : ℕ) (z 3 : ℕ)

theorem arr_eq (c : Dev nD) : arr (F1 m c) = F2 m c := by
  funext z
  obtain ⟨b, i, h, r, rfl⟩ : ∃ (b : Fin 4) (i : Fin 512) (h : Fin 20) (r : Fin 65), z = ix4 b i h r :=
    ⟨z 0, z 1, z 2, z 3, by funext a; fin_cases a <;> rfl⟩
  rw [arr_apply]
  refine (G11_eq (fun b => hd m c b h) (b := b) (q := i.val / 128) (r := r.val) (l := ⟨i.val % 128, by omega⟩) (by omega) rfl rfl).trans ?_
  show (hd m c b h).WOUT (128 * (i.val / 128) + i.val % 128) r.val = (hd m c b h).WOUT i.val r.val
  rw [Nat.div_add_mod]

theorem run (ρ : Dev nD → PrngReg) (hf : ∀ c, Fin_ m c) : θ_run defs (onTc (τ := τ) (main (F := ℝI))) ⟨m, fun _ => 0, ρ⟩ (fun r => ∀ c : Dev nD,
      r.2.mem ((c.tc : Thread nD τ).loc main_v6_0) = F0 m c
      ∧ r.2.mem ((c.tc : Thread nD τ).loc main_v9) = F2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.2 c).1 10).trans (final10 (hf c)),
      ((h.2 c).2 main_v9 (Pipeline.mem_restRefs_of main_v9 (by decide) (by decide))).trans
        (tail.trans ((congrArg arr (final11 (hf c))).trans (arr_eq c))), h.1 c⟩)
    (θ_run_and (unchanged m ρ) (run_main m ρ))

end Cert.KernelIdeal.Arrays

end
-- ==== Proof.ReferenceIdeal.Value.lean ====
/- The reference's two results at an index, for one head of one batch. -/
module

public import proofs.«01_k».proof.Proof.Equation
public import proofs.«01_k».proof.Proof.Gen.ReferenceIdeal.Read
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec Finset

local notation "ℝI" => Idealize.ShloMosaic.Ideal

/-- The scores' scale: the float nearest to one over the root of 128. -/
abbrev sc : ℝ := 11863283 / 134217728

theorem cst_eq : (FloatOps.ofBits .f32 0x3DB504F3#32 : ℝI .f32) = ((sc : ℝ) : EReal) := by
  show Ideal.ofBits .f32 0x3DB504F3#32 = _
  simp [Ideal.ofBits, Ideal.ieee]
  rw [← EReal.coe_mul]; congr 1; norm_num [sc]

theorem bot_eq : (FloatOps.ofBits .f32 0xFF800000#32 : ℝI .f32) = (⊥ : EReal) := by
  show Ideal.ofBits .f32 0xFF800000#32 = _
  simp [Ideal.ofBits, Ideal.ieee]

theorem one_eq : (FloatOps.ofBits .f32 0x3F800000#32 : ℝI .f32) = (1 : EReal) := by
  show Ideal.ofBits .f32 0x3F800000#32 = _
  simp [Ideal.ofBits, Ideal.ieee]
  rw [← EReal.coe_mul]; norm_num

theorem zero_eq : (FloatOps.ofBits .f32 0x00000000#32 : ℝI .f32) = (0 : EReal) := by
  show Ideal.ofBits .f32 0x00000000#32 = _
  simp [Ideal.ofBits, Ideal.ieee]

theorem uitofp_one : (FloatOps.uitofp .f32 1#1 : ℝI .f32) = (1 : EReal) := by
  show (((1#1 : BitVec 1).toNat : ℝ) : EReal) = 1
  simp
theorem uitofp_zero : (FloatOps.uitofp .f32 0#1 : ℝI .f32) = (0 : EReal) := by
  show (((0#1 : BitVec 1).toNat : ℝ) : EReal) = 0
  simp

theorem v12 (i k : Fin 512) : val_main_v12 (F := ℝI) (ix2 i k) = BitVec.ofNat 32 k :=
  (val_main_v12_apply _).trans ((val_main_v11_apply _).trans (val_main_v10_apply _))
theorem v13 (i k : Fin 512) : val_main_v13 (F := ℝI) (ix2 i k) = BitVec.ofNat 32 i :=
  (val_main_v13_apply _).trans ((val_main_v9_apply _).trans (val_main_v8_apply _))
theorem v15 (i k : Fin 512) : val_main_v15 (F := ℝI) (ix2 i k) = BitVec.ofNat 32 i :=
  (val_main_v15_apply _).trans ((val_main_v9_apply _).trans (val_main_v8_apply _))
theorem v16 (i k : Fin 512) : val_main_v16 (F := ℝI) (ix2 i k) = BitVec.ofNat 32 k :=
  (val_main_v16_apply _).trans ((val_main_v11_apply _).trans (val_main_v10_apply _))
theorem v18 (i k : Fin 512) : val_main_v18 (F := ℝI) (ix2 i k) = 64#32 :=
  (val_main_v18_apply _).trans (val_main_c_apply _)

theorem v14 (i k : Fin 512) : val_main_v14 (F := ℝI) (ix2 i k) = BitVec.ofBool (decide ((k : ℕ) ≤ i)) := by
  rw [val_main_v14_apply, v12, v13]
  exact Idealize.ShloMosaic.WordCmp.cmpi_sle_ofNat (by have := k.2; omega) (by have := i.2; omega)

theorem min_word : ∀ n : Fin 512, IntOp.minsi (BitVec.ofNat 32 n) 64#32 = BitVec.ofNat 32 (min (n : ℕ) 64) := by decide +kernel

theorem v19 (i k : Fin 512) (h : (k : ℕ) ≤ i) : val_main_v19 (F := ℝI) (ix2 i k) = BitVec.ofNat 32 (min ((i : ℕ) - k) 64) := by
  rw [val_main_v19_apply, val_main_v17_apply, v15, v16, v18]
  show IntOp.minsi (BitVec.ofNat 32 i - BitVec.ofNat 32 k) 64#32 = _
  rw [BitVec.ofNat_sub_ofNat_of_le _ _ (by have := k.2; omega) h]
  exact min_word ⟨(i : ℕ) - k, by omega⟩

theorem v24 (i k : Fin 512) (r : Fin 65) : val_main_v24 (F := ℝI) (ix3 i k r) = val_main_v19 (F := ℝI) (ix2 i k) :=
  (val_main_v24_apply _).trans ((val_main_v21_apply _).trans (congrArg _ (funext fun a => by fin_cases a <;> rfl)))
theorem v25 (i k : Fin 512) (r : Fin 65) : val_main_v25 (F := ℝI) (ix3 i k r) = BitVec.ofNat 32 r :=
  (val_main_v25_apply _).trans ((val_main_v23_apply _).trans (val_main_v22_apply _))
theorem v27 (i k : Fin 512) (r : Fin 65) : val_main_v27 (F := ℝI) (ix3 i k r) = val_main_v14 (F := ℝI) (ix2 i k) :=
  (val_main_v27_apply _).trans ((val_main_v20_apply _).trans (congrArg _ (funext fun a => by fin_cases a <;> rfl)))

theorem and_one (x : BitVec 1) : IntOp.andi 1#1 x = x := by revert x; decide
theorem and_zero (x : BitVec 1) : IntOp.andi 0#1 x = 0#1 := by revert x; decide

theorem eq65 : ∀ a b : Fin 65, IntOp.cmpi .eq (BitVec.ofNat 32 a) (BitVec.ofNat 32 b) = BitVec.ofBool (decide ((a : ℕ) = b)) := by decide +kernel

theorem v29 (i k : Fin 512) (r : Fin 65) : val_main_v29 (F := ℝI) (ix3 i k r) = Hd.hot i k r := by
  rw [val_main_v29_apply, val_main_v28_apply, v27, val_main_v26_apply, v14, v24, v25]
  unfold Hd.hot
  by_cases h : (k : ℕ) ≤ i
  · rw [v19 i k h, decide_eq_true h]
    have := eq65 ⟨min ((i : ℕ) - k) 64, by omega⟩ r
    dsimp only at this
    rw [this]
    show FloatOps.uitofp .f32 (IntOp.andi 1#1 _) = _
    rw [and_one]
    by_cases h2 : min ((i : ℕ) - k) 64 = r
    · rw [if_pos ⟨h, h2⟩, decide_eq_true h2]; exact uitofp_one
    · rw [if_neg (fun e => h2 e.2), decide_eq_false h2]; exact uitofp_zero
  · rw [decide_eq_false h, if_neg (fun e => h e.1)]
    show FloatOps.uitofp .f32 (IntOp.andi 0#1 _) = _
    rw [and_zero]; exact uitofp_zero

/-- The arrays hold head `H`'s data in batch `b`, head `h`. -/
structure RSrc (H : Hd) (b : Fin 4) (h : Fin 20)
    (x1 x3 x5 : (⟨S4x512x20, .f32⟩ : BufTy).Contents (Elt ℝI)) (x7 x9 : (⟨S20x65, .f32⟩ : BufTy).Contents (Elt ℝI))
    (r0 r1 r2 : (⟨S4x512x20x128, .bf16⟩ : BufTy).Contents (Elt ℝI)) (r3 r4 : (⟨S20x65x128, .bf16⟩ : BufTy).Contents (Elt ℝI)) : Prop where
  /-- Queries. -/
  q : ∀ (k : Fin 512) d, r0 (ix4 b k h d) = H.Q k d
  /-- Query scales. -/
  qs : ∀ k : Fin 512, x1 (ix3 b k h) = H.qs k
  /-- Keys. -/
  k : ∀ (k : Fin 512) d, r1 (ix4 b k h d) = H.K k d
  /-- Key scales. -/
  ks : ∀ k : Fin 512, x3 (ix3 b k h) = H.ks k
  /-- Values. -/
  v : ∀ (k : Fin 512) d, r2 (ix4 b k h d) = H.V k d
  /-- Value scales. -/
  vs : ∀ k : Fin 512, x5 (ix3 b k h) = H.vs k
  /-- Key table. -/
  ak : ∀ (r : Fin 65) d, r3 (ix3 h r d) = H.AK r d
  /-- Its scales. -/
  aks : ∀ r : Fin 65, x7 (ix2 h r) = H.aks r
  /-- Value table. -/
  av : ∀ (r : Fin 65) d, r4 (ix3 h r d) = H.AV r d
  /-- Its scales. -/
  avs : ∀ r : Fin 65, x9 (ix2 h r) = H.avs r

variable {H : Hd} {b : Fin 4} {h : Fin 20}
  {x1 x3 x5 : (⟨S4x512x20, .f32⟩ : BufTy).Contents (Elt ℝI)} {x7 x9 : (⟨S20x65, .f32⟩ : BufTy).Contents (Elt ℝI)}
  {r0 r1 r2 : (⟨S4x512x20x128, .bf16⟩ : BufTy).Contents (Elt ℝI)} {r3 r4 : (⟨S20x65x128, .bf16⟩ : BufTy).Contents (Elt ℝI)}
  (hs : RSrc H b h x1 x3 x5 x7 x9 r0 r1 r2 r3 r4)
include hs

theorem v30 (i k : Fin 512) : val_main_v30 (F := ℝI) r0 r1 (ix4 b h i k) = ∑ d, H.Q i d * H.K k d := by
  rw [val_main_v30_apply]
  refine Finset.sum_congr rfl fun d _ => ?_
  rw [← hs.q, ← hs.k]
  exact congrArg₂ _ (congrArg r0 (funext fun a => by fin_cases a <;> rfl)) (congrArg r1 (funext fun a => by fin_cases a <;> rfl))

theorem v34 (i : Fin 512) (r : Fin 65) : val_main_v34 (F := ℝI) x7 (ix4 b h i r) = H.aks r := by
  rw [val_main_v34_apply, val_main_v33_apply, ← hs.aks]
  exact congrArg x7 (funext fun a => by fin_cases a <;> rfl)

theorem v32 (i : Fin 512) (r : Fin 65) : val_main_v32 (F := ℝI) r0 r3 (ix4 b h i r) = ∑ d, H.AK r d * H.Q i d := by
  rw [val_main_v32_apply, val_main_v31_apply]
  refine Finset.sum_congr rfl fun d _ => ?_
  rw [← hs.q, ← hs.ak]
  exact congrArg₂ _ (congrArg r3 (funext fun a => by fin_cases a <;> rfl)) (congrArg r0 (funext fun a => by fin_cases a <;> rfl))

theorem v37 (i k : Fin 512) : val_main_v37 (F := ℝI) x7 r0 r3 (ix4 b h i k) =
    ∑ r : Fin 65, Hd.hot i k r * ((∑ d, H.AK r d * H.Q i d) * H.aks r) := by
  rw [val_main_v37_apply, val_main_v36_apply]
  refine Finset.sum_congr rfl fun r _ => ?_
  rw [← v29 i k r, ← v32 hs, ← v34 hs i]
  refine congrArg₂ _ (congrArg _ (funext fun a => by fin_cases a <;> rfl)) ?_
  rw [val_main_v35_apply]
  show _ * _ = _ * _
  refine congrArg₂ _ (congrArg _ (funext fun a => by fin_cases a <;> rfl)) (congrArg _ (funext fun a => by fin_cases a <;> rfl))

theorem v39 (i k : Fin 512) : val_main_v39 (F := ℝI) x3 (ix4 b h i k) = H.ks k := by
  rw [val_main_v39_apply, val_main_v38_apply, val_main_v6_apply, ← hs.ks]
  exact congrArg x3 (funext fun a => by fin_cases a <;> rfl)

theorem v45 (i k : Fin 512) : val_main_v45 (F := ℝI) x1 (ix4 b h i k) = H.qs i * ((sc : ℝ) : EReal) := by
  rw [val_main_v45_apply, val_main_v44_apply, val_main_v42_apply, val_main_v5_apply, val_main_v43_apply, val_main_cst_apply, cst_eq, ← hs.qs]
  show _ * _ = _ * _
  exact congrArg (· * _) (congrArg x1 (funext fun a => by fin_cases a <;> rfl))

theorem v48 (i k : Fin 512) : val_main_v48 (F := ℝI) x1 x3 x7 r0 r1 r3 (ix4 b h i k) = H.RS ((sc : ℝ) : EReal) i k := by
  rw [val_main_v48_apply, val_main_call0_v1_apply, val_main_v47_apply, val_main_call0_v2_apply, val_main_call0_v0_apply, val_main_cst_0_apply,
    bot_eq, val_main_v46_apply, val_main_v41_apply, val_main_v40_apply, v30 hs, v39 hs, v37 hs, v45 hs,
    show idx_main_v47 (idx_main_call0_v1 (ix4 b h i k)) = ix2 i k from funext fun a => by fin_cases a <;> rfl, v14]
  unfold Hd.RS
  by_cases hki : (k : ℕ) ≤ i
  · rw [if_pos hki, decide_eq_true hki]; rfl
  · rw [if_neg hki, decide_eq_false hki]; rfl

theorem v49 (i : Fin 512) : val_main_v49 (F := ℝI) x1 x3 x7 r0 r1 r3 (ix3 b h i) =
    (univ : Finset (Fin 512)).sup fun k => H.RS ((sc : ℝ) : EReal) i k := by
  unfold val_main_v49 val_main_cst_1
  have e : ∀ X : (⟨S4x20x512x512, .f32⟩ : BufTy).Contents (Elt ℝI), Host.reduce (FloatOps.maximumf (F := ℝI)) X (constant (F := ℝI) S_ .f32 0xFF800000#32) reducesTo_S4x20x512x512_S4x20x512_d3 h_S_ (ix3 b h i)
      = (univ : Finset (Fin 512)).fold max (⊥ : EReal) fun k => X (ix4 b h i k) := by
    intro X
    pointwise []
    exact congrArg (fun z : EReal => (univ : Finset (Fin 512)).fold max z fun k => X (ix4 b h i k)) bot_eq
  rw [e]
  exact Finset.fold_congr fun k _ => v48 hs i k

theorem v53 (i k : Fin 512) : val_main_v53 (F := ℝI) x1 x3 x7 r0 r1 r3 (ix4 b h i k) = H.RE ((sc : ℝ) : EReal) i k := by
  rw [val_main_v53_apply, val_main_v52_apply, v48 hs, val_main_v51_apply, val_main_v50_apply,
    show idx_main_v50 (idx_main_v51 (ix4 b h i k)) = ix3 b h i from funext fun a => by fin_cases a <;> rfl, v49 hs]
  rfl

theorem v59 (i k : Fin 512) : val_main_v59 (F := ℝI) x1 x3 x7 r0 r1 r3 (ix4 b h i k) = H.RP ((sc : ℝ) : EReal) i k := by
  rw [val_main_v59_apply, v53 hs, val_main_v58_apply, val_main_v57_apply, val_main_v56_apply, val_main_cst_3_apply, one_eq,
    val_main_v55_apply, show idx_main_v55 (idx_main_v58 (ix4 b h i k)) = ix3 b h i from funext fun a => by fin_cases a <;> rfl,
    val_main_v54_apply, val_main_cst_2_apply, zero_eq, zero_add]
  have e : ∑ k : Fin 512, val_main_v53 (F := ℝI) x1 x3 x7 r0 r1 r3 (idx_main_v54 (ix3 b h i) k) = ∑ k : Fin 512, H.RE ((sc : ℝ) : EReal) i k :=
    Finset.sum_congr rfl fun k _ => by
      rw [← v53 hs]; exact congrArg _ (funext fun a => by fin_cases a <;> rfl)
  rw [e]
  rfl

theorem v61 (i k : Fin 512) : val_main_v61 (F := ℝI) x5 (ix4 b h i k) = H.vs k := by
  rw [val_main_v61_apply, val_main_v60_apply, val_main_v7_apply, ← hs.vs]
  exact congrArg x5 (funext fun a => by fin_cases a <;> rfl)

theorem v65 (i : Fin 512) (d : Fin 128) : val_main_v65 (F := ℝI) x1 x3 x5 x7 r0 r1 r2 r3 (ix4 b i h d) =
    ∑ k : Fin 512, H.V k d * (H.RP ((sc : ℝ) : EReal) i k * H.vs k) := by
  rw [val_main_v65_apply, val_main_v64_apply]
  refine Finset.sum_congr rfl fun k _ => ?_
  rw [← hs.v]
  refine congrArg₂ _ (congrArg r2 (funext fun a => by fin_cases a <;> rfl)) ?_
  rw [show ridx_main_v64 (idx_main_v65 (ix4 b i h d)) k = ix4 b h i k from funext fun a => by fin_cases a <;> rfl,
    val_main_v63_apply, val_main_v62_apply, v59 hs, v61 hs]
  rfl

/-- The second result. -/
theorem v67 (i : Fin 512) (r : Fin 65) : val_main_v67 (F := ℝI) x1 x3 x7 r0 r1 r3 (ix4 b i h r) = H.RW ((sc : ℝ) : EReal) i r := by
  rw [val_main_v67_apply, val_main_v66_apply]
  refine Finset.sum_congr rfl fun k _ => ?_
  rw [← v29 i k r, ← v59 hs]
  exact congrArg₂ _ (congrArg _ (funext fun a => by fin_cases a <;> rfl)) (congrArg _ (funext fun a => by fin_cases a <;> rfl))

theorem v4 (r : Fin 65) (d : Fin 128) : val_main_v4 (F := ℝI) x9 r4 (ix3 h r d) = H.AV r d * H.avs r := by
  rw [val_main_v4_apply, val_main_v3_apply, val_main_v2_apply, val_main_v1_apply, hs.av, ← hs.avs]
  show _ * _ = _ * _
  exact congrArg (_ * ·) (congrArg x9 (funext fun a => by fin_cases a <;> rfl))

/-- The first result. -/
theorem v73 (i : Fin 512) (d : Fin 128) : val_main_v73 (F := ℝI) x1 x3 x5 x7 x9 r0 r1 r2 r3 r4 (ix3 b i ⟨128 * h + d, by omega⟩) =
    H.ROUT ((sc : ℝ) : EReal) i d := by
  rw [val_main_v73_apply, show idx_main_v73 (ix3 b i ⟨128 * h + d, by omega⟩) = ix4 b i h d from
      funext fun a => Fin.ext (by
        fin_cases a
        · show (((b : ℕ) * 512 + i) * 2560 + (128 * h + d)) / 1310720 = b; omega
        · show (((b : ℕ) * 512 + i) * 2560 + (128 * h + d)) / 2560 % 512 = i; omega
        · show (((b : ℕ) * 512 + i) * 2560 + (128 * h + d)) / 128 % 20 = h; omega
        · show (((b : ℕ) * 512 + i) * 2560 + (128 * h + d)) % 128 = d; omega),
    val_main_v72_apply, val_main_v71_apply, v65 hs, val_main_v70_apply, val_main_v69_apply]
  have e : ∑ r : Fin 65, val_main_v4 (F := ℝI) x9 r4 (lidx_main_v69 (idx_main_v70 (ix4 b i h d)) r) *
      val_main_v68 (F := ℝI) x1 x3 x7 r0 r1 r3 (ridx_main_v69 (idx_main_v70 (ix4 b i h d)) r) = ∑ r : Fin 65, H.AV r d * H.avs r * H.RW ((sc : ℝ) : EReal) i r :=
    Finset.sum_congr rfl fun r _ => by
      rw [show ridx_main_v69 (idx_main_v70 (ix4 b i h d)) r = ix4 b i h r from funext fun a => by fin_cases a <;> rfl,
        show lidx_main_v69 (idx_main_v70 (ix4 b i h d)) r = ix3 h r d from funext fun a => by fin_cases a <;> rfl,
        val_main_v68_apply, v67 hs, v4 hs]
      rfl
  rw [e]
  rfl

end Cert.ReferenceIdeal.Read

end
-- ==== Proof.ReferenceIdeal.Final.lean ====
/- The reference's two results as functions of the argument arrays. -/
module

public import proofs.«01_k».proof.Proof.Gen.ReferenceIdeal.Run
public import proofs.«01_k».proof.Proof.ReferenceIdeal.Value
public import proofs.«01_k».proof.Proof.Data

@[expose] public section

noncomputable section

namespace Cert.ReferenceIdeal.Arrays

open Cert.ReferenceIdeal Cert.ReferenceIdeal.Gen
open Idealize.ShloMosaic Idealize.ShloMosaic.TcCoe Idealize.SL.Sem

local notation "ℝI" => Idealize.ShloMosaic.Ideal

variable (m : (ℓ : Loc nD τ sig) → Buf (Elt ℝI) ℓ)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem emb0 (t : Fin cfg0.N) (j : S4x512x20x128.Idx) : ((cfg0.win 0).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 20 + 1 * (j 2).val = (j 2).val; omega
  | ⟨3, _⟩ => show 0 * 128 + 1 * (j 3).val = (j 3).val; omega
theorem emb5 (t : Fin cfg0.N) (j : S4x512x20x128.Idx) : ((cfg0.win 5).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 20 + 1 * (j 2).val = (j 2).val; omega
  | ⟨3, _⟩ => show 0 * 128 + 1 * (j 3).val = (j 3).val; omega
theorem iblk0 (c : Dev nD) (t : Fin cfg0.N) : iblk m c 0 t = m ((c : Thread nD τ).loc main_arg0) := by
  funext j; show V m c main_arg0 (((cfg0.win 0).blk t).view.emb j) = _; rw [emb0]; rfl
theorem reg0 (c : Dev nD) : Value.reg_main_v0_0 m c = k0_pay1 (m ((c : Thread nD τ).loc main_arg0)) := by
  refine (dats m 0 c).arrAt_eq_of_cover 5 (k0_pay1 (m ((c : Thread nD τ).loc main_arg0))) (fun t _ => ?_) (fun z => ?_)
  · show (cfg0.win 5).cut (grid0.coords t) ((dats m 0 c).after 5 t) = _
    rw [after0_5]
    funext y
    show out0_5 (iblk m c 0 t) (iblk m c 1 t) (iblk m c 2 t) (iblk m c 3 t) (iblk m c 4 t) y
      = k0_pay1 (m ((c : Thread nD τ).loc main_arg0)) (((cfg0.win 5).blk t).view.emb y)
    rw [emb5, iblk0]
    unfold out0_5
    rw [View.canon_unit_zero hz4, View.ld_unit_zero hz4]
  · have h := ((cfg0.win 5).blk (⟨0, by decide⟩ : Fin cfg0.N)).view.emb_mem_set z
    rw [emb5] at h
    exact ⟨_, flush0_5 _, h⟩

theorem emb1 (t : Fin cfg0.N) (j : S4x512x20x128.Idx) : ((cfg0.win 1).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 20 + 1 * (j 2).val = (j 2).val; omega
  | ⟨3, _⟩ => show 0 * 128 + 1 * (j 3).val = (j 3).val; omega
theorem emb6 (t : Fin cfg0.N) (j : S4x512x20x128.Idx) : ((cfg0.win 6).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 20 + 1 * (j 2).val = (j 2).val; omega
  | ⟨3, _⟩ => show 0 * 128 + 1 * (j 3).val = (j 3).val; omega
theorem iblk1 (c : Dev nD) (t : Fin cfg0.N) : iblk m c 1 t = m ((c : Thread nD τ).loc main_arg2) := by
  funext j; show V m c main_arg2 (((cfg0.win 1).blk t).view.emb j) = _; rw [emb1]; rfl
theorem reg1 (c : Dev nD) : Value.reg_main_v0_1 m c = k0_pay2 (m ((c : Thread nD τ).loc main_arg2)) := by
  refine (dats m 0 c).arrAt_eq_of_cover 6 (k0_pay2 (m ((c : Thread nD τ).loc main_arg2))) (fun t _ => ?_) (fun z => ?_)
  · show (cfg0.win 6).cut (grid0.coords t) ((dats m 0 c).after 6 t) = _
    rw [after0_6]
    funext y
    show out0_6 (iblk m c 0 t) (iblk m c 1 t) (iblk m c 2 t) (iblk m c 3 t) (iblk m c 4 t) y
      = k0_pay2 (m ((c : Thread nD τ).loc main_arg2)) (((cfg0.win 6).blk t).view.emb y)
    rw [emb6, iblk1]
    unfold out0_6
    rw [View.canon_unit_zero hz4, View.ld_unit_zero hz4]
  · have h := ((cfg0.win 6).blk (⟨0, by decide⟩ : Fin cfg0.N)).view.emb_mem_set z
    rw [emb6] at h
    exact ⟨_, flush0_6 _, h⟩

theorem emb2 (t : Fin cfg0.N) (j : S4x512x20x128.Idx) : ((cfg0.win 2).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 20 + 1 * (j 2).val = (j 2).val; omega
  | ⟨3, _⟩ => show 0 * 128 + 1 * (j 3).val = (j 3).val; omega
theorem emb7 (t : Fin cfg0.N) (j : S4x512x20x128.Idx) : ((cfg0.win 7).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 20 + 1 * (j 2).val = (j 2).val; omega
  | ⟨3, _⟩ => show 0 * 128 + 1 * (j 3).val = (j 3).val; omega
theorem iblk2 (c : Dev nD) (t : Fin cfg0.N) : iblk m c 2 t = m ((c : Thread nD τ).loc main_arg4) := by
  funext j; show V m c main_arg4 (((cfg0.win 2).blk t).view.emb j) = _; rw [emb2]; rfl
theorem reg2 (c : Dev nD) : Value.reg_main_v0_2 m c = k0_pay3 (m ((c : Thread nD τ).loc main_arg4)) := by
  refine (dats m 0 c).arrAt_eq_of_cover 7 (k0_pay3 (m ((c : Thread nD τ).loc main_arg4))) (fun t _ => ?_) (fun z => ?_)
  · show (cfg0.win 7).cut (grid0.coords t) ((dats m 0 c).after 7 t) = _
    rw [after0_7]
    funext y
    show out0_7 (iblk m c 0 t) (iblk m c 1 t) (iblk m c 2 t) (iblk m c 3 t) (iblk m c 4 t) y
      = k0_pay3 (m ((c : Thread nD τ).loc main_arg4)) (((cfg0.win 7).blk t).view.emb y)
    rw [emb7, iblk2]
    unfold out0_7
    rw [View.canon_unit_zero hz4, View.ld_unit_zero hz4]
  · have h := ((cfg0.win 7).blk (⟨0, by decide⟩ : Fin cfg0.N)).view.emb_mem_set z
    rw [emb7] at h
    exact ⟨_, flush0_7 _, h⟩

theorem emb3 (t : Fin cfg0.N) (j : S20x65x128.Idx) : ((cfg0.win 3).blk t).view.emb j = j := by
  funext a; apply Fin.ext
  match a with
  | ⟨0, _⟩ => show 0 * 20 + 1 * (j 0).val = (j 0).val; omega
  | ⟨1, _⟩ => show 0 * 65 + 1 * (j 1).val = (j 1).val; omega
  | ⟨2, _⟩ => show 0 * 128 + 1 * (j 2).val = (j 2).val; omega
theorem emb8 (t : Fin cfg0.N) (j : S20x65x128.Idx) : ((cfg0.win 8).blk t).view.emb j = j := by
  funext a; apply Fin.ext
  match a with
  | ⟨0, _⟩ => show 0 * 20 + 1 * (j 0).val = (j 0).val; omega
  | ⟨1, _⟩ => show 0 * 65 + 1 * (j 1).val = (j 1).val; omega
  | ⟨2, _⟩ => show 0 * 128 + 1 * (j 2).val = (j 2).val; omega
theorem iblk3 (c : Dev nD) (t : Fin cfg0.N) : iblk m c 3 t = m ((c : Thread nD τ).loc main_arg6) := by
  funext j; show V m c main_arg6 (((cfg0.win 3).blk t).view.emb j) = _; rw [emb3]; rfl
theorem reg3 (c : Dev nD) : Value.reg_main_v0_3 m c = k0_pay4 (m ((c : Thread nD τ).loc main_arg6)) := by
  refine (dats m 0 c).arrAt_eq_of_cover 8 (k0_pay4 (m ((c : Thread nD τ).loc main_arg6))) (fun t _ => ?_) (fun z => ?_)
  · show (cfg0.win 8).cut (grid0.coords t) ((dats m 0 c).after 8 t) = _
    rw [after0_8]
    funext y
    show out0_8 (iblk m c 0 t) (iblk m c 1 t) (iblk m c 2 t) (iblk m c 3 t) (iblk m c 4 t) y
      = k0_pay4 (m ((c : Thread nD τ).loc main_arg6)) (((cfg0.win 8).blk t).view.emb y)
    rw [emb8, iblk3]
    unfold out0_8
    rw [View.canon_unit_zero hz3, View.ld_unit_zero hz3]
  · have h := ((cfg0.win 8).blk (⟨0, by decide⟩ : Fin cfg0.N)).view.emb_mem_set z
    rw [emb8] at h
    exact ⟨_, flush0_8 _, h⟩

theorem emb4 (t : Fin cfg0.N) (j : S20x65x128.Idx) : ((cfg0.win 4).blk t).view.emb j = j := by
  funext a; apply Fin.ext
  match a with
  | ⟨0, _⟩ => show 0 * 20 + 1 * (j 0).val = (j 0).val; omega
  | ⟨1, _⟩ => show 0 * 65 + 1 * (j 1).val = (j 1).val; omega
  | ⟨2, _⟩ => show 0 * 128 + 1 * (j 2).val = (j 2).val; omega
theorem emb9 (t : Fin cfg0.N) (j : S20x65x128.Idx) : ((cfg0.win 9).blk t).view.emb j = j := by
  funext a; apply Fin.ext
  match a with
  | ⟨0, _⟩ => show 0 * 20 + 1 * (j 0).val = (j 0).val; omega
  | ⟨1, _⟩ => show 0 * 65 + 1 * (j 1).val = (j 1).val; omega
  | ⟨2, _⟩ => show 0 * 128 + 1 * (j 2).val = (j 2).val; omega
theorem iblk4 (c : Dev nD) (t : Fin cfg0.N) : iblk m c 4 t = m ((c : Thread nD τ).loc main_arg8) := by
  funext j; show V m c main_arg8 (((cfg0.win 4).blk t).view.emb j) = _; rw [emb4]; rfl
theorem reg4 (c : Dev nD) : Value.reg_main_v0_4 m c = k0_pay5 (m ((c : Thread nD τ).loc main_arg8)) := by
  refine (dats m 0 c).arrAt_eq_of_cover 9 (k0_pay5 (m ((c : Thread nD τ).loc main_arg8))) (fun t _ => ?_) (fun z => ?_)
  · show (cfg0.win 9).cut (grid0.coords t) ((dats m 0 c).after 9 t) = _
    rw [after0_9]
    funext y
    show out0_9 (iblk m c 0 t) (iblk m c 1 t) (iblk m c 2 t) (iblk m c 3 t) (iblk m c 4 t) y
      = k0_pay5 (m ((c : Thread nD τ).loc main_arg8)) (((cfg0.win 9).blk t).view.emb y)
    rw [emb9, iblk4]
    unfold out0_9
    rw [View.canon_unit_zero hz3, View.ld_unit_zero hz3]
  · have h := ((cfg0.win 9).blk (⟨0, by decide⟩ : Fin cfg0.N)).view.emb_mem_set z
    rw [emb9] at h
    exact ⟨_, flush0_9 _, h⟩

end Cert.ReferenceIdeal.Arrays

end
-- ==== Proof.ReferenceIdeal.Result.lean ====
/- The reference's run with its two results at named functions of the argument arrays. -/
module

public import proofs.«01_k».proof.Proof.ReferenceIdeal.Final
public import proofs.«01_k».proof.Proof.Equation

@[expose] public section

noncomputable section

namespace Cert.ReferenceIdeal.Arrays

open Cert.ReferenceIdeal Cert.ReferenceIdeal.Gen Cert.ReferenceIdeal.Read Cert.Spec
open Idealize.ShloMosaic Idealize.ShloMosaic.TcCoe Idealize.SL.Sem

local notation "ℝI" => Idealize.ShloMosaic.Ideal

variable (m : (ℓ : Loc nD τ sig) → Buf (Elt ℝI) ℓ)

/-- The argument arrays of device `c` as head data. -/
def hd (c : Dev nD) : Fin 4 → Fin 20 → Hd :=
  Cert.Data.hd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem rsrc (c : Dev nD) (b : Fin 4) (h : Fin 20) :
    RSrc (hd m c b h) b h (m ((c : Thread nD τ).loc main_arg1)) (m ((c : Thread nD τ).loc main_arg3)) (m ((c : Thread nD τ).loc main_arg5))
      (m ((c : Thread nD τ).loc main_arg7)) (m ((c : Thread nD τ).loc main_arg9))
      (k0_pay1 (m ((c : Thread nD τ).loc main_arg0))) (k0_pay2 (m ((c : Thread nD τ).loc main_arg2)))
      (k0_pay3 (m ((c : Thread nD τ).loc main_arg4))) (k0_pay4 (m ((c : Thread nD τ).loc main_arg6)))
      (k0_pay5 (m ((c : Thread nD τ).loc main_arg8))) where
  q k d := (Cert.Data.hd_Q k.isLt d).symm
  qs k := (Cert.Data.hd_qs k.isLt).symm
  k k d := (Cert.Data.hd_K k.isLt d).symm
  ks k := (Cert.Data.hd_ks k.isLt).symm
  v k d := (Cert.Data.hd_V k.isLt d).symm
  vs k := (Cert.Data.hd_vs k.isLt).symm
  ak r d := (Cert.Data.hd_AK r.isLt d).symm
  aks r := (Cert.Data.hd_aks r.isLt).symm
  av r d := (Cert.Data.hd_AV r.isLt d).symm
  avs r := (Cert.Data.hd_avs r.isLt).symm

/-- The first result. -/
def F0 (c : Dev nD) : Vec ℝI S4x512x2560 .bf16 := fun z =>
  (hd m c (z 0) ⟨(z 2 : ℕ) / 128, by have : (z 2 : ℕ) < 2560 := (z 2).isLt; omega⟩).OUT (z 1 : ℕ) ⟨(z 2 : ℕ) % 128, Nat.mod_lt _ (by omega)⟩
/-- The second result. -/
def F2 (c : Dev nD) : Vec ℝI S4x512x20x65 .f32 := fun z => (hd m c (z 0) (z 2)).WOUT (z 1 : ℕ) (z 3 : ℕ)

/-- The query scales are positive reals. -/
abbrev Pos (c : Dev nD) : Prop :=
  ∀ b k h, ∃ q : ℝ, (m ((c : Thread nD τ).loc main_arg1) : FVec ℝI S4x512x20 .f32) (ix3 b k h) = (q : EReal) ∧ 0 < q

variable {m}

theorem r67 {c : Dev nD} (hp : Pos m c) :
    val_main_v67 (F := ℝI) (m ((c : Thread nD τ).loc main_arg1)) (m ((c : Thread nD τ).loc main_arg3)) (m ((c : Thread nD τ).loc main_arg7))
      (k0_pay1 (m ((c : Thread nD τ).loc main_arg0))) (k0_pay2 (m ((c : Thread nD τ).loc main_arg2))) (k0_pay4 (m ((c : Thread nD τ).loc main_arg6)))
      = F2 m c := by
  funext z
  obtain ⟨b, i, h, r, rfl⟩ : ∃ (b : Fin 4) (i : Fin 512) (h : Fin 20) (r : Fin 65), z = ix4 b i h r :=
    ⟨z 0, z 1, z 2, z 3, by funext a; fin_cases a <;> rfl⟩
  obtain ⟨q, e, q0⟩ := hp b i h
  refine (v67 (rsrc m c b h) i r).trans ?_
  exact Hd.RW_eq ((Cert.Data.hd_qs i.isLt).trans e) q0 (by norm_num) rfl i.isLt r.isLt

theorem r73 {c : Dev nD} (hp : Pos m c) :
    val_main_v73 (F := ℝI) (m ((c : Thread nD τ).loc main_arg1)) (m ((c : Thread nD τ).loc main_arg3)) (m ((c : Thread nD τ).loc main_arg5))
      (m ((c : Thread nD τ).loc main_arg7)) (m ((c : Thread nD τ).loc main_arg9))
      (k0_pay1 (m ((c : Thread nD τ).loc main_arg0))) (k0_pay2 (m ((c : Thread nD τ).loc main_arg2)))
      (k0_pay3 (m ((c : Thread nD τ).loc main_arg4))) (k0_pay4 (m ((c : Thread nD τ).loc main_arg6)))
      (k0_pay5 (m ((c : Thread nD τ).loc main_arg8))) = F0 m c := by
  funext z
  obtain ⟨b, i, h, d, rfl⟩ : ∃ (b : Fin 4) (i : Fin 512) (h : Fin 20) (d : Fin 128), z = ix3 b i ⟨128 * h.val + d.val, by omega⟩ :=
    ⟨z 0, z 1, ⟨(z 2 : ℕ) / 128, by have : (z 2 : ℕ) < 2560 := (z 2).isLt; omega⟩, ⟨(z 2 : ℕ) % 128, by omega⟩, by
      funext a
      match a with
      | ⟨0, _⟩ => rfl
      | ⟨1, _⟩ => rfl
      | ⟨2, _⟩ => exact Fin.ext (Nat.div_add_mod _ _).symm⟩
  obtain ⟨q, e, q0⟩ := hp b i h
  refine (v73 (rsrc m c b h) i d).trans ?_
  refine (Hd.ROUT_eq ((Cert.Data.hd_qs i.isLt).trans e) q0 (by norm_num) rfl i.isLt d).trans ?_
  have e1 : (⟨(128 * h.val + d.val) / 128, by omega⟩ : Fin 20) = h := Fin.ext (by show (128 * h.val + d.val) / 128 = h.val; omega)
  have e2 : (⟨(128 * h.val + d.val) % 128, Nat.mod_lt _ (by omega)⟩ : Fin 128) = d :=
    Fin.ext (by show (128 * h.val + d.val) % 128 = d.val; omega)
  show _ = (hd m c b ⟨(128 * h.val + d.val) / 128, _⟩).OUT (i : ℕ) ⟨(128 * h.val + d.val) % 128, _⟩
  rw [e1, e2]
  rfl

theorem run (ρ : Dev nD → PrngReg) (hp : ∀ c, Pos m c) : θ_run defs (onTc (τ := τ) (main (F := ℝI))) ⟨m, fun _ => 0, ρ⟩ (fun r => ∀ c : Dev nD,
      r.2.mem ((c.tc : Thread nD τ).loc main_v73) = F0 m c
      ∧ r.2.mem ((c.tc : Thread nD τ).loc main_v67) = F2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨(h c).1.trans ?_, (h c).2.1.trans ?_, (h c).2.2⟩) (Value.run m ρ)
  · refine (val_main_v73_eq (Value.exitV m c)).trans ?_
    rw [Value.exit_main_arg1, Value.exit_main_arg3, Value.exit_main_arg5, Value.exit_main_arg7, Value.exit_main_arg9,
      Value.exit_main_v0_0, Value.exit_main_v0_1, Value.exit_main_v0_2, Value.exit_main_v0_3, Value.exit_main_v0_4,
      reg0, reg1, reg2, reg3, reg4]
    exact r73 (hp c)
  · refine (val_main_v67_eq (Value.exitV m c)).trans ?_
    rw [Value.exit_main_arg1, Value.exit_main_arg3, Value.exit_main_arg7,
      Value.exit_main_v0_0, Value.exit_main_v0_1, Value.exit_main_v0_3, reg0, reg1, reg3]
    exact r67 (hp c)

end Cert.ReferenceIdeal.Arrays

end
-- ==== Proof.Precond.lean ====
/- The precondition read at an index: the scales it speaks of are finite, those of the queries positive. -/
module

public import proofs.«01_k».proof.Pre_finite_scales
public import Idealize.ShloMosaic.Lib.ReduceAll
public import proofs.«01_k».proof.Proof.Data

@[expose] public section

noncomputable section

namespace Cert.Precond

open Cert.Pre_finite_scales
open Idealize.ShloMosaic

local notation "ℝI" => Idealize.ShloMosaic.Ideal

instance : Subsingleton S_.Idx := ⟨fun a b => funext fun i => i.elim0⟩

theorem inf_eq : Ideal.ofBits .f32 0x7F800000#32 = (⊤ : EReal) := by
  simp [Ideal.ofBits, Ideal.ieee]

theorem of_bool {p : Prop} [Decidable p] (h : BitVec.ofBool (decide p) = 1#1) : p := by
  by_contra hp; simp [hp] at h

theorem of_pos {x : EReal} (h0 : 0 < x) (h1 : x < ⊤) : ∃ q : ℝ, x = (q : EReal) ∧ 0 < q := by
  induction x with
  | bot => exact absurd h0 (by simp)
  | top => exact absurd h1 (by simp)
  | coe r => exact ⟨r, rfl, EReal.coe_pos.1 h0⟩

theorem of_abs {x : EReal} (h1 : max x (-x) < ⊤) : ∃ q : ℝ, x = (q : EReal) := by
  induction x with
  | bot => exact absurd h1 (by simp)
  | top => exact absurd h1 (by simp)
  | coe r => exact ⟨r, rfl⟩

variable [Facts] {a0 : FVec ℝI S4x512x20x128 .fp8e4m3} {a1 : FVec ℝI S4x512x20 .f32} {a2 : FVec ℝI S4x512x20x128 .fp8e4m3}
  {a3 : FVec ℝI S4x512x20 .f32} {a4 : FVec ℝI S4x512x20x128 .fp8e4m3} {a5 : FVec ℝI S4x512x20 .f32} {a6 : IVec S20x65x128 8}
  {a7 : FVec ℝI S20x65 .f32} {a8 : IVec S20x65x128 8} {a9 : FVec ℝI S20x65 .f32}

theorem read (H : fn (F := ℝI) a0 a1 a2 a3 a4 a5 a6 a7 a8 a9 = fun _ => 1#1) :
    (∀ i, ∃ q : ℝ, a1 i = (q : EReal) ∧ 0 < q) ∧ (∀ i, ∃ q : ℝ, a3 i = (q : EReal)) ∧ (∀ i, ∃ q : ℝ, a7 i = (q : EReal)) := by
  have H0 := congrFun H ix0
  unfold fn at H0
  obtain ⟨H1, H7⟩ := IntOp.andi_eq_one.1 H0
  obtain ⟨H1, H3⟩ := IntOp.andi_eq_one.1 H1
  refine ⟨fun i => ?_, fun i => ?_, fun i => ?_⟩
  · have e := Host.reduce_andi_all _ _ _ _ _ H1 i
    obtain ⟨e0, e1⟩ := IntOp.andi_eq_one.1 e
    change Ideal.cmp .ogt (a1 i) (Ideal.ofBits .f32 0x00000000#32) = 1#1 at e0
    change Ideal.cmp .olt (a1 i) (Ideal.ofBits .f32 0x7F800000#32) = 1#1 at e1
    rw [Ideal.ofBits_zero_f32, Ideal.cmp_ogt] at e0
    rw [inf_eq, Ideal.cmp_olt] at e1
    exact of_pos (of_bool e0) (of_bool e1)
  · have e := Host.reduce_andi_all _ _ _ _ _ H3 i
    change Ideal.cmp .olt (max (a3 i) (-(a3 i))) (Ideal.ofBits .f32 0x7F800000#32) = 1#1 at e
    rw [inf_eq, Ideal.cmp_olt] at e
    exact of_abs (of_bool e)
  · have e := Host.reduce_andi_all _ _ _ _ _ H7 i
    change Ideal.cmp .olt (max (a7 i) (-(a7 i))) (Ideal.ofBits .f32 0x7F800000#32) = 1#1 at e
    rw [inf_eq, Ideal.cmp_olt] at e
    exact of_abs (of_bool e)

end Cert.Precond

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Gen.Pre_finite_scales
public import proofs.«01_k».proof.Proof.Gen.ReferenceIdeal.Run
public import proofs.«01_k».proof.Proof.Gen.ReferenceIdeal.Read
public import proofs.«01_k».proof.Proof.KernelIdeal.Result
public import proofs.«01_k».proof.Proof.ReferenceIdeal.Result
public import proofs.«01_k».proof.Proof.Precond
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite_scales.Gen.facts

theorem algebraic : Cert.algebraic_KernelIdeal_ReferenceIdeal_pre_finite_scales := by
  intro m g m' g' hpre hag
  have hf : ∀ c, Cert.KernelIdeal.Arrays.Fin_ m c := fun c =>
    have h := Cert.Precond.read (hpre c)
    ⟨fun _ _ _ => h.1 _, fun _ _ _ => h.2.1 _, fun _ _ => h.2.2 _⟩
  have hhd : ∀ c, Cert.ReferenceIdeal.Arrays.hd m' c = Cert.KernelIdeal.Arrays.hd m c := fun c => by
    obtain ⟨h0, h1, h2, h3, h4, h5, h6, h7, h8, h9⟩ := hag c
    unfold Cert.ReferenceIdeal.Arrays.hd Cert.KernelIdeal.Arrays.hd
    rw [h0, h1, h2, h3, h4, h5, h6, h7, h8, h9]
  have hp : ∀ c, Cert.ReferenceIdeal.Arrays.Pos m' c := fun c b k h => by
    obtain ⟨q, e, q0⟩ := (hf c).q b k h
    exact ⟨q, (congrFun (hag c).2.1 _).trans e, q0⟩
  refine ⟨fun c => Cert.KernelIdeal.Arrays.F0 m c, fun c => Cert.KernelIdeal.Arrays.F2 m c, Cert.KernelIdeal.Arrays.run g hf, ?_⟩
  refine (θ_run Cert.ReferenceIdeal.defs _ _).mono (fun r h c => ⟨(h c).1.trans ?_, (h c).2.1.trans ?_, (h c).2.2⟩)
    (Cert.ReferenceIdeal.Arrays.run g' hp)
  · unfold Cert.ReferenceIdeal.Arrays.F0 Cert.KernelIdeal.Arrays.F0
    rw [hhd c]
  · unfold Cert.ReferenceIdeal.Arrays.F2 Cert.KernelIdeal.Arrays.F2
    rw [hhd c]

theorem claim : Cert.Claim :=
  ⟨Cert.Kernel.Gen.facts, Cert.KernelIdeal.Gen.facts, Cert.ReferenceIdeal.Gen.facts, Cert.Pre_finite_scales.Gen.facts,
    fun m ρ _ => Cert.Kernel.Body.frame m ρ,
    fun m ρ _ => Cert.KernelIdeal.Body.frame m ρ,
    fun m ρ _ => Cert.KernelIdeal.Body.frame m ρ,
    fun m ρ _ => Cert.ReferenceIdeal.Gen.frame m ρ,
    fun m ρ _ => Cert.ReferenceIdeal.Gen.frame m ρ,
    IdealRules.named_const.statement Cert.KernelIdeal.κ "score_scale_log2e" .f32 0x3E0293EE#32
      (((11863283 / 134217728) * (Real.log 2)⁻¹ : ℝ) : EReal) rfl,
    algebraic⟩

end Cert.Proof

end
